-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  IdealRules.named_const.Statement Cert.KernelIdeal.κ "scale_log2e" .f32 0x3E38AA3B#32 (((Real.log 2)⁻¹ * (1 / 8) : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v32_0)) (v1 : (c : Dev Cert.Kernel3Ideal.nD) → Buf (Elt Ideal) ((c.tc : Thread Cert.Kernel3Ideal.nD Cert.Kernel3Ideal.τ).loc Cert.Kernel3Ideal.main_v32_1)) (v2 : (c : Dev Cert.Kernel3Ideal.nD) → Buf (Elt Ideal) ((c.tc : Thread Cert.Kernel3Ideal.nD Cert.Kernel3Ideal.τ).loc Cert.Kernel3Ideal.main_v32_2)) (v3 : (c : Dev Cert.Kernel3Ideal.nD) → Buf (Elt Ideal) ((c.tc : Thread Cert.Kernel3Ideal.nD Cert.Kernel3Ideal.τ).loc Cert.Kernel3Ideal.main_v32_3)) (v4 : (c : Dev Cert.Kernel3Ideal.nD) → Buf (Elt Ideal) ((c.tc : Thread Cert.Kernel3Ideal.nD Cert.Kernel3Ideal.τ).loc Cert.Kernel3Ideal.main_v32_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32_0) = v0 c
          ∧ r.2.mem ((c.tc : Thread Cert.Kernel3Ideal.nD Cert.Kernel3Ideal.τ).loc Cert.Kernel3Ideal.main_v32_1) = v1 c
          ∧ r.2.mem ((c.tc : Thread Cert.Kernel3Ideal.nD Cert.Kernel3Ideal.τ).loc Cert.Kernel3Ideal.main_v32_2) = v2 c
          ∧ r.2.mem ((c.tc : Thread Cert.Kernel3Ideal.nD Cert.Kernel3Ideal.τ).loc Cert.Kernel3Ideal.main_v32_3) = v3 c
          ∧ r.2.mem ((c.tc : Thread Cert.Kernel3Ideal.nD Cert.Kernel3Ideal.τ).loc Cert.Kernel3Ideal.main_v32_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_v70) = v2 c
          ∧ r.2.mem ((c.tc : Thread Cert.Reference3Ideal.nD Cert.Reference3Ideal.τ).loc Cert.Reference3Ideal.main_v77) = v3 c
          ∧ r.2.mem ((c.tc : Thread Cert.Reference3Ideal.nD Cert.Reference3Ideal.τ).loc Cert.Reference3Ideal.main_v80) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v59_0)) (v1 : (c : Dev Cert.Kernel4Ideal.nD) → Buf (Elt Ideal) ((c.tc : Thread Cert.Kernel4Ideal.nD Cert.Kernel4Ideal.τ).loc Cert.Kernel4Ideal.main_v59_1)) (v2 : (c : Dev Cert.Kernel4Ideal.nD) → Buf (Elt Ideal) ((c.tc : Thread Cert.Kernel4Ideal.nD Cert.Kernel4Ideal.τ).loc Cert.Kernel4Ideal.main_v59_2)) (v3 : (c : Dev Cert.Kernel4Ideal.nD) → Buf (Elt Ideal) ((c.tc : Thread Cert.Kernel4Ideal.nD Cert.Kernel4Ideal.τ).loc Cert.Kernel4Ideal.main_v59_3)) (v4 : (c : Dev Cert.Kernel4Ideal.nD) → Buf (Elt Ideal) ((c.tc : Thread Cert.Kernel4Ideal.nD Cert.Kernel4Ideal.τ).loc Cert.Kernel4Ideal.main_v59_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v59_0) = v0 c
          ∧ r.2.mem ((c.tc : Thread Cert.Kernel4Ideal.nD Cert.Kernel4Ideal.τ).loc Cert.Kernel4Ideal.main_v59_1) = v1 c
          ∧ r.2.mem ((c.tc : Thread Cert.Kernel4Ideal.nD Cert.Kernel4Ideal.τ).loc Cert.Kernel4Ideal.main_v59_2) = v2 c
          ∧ r.2.mem ((c.tc : Thread Cert.Kernel4Ideal.nD Cert.Kernel4Ideal.τ).loc Cert.Kernel4Ideal.main_v59_3) = v3 c
          ∧ r.2.mem ((c.tc : Thread Cert.Kernel4Ideal.nD Cert.Kernel4Ideal.τ).loc Cert.Kernel4Ideal.main_v59_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v172) = v0 c
          ∧ r.2.mem ((c.tc : Thread Cert.Reference4Ideal.nD Cert.Reference4Ideal.τ).loc Cert.Reference4Ideal.main_v175) = v1 c
          ∧ r.2.mem ((c.tc : Thread Cert.Reference4Ideal.nD Cert.Reference4Ideal.τ).loc Cert.Reference4Ideal.main_v171) = v2 c
          ∧ r.2.mem ((c.tc : Thread Cert.Reference4Ideal.nD Cert.Reference4Ideal.τ).loc Cert.Reference4Ideal.main_v178) = v3 c
          ∧ r.2.mem ((c.tc : Thread Cert.Reference4Ideal.nD Cert.Reference4Ideal.τ).loc Cert.Reference4Ideal.main_v181) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S8x4096x4x4x64 : Shape := ⟨5, ![8, 4096, 4, 4, 64]⟩
abbrev S8x4096x4x64 : Shape := ⟨4, ![8, 4096, 4, 64]⟩
abbrev S8x256x4x4x64 : Shape := ⟨5, ![8, 256, 4, 4, 64]⟩
abbrev S8x256x4x64 : Shape := ⟨4, ![8, 256, 4, 64]⟩
abbrev S_ : Shape := ⟨0, ![]⟩
abbrev S8x256x4x1x64 : Shape := ⟨5, ![8, 256, 4, 1, 64]⟩
abbrev S8x4096x4x1x64 : Shape := ⟨5, ![8, 4096, 4, 1, 64]⟩
abbrev S8x4352x4x4x64 : Shape := ⟨5, ![8, 4352, 4, 4, 64]⟩

class Facts : Prop where
  bcast_S_S8x256x4x4x64 : S_.BroadcastsInDim S8x256x4x4x64 (![] : Fin 0 → Fin S8x256x4x4x64.rank)
  bcast_S_S8x256x4x64 : S_.BroadcastsInDim S8x256x4x64 (![] : Fin 0 → Fin S8x256x4x64.rank)
  bcast_S8x256x4x64_S8x256x4x1x64_0_1_2_4 : S8x256x4x64.BroadcastsInDim S8x256x4x1x64 (![0, 1, 2, 4] : Fin 4 → Fin S8x256x4x1x64.rank)
  bcast_S8x256x4x1x64_S8x256x4x4x64_0_1_2_3_4 : S8x256x4x1x64.BroadcastsInDim S8x256x4x4x64 (![0, 1, 2, 3, 4] : Fin 5 → Fin S8x256x4x4x64.rank)
  bcast_S_S8x4096x4x4x64 : S_.BroadcastsInDim S8x4096x4x4x64 (![] : Fin 0 → Fin S8x4096x4x4x64.rank)
  bcast_S_S8x4096x4x64 : S_.BroadcastsInDim S8x4096x4x64 (![] : Fin 0 → Fin S8x4096x4x64.rank)
  bcast_S8x4096x4x64_S8x4096x4x1x64_0_1_2_4 : S8x4096x4x64.BroadcastsInDim S8x4096x4x1x64 (![0, 1, 2, 4] : Fin 4 → Fin S8x4096x4x1x64.rank)
  bcast_S8x4096x4x1x64_S8x4096x4x4x64_0_1_2_3_4 : S8x4096x4x1x64.BroadcastsInDim S8x4096x4x4x64 (![0, 1, 2, 3, 4] : Fin 5 → Fin S8x4096x4x4x64.rank)
  concatenates_S8x256x4x4x64_S8x4096x4x4x64_S8x4352x4x4x64_d1 : Shape.Concatenates [S8x256x4x4x64, S8x4096x4x4x64] S8x4352x4x4x64 1

variable [Facts]

def fn {F : FTy → Type} [FloatOps F] (main_arg0 : FVec F S8x4096x4x4x64 .f32) (main_arg1 : FVec F S8x4096x4x64 .f32) (main_arg2 : FVec F S8x4096x4x64 .f32) (main_arg3 : FVec F S8x256x4x4x64 .f32) (main_arg4 : FVec F S8x256x4x64 .f32) (main_arg5 : FVec F S8x256x4x64 .f32) : IVec S8x4352x4x4x64 1 :=
  let main_v0 : FVec F S8x256x4x4x64 .f32 := Host.absf main_arg3
  let main_cst : FVec F S_ .f32 := constant S_ .f32 0x7F800000#32
  let main_v1 : FVec F S8x256x4x4x64 .f32 := broadcastInDim S8x256x4x4x64 ![] bcast_S_S8x256x4x4x64 main_cst
  let main_v2 : IVec S8x256x4x4x64 1 := cmpf .olt main_v0 main_v1
  let main_v3 : FVec F S8x256x4x64 .f32 := Host.absf main_arg4
  let main_cst_0 : FVec F S_ .f32 := constant S_ .f32 0x7F800000#32
  let main_v4 : FVec F S8x256x4x64 .f32 := broadcastInDim S8x256x4x64 ![] bcast_S_S8x256x4x64 main_cst_0
  let main_v5 : IVec S8x256x4x64 1 := cmpf .olt main_v3 main_v4
  let main_v6 : IVec S8x256x4x1x64 1 := broadcastInDim S8x256x4x1x64 ![0, 1, 2, 4] bcast_S8x256x4x64_S8x256x4x1x64_0_1_2_4 main_v5
  let main_v7 : IVec S8x256x4x4x64 1 := broadcastInDim S8x256x4x4x64 ![0, 1, 2, 3, 4] bcast_S8x256x4x1x64_S8x256x4x4x64_0_1_2_3_4 main_v6
  let main_v8 : IVec S8x256x4x4x64 1 := andi main_v2 main_v7
  let main_v9 : FVec F S8x4096x4x4x64 .f32 := Host.absf main_arg0
  let main_cst_1 : FVec F S_ .f32 := constant S_ .f32 0x7F800000#32
  let main_v10 : FVec F S8x4096x4x4x64 .f32 := broadcastInDim S8x4096x4x4x64 ![] bcast_S_S8x4096x4x4x64 main_cst_1
  let main_v11 : IVec S8x4096x4x4x64 1 := cmpf .olt main_v9 main_v10
  let main_v12 : FVec F S8x4096x4x64 .f32 := Host.absf main_arg1
  let main_cst_2 : FVec F S_ .f32 := constant S_ .f32 0x7F800000#32
  let main_v13 : FVec F S8x4096x4x64 .f32 := broadcastInDim S8x4096x4x64 ![] bcast_S_S8x4096x4x64 main_cst_2
  let main_v14 : IVec S8x4096x4x64 1 := cmpf .olt main_v12 main_v13
  let main_v15 : IVec S8x4096x4x1x64 1 := broadcastInDim S8x4096x4x1x64 ![0, 1, 2, 4] bcast_S8x4096x4x64_S8x4096x4x1x64_0_1_2_4 main_v14
  let main_v16 : IVec S8x4096x4x4x64 1 := broadcastInDim S8x4096x4x4x64 ![0, 1, 2, 3, 4] bcast_S8x4096x4x1x64_S8x4096x4x4x64_0_1_2_3_4 main_v15
  let main_v17 : IVec S8x4096x4x4x64 1 := andi main_v11 main_v16
  let main_v18 : IVec S8x4352x4x4x64 1 := (fun a b => concatenate S8x4352x4x4x64 1 [⟨S8x256x4x4x64, a⟩, ⟨S8x4096x4x4x64, b⟩] concatenates_S8x256x4x4x64_S8x4096x4x4x64_S8x4352x4x4x64_d1) main_v8 main_v17
  main_v18
-- ==== Kernel.lean ====
abbrev S8x4096x4x4x64 : Shape := ⟨5, ![8, 4096, 4, 4, 64]⟩
abbrev S8x4096x4x64 : Shape := ⟨4, ![8, 4096, 4, 64]⟩
abbrev S8x256x4x4x64 : Shape := ⟨5, ![8, 256, 4, 4, 64]⟩
abbrev S8x256x4x64 : Shape := ⟨4, ![8, 256, 4, 64]⟩
abbrev S8x256x1024 : Shape := ⟨3, ![8, 256, 1024]⟩
abbrev S8x4096x1024 : Shape := ⟨3, ![8, 4096, 1024]⟩
abbrev S8x4352x1024 : Shape := ⟨3, ![8, 4352, 1024]⟩
abbrev S8x256x256 : Shape := ⟨3, ![8, 256, 256]⟩
abbrev S8x4096x256 : Shape := ⟨3, ![8, 4096, 256]⟩
abbrev S8x4352x256 : Shape := ⟨3, ![8, 4352, 256]⟩
abbrev S8x17x256x1024 : Shape := ⟨4, ![8, 17, 256, 1024]⟩
abbrev S8x17x1024x256 : Shape := ⟨4, ![8, 17, 1024, 256]⟩
abbrev S8x17x256x4x64 : Shape := ⟨5, ![8, 17, 256, 4, 64]⟩
abbrev S8x17x4x256x64 : Shape := ⟨5, ![8, 17, 4, 256, 64]⟩
abbrev S_ : Shape := ⟨0, ![]⟩
abbrev S8x17x4x256x128 : Shape := ⟨5, ![8, 17, 4, 256, 128]⟩
abbrev S8x17x256x256 : Shape := ⟨4, ![8, 17, 256, 256]⟩
abbrev S1x17x256x256 : Shape := ⟨4, ![1, 17, 256, 256]⟩
abbrev S1x17x1x256x128 : Shape := ⟨5, ![1, 17, 1, 256, 128]⟩
abbrev S1x17x64x256 : Shape := ⟨4, ![1, 17, 64, 256]⟩
abbrev S2x1x1024 : Shape := ⟨3, ![2, 1, 1024]⟩
abbrev S64x1024 : Shape := ⟨2, ![64, 1024]⟩
abbrev S3x256x1024 : Shape := ⟨3, ![3, 256, 1024]⟩
abbrev S4x1x1024 : Shape := ⟨3, ![4, 1, 1024]⟩
abbrev S80x1024 : Shape := ⟨2, ![80, 1024]⟩
abbrev S1x1024 : Shape := ⟨2, ![1, 1024]⟩
abbrev S1x1x1024 : Shape := ⟨3, ![1, 1, 1024]⟩
abbrev S1x1x64x256 : Shape := ⟨4, ![1, 1, 64, 256]⟩
abbrev S64x256 : Shape := ⟨2, ![64, 256]⟩
abbrev S1x1x1x256x128 : Shape := ⟨5, ![1, 1, 1, 256, 128]⟩
abbrev S1x256x128 : Shape := ⟨3, ![1, 256, 128]⟩
abbrev S256x128 : Shape := ⟨2, ![256, 128]⟩
abbrev S256x64 : Shape := ⟨2, ![256, 64]⟩
abbrev S256x1024 : Shape := ⟨2, ![256, 1024]⟩
abbrev S1x256x1024 : Shape := ⟨3, ![1, 256, 1024]⟩
abbrev S1024 : Shape := ⟨1, ![1024]⟩
abbrev S16x256 : Shape := ⟨2, ![16, 256]⟩
abbrev S80x256 : Shape := ⟨2, ![80, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 27
  | .vmem => 13
  | .smem => 0
  | _ => 0

abbrev bufTy : (tb : Table) → Fin (tcTables nBuf tb) → BufTy
  | .hbm, ⟨0, _⟩ => ⟨S8x4096x4x4x64, .f32⟩
  | .hbm, ⟨1, _⟩ => ⟨S8x4096x4x64, .f32⟩
  | .hbm, ⟨2, _⟩ => ⟨S8x4096x4x64, .f32⟩
  | .hbm, ⟨3, _⟩ => ⟨S8x256x4x4x64, .f32⟩
  | .hbm, ⟨4, _⟩ => ⟨S8x256x4x64, .f32⟩
  | .hbm, ⟨5, _⟩ => ⟨S8x256x4x64, .f32⟩
  | .hbm, ⟨6, _⟩ => ⟨S8x256x1024, .f32⟩
  | .hbm, ⟨7, _⟩ => ⟨S8x4096x1024, .f32⟩
  | .hbm, ⟨8, _⟩ => ⟨S8x4352x1024, .f32⟩
  | .hbm, ⟨9, _⟩ => ⟨S8x256x256, .f32⟩
  | .hbm, ⟨10, _⟩ => ⟨S8x4096x256, .f32⟩
  | .hbm, ⟨11, _⟩ => ⟨S8x4352x256, .f32⟩
  | .hbm, ⟨12, _⟩ => ⟨S8x256x256, .f32⟩
  | .hbm, ⟨13, _⟩ => ⟨S8x4096x256, .f32⟩
  | .hbm, ⟨14, _⟩ => ⟨S8x4352x256, .f32⟩
  | .hbm, ⟨15, _⟩ => ⟨S8x17x256x1024, .f32⟩
  | .hbm, ⟨16, _⟩ => ⟨S8x17x1024x256, .f32⟩
  | .hbm, ⟨17, _⟩ => ⟨S8x17x256x4x64, .f32⟩
  | .hbm, ⟨18, _⟩ => ⟨S8x17x4x256x64, .f32⟩
  | .hbm, ⟨19, _⟩ => ⟨S_, .f32⟩
  | .hbm, ⟨20, _⟩ => ⟨S8x17x4x256x64, .f32⟩
  | .hbm, ⟨21, _⟩ => ⟨S8x17x4x256x128, .f32⟩
  | .hbm, ⟨22, _⟩ => ⟨S8x17x4x256x128, .bf16⟩
  | .hbm, ⟨23, _⟩ => ⟨S8x17x256x256, .f32⟩
  | .hbm, ⟨24, _⟩ => ⟨S8x17x256x256, .f32⟩
  | .hbm, ⟨25, _⟩ => ⟨S8x17x256x256, .bf16⟩
  | .hbm, ⟨26, _⟩ => ⟨S8x17x1024x256, .bf16⟩
  | .local _ .vmem, ⟨0, _⟩ => ⟨S1x17x256x256, .f32⟩
  | .local _ .vmem, ⟨1, _⟩ => ⟨S1x17x256x256, .f32⟩
  | .local _ .vmem, ⟨2, _⟩ => ⟨S1x17x1x256x128, .bf16⟩
  | .local _ .vmem, ⟨3, _⟩ => ⟨S1x17x1x256x128, .bf16⟩
  | .local _ .vmem, ⟨4, _⟩ => ⟨S1x17x64x256, .bf16⟩
  | .local _ .vmem, ⟨5, _⟩ => ⟨S1x17x64x256, .bf16⟩
  | .local _ .vmem, ⟨6, _⟩ => ⟨S1x17x256x256, .bf16⟩
  | .local _ .vmem, ⟨7, _⟩ => ⟨S1x17x256x256, .bf16⟩
  | .local _ .vmem, ⟨8, _⟩ => ⟨S2x1x1024, .f32⟩
  | .local _ .vmem, ⟨9, _⟩ => ⟨S64x1024, .bf16⟩
  | .local _ .vmem, ⟨10, _⟩ => ⟨S3x256x1024, .f32⟩
  | .local _ .vmem, ⟨11, _⟩ => ⟨S4x1x1024, .f32⟩
  | .local _ .vmem, ⟨12, _⟩ => ⟨S80x1024, .f32⟩
  | _, _ => ⟨S8x4096x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c1_i32 : BitVec 32 := 1#32
  let c16_i32 : BitVec 32 := 16#32
  let v222 : BitVec 32 := Scalar.addi c1_i32 c16_i32
  let c1_i32_172 : BitVec 32 := 1#32
  ⟨c1_i32, v222, c1_i32_172⟩
def k0_off1 (k0_t1 : Fin k0_t1_loop.trips) : Fin 4 → Nat :=
  let c0_1406 : Index := 0#32
  let c1_i32 : BitVec 32 := 1#32
  let c1_i32_172 : BitVec 32 := 1#32
  let arg11 : BitVec 32 := Scf.iv c1_i32 c1_i32_172 k0_t1
  let v2017 : Index := Scalar.indexCast arg11
  let c0_1407 : Index := 0#32
  let c0_1408 : Index := 0#32
  ![0, v2017.toNat, 0, 0]
def k0_off2 (k0_t1 : Fin k0_t1_loop.trips) : Fin 4 → Nat :=
  let c0_1409 : Index := 0#32
  let c1_i32 : BitVec 32 := 1#32
  let c1_i32_172 : BitVec 32 := 1#32
  let arg11 : BitVec 32 := Scf.iv c1_i32 c1_i32_172 k0_t1
  let v2023 : Index := Scalar.indexCast arg11
  let c64_1410 : Index := 64#32
  let c0_1411 : Index := 0#32
  ![0, v2023.toNat, 64, 0]
def k0_off3 (k0_t1 : Fin k0_t1_loop.trips) : Fin 4 → Nat :=
  let c0_1412 : Index := 0#32
  let c1_i32 : BitVec 32 := 1#32
  let c1_i32_172 : BitVec 32 := 1#32
  let arg11 : BitVec 32 := Scf.iv c1_i32 c1_i32_172 k0_t1
  let v2029 : Index := Scalar.indexCast arg11
  let c128_1413 : Index := 128#32
  let c0_1414 : Index := 0#32
  ![0, v2029.toNat, 128, 0]
def k0_off4 (k0_t1 : Fin k0_t1_loop.trips) : Fin 4 → Nat :=
  let c0_1415 : Index := 0#32
  let c1_i32 : BitVec 32 := 1#32
  let c1_i32_172 : BitVec 32 := 1#32
  let arg11 : BitVec 32 := Scf.iv c1_i32 c1_i32_172 k0_t1
  let v2035 : Index := Scalar.indexCast arg11
  let c192_1416 : Index := 192#32
  let c0_1417 : Index := 0#32
  ![0, v2035.toNat, 192, 0]
def k0_off5 (k0_t1 : Fin k0_t1_loop.trips) : Fin 4 → Nat :=
  let c0_1426 : Index := 0#32
  let c1_i32 : BitVec 32 := 1#32
  let c1_i32_172 : BitVec 32 := 1#32
  let arg11 : BitVec 32 := Scf.iv c1_i32 c1_i32_172 k0_t1
  let c1_i32_1424 : BitVec 32 := 1#32
  let v2048 : BitVec 32 := Scalar.addi arg11 c1_i32_1424
  let c16_i32_1425 : BitVec 32 := 16#32
  let v2049 : BitVec 32 := Scalar.minsi v2048 c16_i32_1425
  let v2050 : Index := Scalar.indexCast v2049
  let c0_1427 : Index := 0#32
  let c0_1428 : Index := 0#32
  ![0, v2050.toNat, 0, 0]
def k0_off6 (k0_t1 : Fin k0_t1_loop.trips) : Fin 4 → Nat :=
  let c0_1432 : Index := 0#32
  let c1_i32 : BitVec 32 := 1#32
  let c1_i32_172 : BitVec 32 := 1#32
  let arg11 : BitVec 32 := Scf.iv c1_i32 c1_i32_172 k0_t1
  let c1_i32_1424 : BitVec 32 := 1#32
  let v2048 : BitVec 32 := Scalar.addi arg11 c1_i32_1424
  let c16_i32_1425 : BitVec 32 := 16#32
  let v2049 : BitVec 32 := Scalar.minsi v2048 c16_i32_1425
  let v2059 : Index := Scalar.indexCast v2049
  let c64_1433 : Index := 64#32
  let c0_1434 : Index := 0#32
  ![0, v2059.toNat, 64, 0]
def k0_off7 (k0_t1 : Fin k0_t1_loop.trips) : Fin 4 → Nat :=
  let c0_1438 : Index := 0#32
  let c1_i32 : BitVec 32 := 1#32
  let c1_i32_172 : BitVec 32 := 1#32
  let arg11 : BitVec 32 := Scf.iv c1_i32 c1_i32_172 k0_t1
  let c1_i32_1424 : BitVec 32 := 1#32
  let v2048 : BitVec 32 := Scalar.addi arg11 c1_i32_1424
  let c16_i32_1425 : BitVec 32 := 16#32
  let v2049 : BitVec 32 := Scalar.minsi v2048 c16_i32_1425
  let v2068 : Index := Scalar.indexCast v2049
  let c128_1439 : Index := 128#32
  let c0_1440 : Index := 0#32
  ![0, v2068.toNat, 128, 0]
def k0_off8 (k0_t1 : Fin k0_t1_loop.trips) : Fin 4 → Nat :=
  let c0_1444 : Index := 0#32
  let c1_i32 : BitVec 32 := 1#32
  let c1_i32_172 : BitVec 32 := 1#32
  let arg11 : BitVec 32 := Scf.iv c1_i32 c1_i32_172 k0_t1
  let c1_i32_1424 : BitVec 32 := 1#32
  let v2048 : BitVec 32 := Scalar.addi arg11 c1_i32_1424
  let c16_i32_1425 : BitVec 32 := 16#32
  let v2049 : BitVec 32 := Scalar.minsi v2048 c16_i32_1425
  let v2077 : Index := Scalar.indexCast v2049
  let c192_1445 : Index := 192#32
  let c0_1446 : Index := 0#32
  ![0, v2077.toNat, 192, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x17x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x17x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x17x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x17x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale_log2e" => some (((Real.log 2)⁻¹ * (1 / 8) : ℝ) : EReal)
  | _ => none
-- ==== ReferenceIdeal.lean ====
abbrev S8x4096x4x4x64 : Shape := ⟨5, ![8, 4096, 4, 4, 64]⟩
abbrev S8x4096x4x64 : Shape := ⟨4, ![8, 4096, 4, 64]⟩
abbrev S8x256x4x4x64 : Shape := ⟨5, ![8, 256, 4, 4, 64]⟩
abbrev S8x256x4x64 : Shape := ⟨4, ![8, 256, 4, 64]⟩
abbrev S8x4352x4x64 : Shape := ⟨4, ![8, 4352, 4, 64]⟩
abbrev S8x4x4352x4096x4 : Shape := ⟨5, ![8, 4, 4352, 4096, 4]⟩
abbrev S8x4x4x4096x4352 : Shape := ⟨5, ![8, 4, 4, 4096, 4352]⟩
abbrev S_ : Shape := ⟨0, ![]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩
abbrev S8x4x256x256x4 : Shape := ⟨5, ![8, 4, 256, 256, 4]⟩
abbrev S8x4x4x256x256 : Shape := ⟨5, ![8, 4, 4, 256, 256]⟩
abbrev S8x4x4x256 : Shape := ⟨4, ![8, 4, 4, 256]⟩
abbrev S8x4x4x256x1 : Shape := ⟨5, ![8, 4, 4, 256, 1]⟩
abbrev S8x4x64x4x256 : Shape := ⟨5, ![8, 4, 64, 4, 256]⟩
abbrev S8x256x1024 : Shape := ⟨3, ![8, 256, 1024]⟩
abbrev S8x4096x1024 : Shape := ⟨3, ![8, 4096, 1024]⟩
abbrev S8x4352x1024 : Shape := ⟨3, ![8, 4352, 1024]⟩
abbrev S8x17x256x1024 : Shape := ⟨4, ![8, 17, 256, 1024]⟩
abbrev S8x17x1024x256 : Shape := ⟨4, ![8, 17, 1024, 256]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x4x4x64, .f32⟩
  | .hbm, ⟨1, _⟩ => ⟨S8x4096x4x64, .f32⟩
  | .hbm, ⟨2, _⟩ => ⟨S8x4096x4x64, .f32⟩
  | .hbm, ⟨3, _⟩ => ⟨S8x256x4x4x64, .f32⟩
  | .hbm, ⟨4, _⟩ => ⟨S8x256x4x64, .f32⟩
  | .hbm, ⟨5, _⟩ => ⟨S8x256x4x64, .f32⟩
  | .hbm, ⟨6, _⟩ => ⟨S8x4352x4x64, .f32⟩
  | .hbm, ⟨7, _⟩ => ⟨S8x4352x4x64, .f32⟩
  | .hbm, ⟨8, _⟩ => ⟨S8x4x4352x4096x4, .f32⟩
  | .hbm, ⟨9, _⟩ => ⟨S8x4x4x4096x4352, .f32⟩
  | .hbm, ⟨10, _⟩ => ⟨S_, .f32⟩
  | .hbm, ⟨11, _⟩ => ⟨S8x4x4x4096x4352, .f32⟩
  | .hbm, ⟨12, _⟩ => ⟨S8x4x4x4096x4352, .f32⟩
  | .hbm, ⟨13, _⟩ => ⟨S_, .f32⟩
  | .hbm, ⟨14, _⟩ => ⟨S8x4x4x4096, .f32⟩
  | .hbm, ⟨15, _⟩ => ⟨S_, .f32⟩
  | .hbm, ⟨16, _⟩ => ⟨S8x4x4x4096, .f32⟩
  | .hbm, ⟨17, _⟩ => ⟨S8x4x4x4096, .f32⟩
  | .hbm, ⟨18, _⟩ => ⟨S8x4x4x4096x1, .f32⟩
  | .hbm, ⟨19, _⟩ => ⟨S8x4x4x4096x4352, .f32⟩
  | .hbm, ⟨20, _⟩ => ⟨S8x4x4x4096x4352, .f32⟩
  | .hbm, ⟨21, _⟩ => ⟨S8x4x4x4096x4352, .f32⟩
  | .hbm, ⟨22, _⟩ => ⟨S_, .f32⟩
  | .hbm, ⟨23, _⟩ => ⟨S8x4x4x4096, .f32⟩
  | .hbm, ⟨24, _⟩ => ⟨S8x4x4x4096x1, .f32⟩
  | .hbm, ⟨25, _⟩ => ⟨S8x4x4x4096x4352, .f32⟩
  | .hbm, ⟨26, _⟩ => ⟨S8x4x4x4096x4352, .f32⟩
  | .hbm, ⟨27, _⟩ => ⟨S8x4x64x4x4096, .f32⟩
  | .hbm, ⟨28, _⟩ => ⟨S8x4096x4x4x64, .f32⟩
  | .hbm, ⟨29, _⟩ => ⟨S8x4x256x256x4, .f32⟩
  | .hbm, ⟨30, _⟩ => ⟨S8x4x4x256x256, .f32⟩
  | .hbm, ⟨31, _⟩ => ⟨S_, .f32⟩
  | .hbm, ⟨32, _⟩ => ⟨S8x4x4x256x256, .f32⟩
  | .hbm, ⟨33, _⟩ => ⟨S8x4x4x256x256, .f32⟩
  | .hbm, ⟨34, _⟩ => ⟨S_, .f32⟩
  | .hbm, ⟨35, _⟩ => ⟨S8x4x4x256, .f32⟩
  | .hbm, ⟨36, _⟩ => ⟨S_, .f32⟩
  | .hbm, ⟨37, _⟩ => ⟨S8x4x4x256, .f32⟩
  | .hbm, ⟨38, _⟩ => ⟨S8x4x4x256, .f32⟩
  | .hbm, ⟨39, _⟩ => ⟨S8x4x4x256x1, .f32⟩
  | .hbm, ⟨40, _⟩ => ⟨S8x4x4x256x256, .f32⟩
  | .hbm, ⟨41, _⟩ => ⟨S8x4x4x256x256, .f32⟩
  | .hbm, ⟨42, _⟩ => ⟨S8x4x4x256x256, .f32⟩
  | .hbm, ⟨43, _⟩ => ⟨S_, .f32⟩
  | .hbm, ⟨44, _⟩ => ⟨S8x4x4x256, .f32⟩
  | .hbm, ⟨45, _⟩ => ⟨S8x4x4x256x1, .f32⟩
  | .hbm, ⟨46, _⟩ => ⟨S8x4x4x256x256, .f32⟩
  | .hbm, ⟨47, _⟩ => ⟨S8x4x4x256x256, .f32⟩
  | .hbm, ⟨48, _⟩ => ⟨S8x4x64x4x256, .f32⟩
  | .hbm, ⟨49, _⟩ => ⟨S8x256x4x4x64, .f32⟩
  | .hbm, ⟨50, _⟩ => ⟨S8x256x1024, .f32⟩
  | .hbm, ⟨51, _⟩ => ⟨S8x4096x1024, .f32⟩
  | .hbm, ⟨52, _⟩ => ⟨S8x4352x1024, .f32⟩
  | .hbm, ⟨53, _⟩ => ⟨S8x17x256x1024, .f32⟩
  | .hbm, ⟨54, _⟩ => ⟨S8x17x1024x256, .f32⟩
  | .hbm, ⟨55, _⟩ => ⟨S8x17x1024x256, .bf16⟩
  | _, _ => ⟨S8x4096x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel2.lean ====
abbrev S8x4352x1024 : Shape := ⟨3, ![8, 4352, 1024]⟩
abbrev S8x1024 : Shape := ⟨2, ![8, 1024]⟩
abbrev S1024x1024 : Shape := ⟨2, ![1024, 1024]⟩
abbrev S8x1024x1 : Shape := ⟨3, ![8, 1024, 1]⟩
abbrev S8x1024x128 : Shape := ⟨3, ![8, 1024, 128]⟩
abbrev S8x17x256x1024 : Shape := ⟨4, ![8, 17, 256, 1024]⟩
abbrev S8x17x1024x256 : Shape := ⟨4, ![8, 17, 1024, 256]⟩
abbrev S8x1024x4352 : Shape := ⟨3, ![8, 1024, 4352]⟩
abbrev S8x4096x1024 : Shape := ⟨3, ![8, 4096, 1024]⟩
abbrev S1x1x1024x256 : Shape := ⟨4, ![1, 1, 1024, 256]⟩
abbrev S1x1024x256 : Shape := ⟨3, ![1, 1024, 256]⟩
abbrev S1x1024x128 : Shape := ⟨3, ![1, 1024, 128]⟩
abbrev S1x256x1024 : Shape := ⟨3, ![1, 256, 1024]⟩
abbrev S1024x256 : Shape := ⟨2, ![1024, 256]⟩
abbrev S1024x128 : Shape := ⟨2, ![1024, 128]⟩
abbrev S256x1024 : Shape := ⟨2, ![256, 1024]⟩

abbrev nBuf : Space → Nat
  | .hbm => 16
  | .vmem => 11
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x1024, .f32⟩
  | .hbm, ⟨3, _⟩ => ⟨S8x1024, .f32⟩
  | .hbm, ⟨4, _⟩ => ⟨S1024x1024, .f32⟩
  | .hbm, ⟨5, _⟩ => ⟨S8x1024x1, .f32⟩
  | .hbm, ⟨6, _⟩ => ⟨S8x1024x128, .f32⟩
  | .hbm, ⟨7, _⟩ => ⟨S8x17x256x1024, .f32⟩
  | .hbm, ⟨8, _⟩ => ⟨S8x17x1024x256, .f32⟩
  | .hbm, ⟨9, _⟩ => ⟨S8x17x1024x256, .bf16⟩
  | .hbm, ⟨10, _⟩ => ⟨S8x1024x4352, .f32⟩
  | .hbm, ⟨11, _⟩ => ⟨S8x1024x4352, .bf16⟩
  | .hbm, ⟨12, _⟩ => ⟨S1024x1024, .f32⟩
  | .hbm, ⟨13, _⟩ => ⟨S1024x1024, .bf16⟩
  | .hbm, ⟨14, _⟩ => ⟨S8x1024x4352, .f32⟩
  | .hbm, ⟨15, _⟩ => ⟨S8x4096x1024, .f32⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .bf16⟩
  | .local _ .vmem, ⟨5, _⟩ => ⟨S1x1024x128, .f32⟩
  | .local _ .vmem, ⟨6, _⟩ => ⟨S1x1024x128, .f32⟩
  | .local _ .vmem, ⟨7, _⟩ => ⟨S1x1024x256, .f32⟩
  | .local _ .vmem, ⟨8, _⟩ => ⟨S1x1024x256, .f32⟩
  | .local _ .vmem, ⟨9, _⟩ => ⟨S1x256x1024, .f32⟩
  | .local _ .vmem, ⟨10, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x4352x1024 : Shape := ⟨3, ![8, 4352, 1024]⟩
abbrev S8x1024 : Shape := ⟨2, ![8, 1024]⟩
abbrev S1024x1024 : Shape := ⟨2, ![1024, 1024]⟩
abbrev S8x4096x1024 : Shape := ⟨3, ![8, 4096, 1024]⟩
abbrev S8x1x1024 : Shape := ⟨3, ![8, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x1024, .f32⟩
  | .hbm, ⟨3, _⟩ => ⟨S8x1024, .f32⟩
  | .hbm, ⟨4, _⟩ => ⟨S1024x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S8x1x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S8x4352x1024 : Shape := ⟨3, ![8, 4352, 1024]⟩
abbrev S8x1024 : Shape := ⟨2, ![8, 1024]⟩
abbrev S1024 : Shape := ⟨1, ![1024]⟩
abbrev S1024x1024 : Shape := ⟨2, ![1024, 1024]⟩
abbrev S1024x4096 : Shape := ⟨2, ![1024, 4096]⟩
abbrev S64 : Shape := ⟨1, ![64]⟩
abbrev S_ : Shape := ⟨0, ![]⟩
abbrev S32x4352 : Shape := ⟨2, ![32, 4352]⟩
abbrev S1x1024 : Shape := ⟨2, ![1, 1024]⟩
abbrev S9x1024 : Shape := ⟨2, ![9, 1024]⟩
abbrev S9x1024x1 : Shape := ⟨3, ![9, 1024, 1]⟩
abbrev S9x1024x128 : Shape := ⟨3, ![9, 1024, 128]⟩
abbrev S4096x1024 : Shape := ⟨2, ![4096, 1024]⟩
abbrev S64x1 : Shape := ⟨2, ![64, 1]⟩
abbrev S64x128 : Shape := ⟨2, ![64, 128]⟩
abbrev S8x17x256x1024 : Shape := ⟨4, ![8, 17, 256, 1024]⟩
abbrev S8x17x1024x256 : Shape := ⟨4, ![8, 17, 1024, 256]⟩
abbrev S8x1024x4352 : Shape := ⟨3, ![8, 1024, 4352]⟩
abbrev S8x17x16x256x128 : Shape := ⟨5, ![8, 17, 16, 256, 128]⟩
abbrev S1x1x1024x256 : Shape := ⟨4, ![1, 1, 1024, 256]⟩
abbrev S1x1024x256 : Shape := ⟨3, ![1, 1024, 256]⟩
abbrev S1x1024x128 : Shape := ⟨3, ![1, 1024, 128]⟩
abbrev S32x256 : Shape := ⟨2, ![32, 256]⟩
abbrev S1x1x16x256x128 : Shape := ⟨5, ![1, 1, 16, 256, 128]⟩
abbrev S1024x256 : Shape := ⟨2, ![1024, 256]⟩
abbrev S1024x128 : Shape := ⟨2, ![1024, 128]⟩
abbrev S256 : Shape := ⟨1, ![256]⟩
abbrev S1x256 : Shape := ⟨2, ![1, 256]⟩
abbrev S64x256 : Shape := ⟨2, ![64, 256]⟩
abbrev S1x1x64x256 : Shape := ⟨4, ![1, 1, 64, 256]⟩
abbrev S128x256 : Shape := ⟨2, ![128, 256]⟩
abbrev S256x128 : Shape := ⟨2, ![256, 128]⟩
abbrev S1x1x1x256x128 : Shape := ⟨5, ![1, 1, 1, 256, 128]⟩

abbrev nBuf : Space → Nat
  | .hbm => 53
  | .vmem => 30
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x1024, .f32⟩
  | .hbm, ⟨3, _⟩ => ⟨S8x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x1024, .f32⟩
  | .hbm, ⟨8, _⟩ => ⟨S1024, .f32⟩
  | .hbm, ⟨9, _⟩ => ⟨S8x1024, .f32⟩
  | .hbm, ⟨10, _⟩ => ⟨S1024, .f32⟩
  | .hbm, ⟨11, _⟩ => ⟨S1024x4096, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S32x4352, .f32⟩
  | .hbm, ⟨16, _⟩ => ⟨S1x1024, .f32⟩
  | .hbm, ⟨17, _⟩ => ⟨S9x1024, .f32⟩
  | .hbm, ⟨18, _⟩ => ⟨S_, .f32⟩
  | .hbm, ⟨19, _⟩ => ⟨S9x1024, .f32⟩
  | .hbm, ⟨20, _⟩ => ⟨S9x1024, .f32⟩
  | .hbm, ⟨21, _⟩ => ⟨S1x1024, .f32⟩
  | .hbm, ⟨22, _⟩ => ⟨S9x1024, .f32⟩
  | .hbm, ⟨23, _⟩ => ⟨S9x1024, .f32⟩
  | .hbm, ⟨24, _⟩ => ⟨S9x1024x1, .f32⟩
  | .hbm, ⟨25, _⟩ => ⟨S9x1024x128, .f32⟩
  | .hbm, ⟨26, _⟩ => ⟨S1x1024, .f32⟩
  | .hbm, ⟨27, _⟩ => ⟨S9x1024, .f32⟩
  | .hbm, ⟨28, _⟩ => ⟨S9x1024x1, .f32⟩
  | .hbm, ⟨29, _⟩ => ⟨S9x1024x128, .f32⟩
  | .hbm, ⟨30, _⟩ => ⟨S4096x1024, .f32⟩
  | .hbm, ⟨31, _⟩ => ⟨S4096x1024, .bf16⟩
  | .hbm, ⟨32, _⟩ => ⟨S64x1, .f32⟩
  | .hbm, ⟨33, _⟩ => ⟨S64x128, .f32⟩
  | .hbm, ⟨34, _⟩ => ⟨S64x1, .f32⟩
  | .hbm, ⟨35, _⟩ => ⟨S64x128, .f32⟩
  | .hbm, ⟨36, _⟩ => ⟨S8x17x256x1024, .f32⟩
  | .hbm, ⟨37, _⟩ => ⟨S8x17x1024x256, .f32⟩
  | .hbm, ⟨38, _⟩ => ⟨S8x17x1024x256, .bf16⟩
  | .hbm, ⟨39, _⟩ => ⟨S8x1024x4352, .f32⟩
  | .hbm, ⟨40, _⟩ => ⟨S8x1024x4352, .bf16⟩
  | .hbm, ⟨41, _⟩ => ⟨S1024x1024, .f32⟩
  | .hbm, ⟨42, _⟩ => ⟨S1024x1024, .bf16⟩
  | .hbm, ⟨43, _⟩ => ⟨S1x1024, .f32⟩
  | .hbm, ⟨44, _⟩ => ⟨S9x1024, .f32⟩
  | .hbm, ⟨45, _⟩ => ⟨S9x1024x1, .f32⟩
  | .hbm, ⟨46, _⟩ => ⟨S9x1024x128, .f32⟩
  | .hbm, ⟨47, _⟩ => ⟨S8x1024x4352, .f32⟩
  | .hbm, ⟨48, _⟩ => ⟨S8x1024x4352, .f32⟩
  | .hbm, ⟨49, _⟩ => ⟨S8x17x1024x256, .bf16⟩
  | .hbm, ⟨50, _⟩ => ⟨S8x17x16x256x128, .bf16⟩
  | .hbm, ⟨51, _⟩ => ⟨S8x17x1024x256, .bf16⟩
  | .hbm, ⟨52, _⟩ => ⟨S8x1024x4352, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .bf16⟩
  | .local _ .vmem, ⟨5, _⟩ => ⟨S1x1024x128, .f32⟩
  | .local _ .vmem, ⟨6, _⟩ => ⟨S1x1024x128, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S4096x1024, .bf16⟩
  | .local _ .vmem, ⟨14, _⟩ => ⟨S32x256, .f32⟩
  | .local _ .vmem, ⟨15, _⟩ => ⟨S32x256, .f32⟩
  | .local _ .vmem, ⟨16, _⟩ => ⟨S32x256, .f32⟩
  | .local _ .vmem, ⟨17, _⟩ => ⟨S32x256, .f32⟩
  | .local _ .vmem, ⟨18, _⟩ => ⟨S64x128, .f32⟩
  | .local _ .vmem, ⟨19, _⟩ => ⟨S64x128, .f32⟩
  | .local _ .vmem, ⟨20, _⟩ => ⟨S1x1024x256, .f32⟩
  | .local _ .vmem, ⟨21, _⟩ => ⟨S1x1024x256, .f32⟩
  | .local _ .vmem, ⟨22, _⟩ => ⟨S1x1x1024x256, .bf16⟩
  | .local _ .vmem, ⟨23, _⟩ => ⟨S1x1x1024x256, .bf16⟩
  | .local _ .vmem, ⟨24, _⟩ => ⟨S1x1x16x256x128, .bf16⟩
  | .local _ .vmem, ⟨25, _⟩ => ⟨S1x1x16x256x128, .bf16⟩
  | .local _ .vmem, ⟨26, _⟩ => ⟨S1x1x1024x256, .bf16⟩
  | .local _ .vmem, ⟨27, _⟩ => ⟨S1x1x1024x256, .bf16⟩
  | .local _ .vmem, ⟨28, _⟩ => ⟨S1x1024x256, .bf16⟩
  | .local _ .vmem, ⟨29, _⟩ => ⟨S1x1024x256, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32_0 : Ref sig .tc := ⟨.hbm, 48, rfl⟩
abbrev main_v32_1 : Ref sig .tc := ⟨.hbm, 49, rfl⟩
abbrev main_v32_2 : Ref sig .tc := ⟨.hbm, 50, rfl⟩
abbrev main_v32_3 : Ref sig .tc := ⟨.hbm, 51, rfl⟩
abbrev main_v32_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 17], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x16x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x4352x1024 : Shape := ⟨3, ![8, 4352, 1024]⟩
abbrev S8x1024 : Shape := ⟨2, ![8, 1024]⟩
abbrev S1024 : Shape := ⟨1, ![1024]⟩
abbrev S1024x1024 : Shape := ⟨2, ![1024, 1024]⟩
abbrev S1024x4096 : Shape := ⟨2, ![1024, 4096]⟩
abbrev S64 : Shape := ⟨1, ![64]⟩
abbrev S8x256x1024 : Shape := ⟨3, ![8, 256, 1024]⟩
abbrev S8x1x1024 : Shape := ⟨3, ![8, 1, 1024]⟩
abbrev S8x4096x1024 : Shape := ⟨3, ![8, 4096, 1024]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S8x4352x4096 : Shape := ⟨3, ![8, 4352, 4096]⟩
abbrev S8x4352x16x64 : Shape := ⟨4, ![8, 4352, 16, 64]⟩
abbrev S8x4352x16 : Shape := ⟨3, ![8, 4352, 16]⟩
abbrev S8x4352x16x1 : Shape := ⟨4, ![8, 4352, 16, 1]⟩
abbrev S1x1x1x64 : Shape := ⟨4, ![1, 1, 1, 64]⟩
abbrev S8x17x256x16x64 : Shape := ⟨5, ![8, 17, 256, 16, 64]⟩
abbrev S8x17x16x256x64 : Shape := ⟨5, ![8, 17, 16, 256, 64]⟩
abbrev S8x17x16x256x128 : Shape := ⟨5, ![8, 17, 16, 256, 128]⟩
abbrev S8x1024x4352 : Shape := ⟨3, ![8, 1024, 4352]⟩
abbrev S8x17x256x1024 : Shape := ⟨4, ![8, 17, 256, 1024]⟩
abbrev S8x17x1024x256 : Shape := ⟨4, ![8, 17, 1024, 256]⟩

abbrev nBuf : Space → Nat
  | .hbm => 114
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x1024, .f32⟩
  | .hbm, ⟨3, _⟩ => ⟨S8x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x1024, .f32⟩
  | .hbm, ⟨8, _⟩ => ⟨S1024, .f32⟩
  | .hbm, ⟨9, _⟩ => ⟨S8x1024, .f32⟩
  | .hbm, ⟨10, _⟩ => ⟨S1024, .f32⟩
  | .hbm, ⟨11, _⟩ => ⟨S1024x4096, .f32⟩
  | .hbm, ⟨12, _⟩ => ⟨S64, .f32⟩
  | .hbm, ⟨13, _⟩ => ⟨S64, .f32⟩
  | .hbm, ⟨14, _⟩ => ⟨S8x256x1024, .f32⟩
  | .hbm, ⟨15, _⟩ => ⟨S8x1x1024, .f32⟩
  | .hbm, ⟨16, _⟩ => ⟨S8x4096x1024, .f32⟩
  | .hbm, ⟨17, _⟩ => ⟨S8x4352x1024, .f32⟩
  | .hbm, ⟨18, _⟩ => ⟨S8x4352x1024, .f32⟩
  | .hbm, ⟨19, _⟩ => ⟨S8x4352x1024, .f32⟩
  | .hbm, ⟨20, _⟩ => ⟨S8x4352x1024, .f32⟩
  | .hbm, ⟨21, _⟩ => ⟨S8x4352x1024, .f32⟩
  | .hbm, ⟨22, _⟩ => ⟨S8x4352x1024, .f32⟩
  | .hbm, ⟨23, _⟩ => ⟨S_, .f32⟩
  | .hbm, ⟨24, _⟩ => ⟨S8x4352, .f32⟩
  | .hbm, ⟨25, _⟩ => ⟨S8x4352x1, .f32⟩
  | .hbm, ⟨26, _⟩ => ⟨S_, .f32⟩
  | .hbm, ⟨27, _⟩ => ⟨S8x4352x1, .f32⟩
  | .hbm, ⟨28, _⟩ => ⟨S8x4352x1, .f32⟩
  | .hbm, ⟨29, _⟩ => ⟨S_, .f32⟩
  | .hbm, ⟨30, _⟩ => ⟨S8x4352x1, .f32⟩
  | .hbm, ⟨31, _⟩ => ⟨S8x4352x1, .f32⟩
  | .hbm, ⟨32, _⟩ => ⟨S8x4352x1, .f32⟩
  | .hbm, ⟨33, _⟩ => ⟨S8x4352x1024, .f32⟩
  | .hbm, ⟨34, _⟩ => ⟨S8x4352x1024, .f32⟩
  | .hbm, ⟨35, _⟩ => ⟨S1x1x1024, .f32⟩
  | .hbm, ⟨36, _⟩ => ⟨S8x4352x1024, .f32⟩
  | .hbm, ⟨37, _⟩ => ⟨S8x4352x1024, .f32⟩
  | .hbm, ⟨38, _⟩ => ⟨S8x256x1024, .f32⟩
  | .hbm, ⟨39, _⟩ => ⟨S8x1x1024, .f32⟩
  | .hbm, ⟨40, _⟩ => ⟨S8x4096x1024, .f32⟩
  | .hbm, ⟨41, _⟩ => ⟨S8x4352x1024, .f32⟩
  | .hbm, ⟨42, _⟩ => ⟨S_, .f32⟩
  | .hbm, ⟨43, _⟩ => ⟨S8x4352x1024, .f32⟩
  | .hbm, ⟨44, _⟩ => ⟨S8x4352x1024, .f32⟩
  | .hbm, ⟨45, _⟩ => ⟨S8x4352x1024, .f32⟩
  | .hbm, ⟨46, _⟩ => ⟨S8x256x1024, .f32⟩
  | .hbm, ⟨47, _⟩ => ⟨S8x1x1024, .f32⟩
  | .hbm, ⟨48, _⟩ => ⟨S8x4096x1024, .f32⟩
  | .hbm, ⟨49, _⟩ => ⟨S8x4352x1024, .f32⟩
  | .hbm, ⟨50, _⟩ => ⟨S8x4352x1024, .f32⟩
  | .hbm, ⟨51, _⟩ => ⟨S8x4352x4096, .f32⟩
  | .hbm, ⟨52, _⟩ => ⟨S8x4352x1024, .f32⟩
  | .hbm, ⟨53, _⟩ => ⟨S8x4352x1024, .f32⟩
  | .hbm, ⟨54, _⟩ => ⟨S8x4352x1024, .f32⟩
  | .hbm, ⟨55, _⟩ => ⟨S8x4352x1024, .f32⟩
  | .hbm, ⟨56, _⟩ => ⟨S8x4352x16x64, .f32⟩
  | .hbm, ⟨57, _⟩ => ⟨S8x4352x16x64, .f32⟩
  | .hbm, ⟨58, _⟩ => ⟨S_, .f32⟩
  | .hbm, ⟨59, _⟩ => ⟨S8x4352x16, .f32⟩
  | .hbm, ⟨60, _⟩ => ⟨S8x4352x16x1, .f32⟩
  | .hbm, ⟨61, _⟩ => ⟨S_, .f32⟩
  | .hbm, ⟨62, _⟩ => ⟨S8x4352x16x1, .f32⟩
  | .hbm, ⟨63, _⟩ => ⟨S8x4352x16x1, .f32⟩
  | .hbm, ⟨64, _⟩ => ⟨S_, .f32⟩
  | .hbm, ⟨65, _⟩ => ⟨S8x4352x16x1, .f32⟩
  | .hbm, ⟨66, _⟩ => ⟨S8x4352x16x1, .f32⟩
  | .hbm, ⟨67, _⟩ => ⟨S8x4352x16x1, .f32⟩
  | .hbm, ⟨68, _⟩ => ⟨S8x4352x16x64, .f32⟩
  | .hbm, ⟨69, _⟩ => ⟨S8x4352x16x64, .f32⟩
  | .hbm, ⟨70, _⟩ => ⟨S1x1x1x64, .f32⟩
  | .hbm, ⟨71, _⟩ => ⟨S8x4352x16x64, .f32⟩
  | .hbm, ⟨72, _⟩ => ⟨S8x4352x16x64, .f32⟩
  | .hbm, ⟨73, _⟩ => ⟨S8x4352x16x64, .f32⟩
  | .hbm, ⟨74, _⟩ => ⟨S8x4352x16x64, .f32⟩
  | .hbm, ⟨75, _⟩ => ⟨S_, .f32⟩
  | .hbm, ⟨76, _⟩ => ⟨S8x4352x16, .f32⟩
  | .hbm, ⟨77, _⟩ => ⟨S8x4352x16x1, .f32⟩
  | .hbm, ⟨78, _⟩ => ⟨S_, .f32⟩
  | .hbm, ⟨79, _⟩ => ⟨S8x4352x16x1, .f32⟩
  | .hbm, ⟨80, _⟩ => ⟨S8x4352x16x1, .f32⟩
  | .hbm, ⟨81, _⟩ => ⟨S_, .f32⟩
  | .hbm, ⟨82, _⟩ => ⟨S8x4352x16x1, .f32⟩
  | .hbm, ⟨83, _⟩ => ⟨S8x4352x16x1, .f32⟩
  | .hbm, ⟨84, _⟩ => ⟨S8x4352x16x1, .f32⟩
  | .hbm, ⟨85, _⟩ => ⟨S8x4352x16x64, .f32⟩
  | .hbm, ⟨86, _⟩ => ⟨S8x4352x16x64, .f32⟩
  | .hbm, ⟨87, _⟩ => ⟨S1x1x1x64, .f32⟩
  | .hbm, ⟨88, _⟩ => ⟨S8x4352x16x64, .f32⟩
  | .hbm, ⟨89, _⟩ => ⟨S8x4352x16x64, .f32⟩
  | .hbm, ⟨90, _⟩ => ⟨S8x17x256x16x64, .f32⟩
  | .hbm, ⟨91, _⟩ => ⟨S8x17x16x256x64, .f32⟩
  | .hbm, ⟨92, _⟩ => ⟨S_, .f32⟩
  | .hbm, ⟨93, _⟩ => ⟨S8x17x16x256x64, .f32⟩
  | .hbm, ⟨94, _⟩ => ⟨S8x17x16x256x128, .f32⟩
  | .hbm, ⟨95, _⟩ => ⟨S8x17x16x256x128, .bf16⟩
  | .hbm, ⟨96, _⟩ => ⟨S8x1024x4352, .f32⟩
  | .hbm, ⟨97, _⟩ => ⟨S8x17x256x1024, .f32⟩
  | .hbm, ⟨98, _⟩ => ⟨S8x17x1024x256, .f32⟩
  | .hbm, ⟨99, _⟩ => ⟨S8x17x1024x256, .bf16⟩
  | .hbm, ⟨100, _⟩ => ⟨S8x17x256x1024, .f32⟩
  | .hbm, ⟨101, _⟩ => ⟨S8x17x1024x256, .f32⟩
  | .hbm, ⟨102, _⟩ => ⟨S8x17x1024x256, .bf16⟩
  | .hbm, ⟨103, _⟩ => ⟨S8x4352x1024, .f32⟩
  | .hbm, ⟨104, _⟩ => ⟨S8x4352x1024, .f32⟩
  | .hbm, ⟨105, _⟩ => ⟨S_, .f32⟩
  | .hbm, ⟨106, _⟩ => ⟨S8x4352x1024, .f32⟩
  | .hbm, ⟨107, _⟩ => ⟨S8x4352x1024, .f32⟩
  | .hbm, ⟨108, _⟩ => ⟨S_, .f32⟩
  | .hbm, ⟨109, _⟩ => ⟨S8x4352x1024, .f32⟩
  | .hbm, ⟨110, _⟩ => ⟨S8x4352x1024, .f32⟩
  | .hbm, ⟨111, _⟩ => ⟨S8x4352x1024, .f32⟩
  | .hbm, ⟨112, _⟩ => ⟨S8x1024x4352, .f32⟩
  | .hbm, ⟨113, _⟩ => ⟨S8x1024x4352, .bf16⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_9 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_call0_v0 : Ref sig .tc := ⟨.hbm, 103, rfl⟩
abbrev main_call0_v1 : Ref sig .tc := ⟨.hbm, 104, rfl⟩
abbrev main_call0_cst : Ref sig .tc := ⟨.hbm, 105, rfl⟩
abbrev main_call0_v2 : Ref sig .tc := ⟨.hbm, 106, rfl⟩
abbrev main_call0_v3 : Ref sig .tc := ⟨.hbm, 107, rfl⟩
abbrev main_call0_cst_0 : Ref sig .tc := ⟨.hbm, 108, rfl⟩
abbrev main_call0_v4 : Ref sig .tc := ⟨.hbm, 109, rfl⟩
abbrev main_call0_v5 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]
-- ==== Kernel4.lean ====
abbrev S8x4352x1024 : Shape := ⟨3, ![8, 4352, 1024]⟩
abbrev S8x1024 : Shape := ⟨2, ![8, 1024]⟩
abbrev S1024 : Shape := ⟨1, ![1024]⟩
abbrev S1024x1024 : Shape := ⟨2, ![1024, 1024]⟩
abbrev S1024x4096 : Shape := ⟨2, ![1024, 4096]⟩
abbrev S64 : Shape := ⟨1, ![64]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S256x32 : Shape := ⟨2, ![256, 32]⟩
abbrev S4352x32 : Shape := ⟨2, ![4352, 32]⟩
abbrev S32x4352 : Shape := ⟨2, ![32, 4352]⟩
abbrev S1x1024 : Shape := ⟨2, ![1, 1024]⟩
abbrev S9x1024 : Shape := ⟨2, ![9, 1024]⟩
abbrev S9x1024x1 : Shape := ⟨3, ![9, 1024, 1]⟩
abbrev S9x1024x128 : Shape := ⟨3, ![9, 1024, 128]⟩
abbrev S4096x1024 : Shape := ⟨2, ![4096, 1024]⟩
abbrev S64x1 : Shape := ⟨2, ![64, 1]⟩
abbrev S64x128 : Shape := ⟨2, ![64, 128]⟩
abbrev S8x17x256x1024 : Shape := ⟨4, ![8, 17, 256, 1024]⟩
abbrev S8x17x1024x256 : Shape := ⟨4, ![8, 17, 1024, 256]⟩
abbrev S8x1024x4352 : Shape := ⟨3, ![8, 1024, 4352]⟩
abbrev S8x17x16x256x128 : Shape := ⟨5, ![8, 17, 16, 256, 128]⟩
abbrev S1x1x1024x256 : Shape := ⟨4, ![1, 1, 1024, 256]⟩
abbrev S1x1024x256 : Shape := ⟨3, ![1, 1024, 256]⟩
abbrev S1x1024x128 : Shape := ⟨3, ![1, 1024, 128]⟩
abbrev S32x256 : Shape := ⟨2, ![32, 256]⟩
abbrev S1x1x16x256x128 : Shape := ⟨5, ![1, 1, 16, 256, 128]⟩
abbrev S1024x256 : Shape := ⟨2, ![1024, 256]⟩
abbrev S1024x128 : Shape := ⟨2, ![1024, 128]⟩
abbrev S256 : Shape := ⟨1, ![256]⟩
abbrev S1x256 : Shape := ⟨2, ![1, 256]⟩
abbrev S64x256 : Shape := ⟨2, ![64, 256]⟩
abbrev S16x256 : Shape := ⟨2, ![16, 256]⟩
abbrev S1x1x64x256 : Shape := ⟨4, ![1, 1, 64, 256]⟩
abbrev S128x256 : Shape := ⟨2, ![128, 256]⟩
abbrev S256x128 : Shape := ⟨2, ![256, 128]⟩
abbrev S1x1x1x256x128 : Shape := ⟨5, ![1, 1, 1, 256, 128]⟩

abbrev nBuf : Space → Nat
  | .hbm => 120
  | .vmem => 30
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x1024, .f32⟩
  | .hbm, ⟨3, _⟩ => ⟨S8x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x1024, .f32⟩
  | .hbm, ⟨8, _⟩ => ⟨S1024, .f32⟩
  | .hbm, ⟨9, _⟩ => ⟨S8x1024, .f32⟩
  | .hbm, ⟨10, _⟩ => ⟨S1024, .f32⟩
  | .hbm, ⟨11, _⟩ => ⟨S1024x4096, .f32⟩
  | .hbm, ⟨12, _⟩ => ⟨S64, .f32⟩
  | .hbm, ⟨13, _⟩ => ⟨S64, .f32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S_, .i1⟩
  | .hbm, ⟨50, _⟩ => ⟨S4096, .i1⟩
  | .hbm, ⟨51, _⟩ => ⟨S4096, .i1⟩
  | .hbm, ⟨52, _⟩ => ⟨S4096, .i1⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S4096, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S4096x1, .f32⟩
  | .hbm, ⟨66, _⟩ => ⟨S1x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x1, .f32⟩
  | .hbm, ⟨71, _⟩ => ⟨S1x16, .f32⟩
  | .hbm, ⟨72, _⟩ => ⟨S4096x16, .f32⟩
  | .hbm, ⟨73, _⟩ => ⟨S4096x16, .f32⟩
  | .hbm, ⟨74, _⟩ => ⟨S4096x16, .f32⟩
  | .hbm, ⟨75, _⟩ => ⟨S4096x32, .f32⟩
  | .hbm, ⟨76, _⟩ => ⟨S_, .f32⟩
  | .hbm, ⟨77, _⟩ => ⟨S256x32, .f32⟩
  | .hbm, ⟨78, _⟩ => ⟨S4352x32, .f32⟩
  | .hbm, ⟨79, _⟩ => ⟨S4352x32, .f32⟩
  | .hbm, ⟨80, _⟩ => ⟨S32x4352, .f32⟩
  | .hbm, ⟨81, _⟩ => ⟨S4352x32, .f32⟩
  | .hbm, ⟨82, _⟩ => ⟨S32x4352, .f32⟩
  | .hbm, ⟨83, _⟩ => ⟨S1x1024, .f32⟩
  | .hbm, ⟨84, _⟩ => ⟨S9x1024, .f32⟩
  | .hbm, ⟨85, _⟩ => ⟨S_, .f32⟩
  | .hbm, ⟨86, _⟩ => ⟨S9x1024, .f32⟩
  | .hbm, ⟨87, _⟩ => ⟨S9x1024, .f32⟩
  | .hbm, ⟨88, _⟩ => ⟨S1x1024, .f32⟩
  | .hbm, ⟨89, _⟩ => ⟨S9x1024, .f32⟩
  | .hbm, ⟨90, _⟩ => ⟨S9x1024, .f32⟩
  | .hbm, ⟨91, _⟩ => ⟨S9x1024x1, .f32⟩
  | .hbm, ⟨92, _⟩ => ⟨S9x1024x128, .f32⟩
  | .hbm, ⟨93, _⟩ => ⟨S1x1024, .f32⟩
  | .hbm, ⟨94, _⟩ => ⟨S9x1024, .f32⟩
  | .hbm, ⟨95, _⟩ => ⟨S9x1024x1, .f32⟩
  | .hbm, ⟨96, _⟩ => ⟨S9x1024x128, .f32⟩
  | .hbm, ⟨97, _⟩ => ⟨S4096x1024, .f32⟩
  | .hbm, ⟨98, _⟩ => ⟨S4096x1024, .bf16⟩
  | .hbm, ⟨99, _⟩ => ⟨S64x1, .f32⟩
  | .hbm, ⟨100, _⟩ => ⟨S64x128, .f32⟩
  | .hbm, ⟨101, _⟩ => ⟨S64x1, .f32⟩
  | .hbm, ⟨102, _⟩ => ⟨S64x128, .f32⟩
  | .hbm, ⟨103, _⟩ => ⟨S8x17x256x1024, .f32⟩
  | .hbm, ⟨104, _⟩ => ⟨S8x17x1024x256, .f32⟩
  | .hbm, ⟨105, _⟩ => ⟨S8x17x1024x256, .bf16⟩
  | .hbm, ⟨106, _⟩ => ⟨S8x1024x4352, .f32⟩
  | .hbm, ⟨107, _⟩ => ⟨S8x1024x4352, .bf16⟩
  | .hbm, ⟨108, _⟩ => ⟨S1024x1024, .f32⟩
  | .hbm, ⟨109, _⟩ => ⟨S1024x1024, .bf16⟩
  | .hbm, ⟨110, _⟩ => ⟨S1x1024, .f32⟩
  | .hbm, ⟨111, _⟩ => ⟨S9x1024, .f32⟩
  | .hbm, ⟨112, _⟩ => ⟨S9x1024x1, .f32⟩
  | .hbm, ⟨113, _⟩ => ⟨S9x1024x128, .f32⟩
  | .hbm, ⟨114, _⟩ => ⟨S8x1024x4352, .f32⟩
  | .hbm, ⟨115, _⟩ => ⟨S8x1024x4352, .f32⟩
  | .hbm, ⟨116, _⟩ => ⟨S8x17x1024x256, .bf16⟩
  | .hbm, ⟨117, _⟩ => ⟨S8x17x16x256x128, .bf16⟩
  | .hbm, ⟨118, _⟩ => ⟨S8x17x1024x256, .bf16⟩
  | .hbm, ⟨119, _⟩ => ⟨S8x1024x4352, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .bf16⟩
  | .local _ .vmem, ⟨5, _⟩ => ⟨S1x1024x128, .f32⟩
  | .local _ .vmem, ⟨6, _⟩ => ⟨S1x1024x128, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S4096x1024, .bf16⟩
  | .local _ .vmem, ⟨14, _⟩ => ⟨S32x256, .f32⟩
  | .local _ .vmem, ⟨15, _⟩ => ⟨S32x256, .f32⟩
  | .local _ .vmem, ⟨16, _⟩ => ⟨S32x256, .f32⟩
  | .local _ .vmem, ⟨17, _⟩ => ⟨S32x256, .f32⟩
  | .local _ .vmem, ⟨18, _⟩ => ⟨S64x128, .f32⟩
  | .local _ .vmem, ⟨19, _⟩ => ⟨S64x128, .f32⟩
  | .local _ .vmem, ⟨20, _⟩ => ⟨S1x1024x256, .f32⟩
  | .local _ .vmem, ⟨21, _⟩ => ⟨S1x1024x256, .f32⟩
  | .local _ .vmem, ⟨22, _⟩ => ⟨S1x1x1024x256, .bf16⟩
  | .local _ .vmem, ⟨23, _⟩ => ⟨S1x1x1024x256, .bf16⟩
  | .local _ .vmem, ⟨24, _⟩ => ⟨S1x1x16x256x128, .bf16⟩
  | .local _ .vmem, ⟨25, _⟩ => ⟨S1x1x16x256x128, .bf16⟩
  | .local _ .vmem, ⟨26, _⟩ => ⟨S1x1x1024x256, .bf16⟩
  | .local _ .vmem, ⟨27, _⟩ => ⟨S1x1x1024x256, .bf16⟩
  | .local _ .vmem, ⟨28, _⟩ => ⟨S1x1024x256, .bf16⟩
  | .local _ .vmem, ⟨29, _⟩ => ⟨S1x1024x256, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_v2 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_cst : Ref sig .tc := ⟨.hbm, 59, rfl⟩
abbrev main_v7 : Ref sig .tc := ⟨.hbm, 60, rfl⟩
abbrev main_v8 : Ref sig .tc := ⟨.hbm, 61, rfl⟩
abbrev main_cst_1 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_cst_2 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_cst_3 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59_0 : Ref sig .tc := ⟨.hbm, 115, rfl⟩
abbrev main_v59_1 : Ref sig .tc := ⟨.hbm, 116, rfl⟩
abbrev main_v59_2 : Ref sig .tc := ⟨.hbm, 117, rfl⟩
abbrev main_v59_3 : Ref sig .tc := ⟨.hbm, 118, rfl⟩
abbrev main_v59_4 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 17], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x16x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S8x4352x1024 : Shape := ⟨3, ![8, 4352, 1024]⟩
abbrev S8x1024 : Shape := ⟨2, ![8, 1024]⟩
abbrev S1024 : Shape := ⟨1, ![1024]⟩
abbrev S1024x1024 : Shape := ⟨2, ![1024, 1024]⟩
abbrev S1024x4096 : Shape := ⟨2, ![1024, 4096]⟩
abbrev S64 : Shape := ⟨1, ![64]⟩
abbrev S8x256x1024 : Shape := ⟨3, ![8, 256, 1024]⟩
abbrev S8x1x1024 : Shape := ⟨3, ![8, 1, 1024]⟩
abbrev S8x4096x1024 : Shape := ⟨3, ![8, 4096, 1024]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S8x4352x4096 : Shape := ⟨3, ![8, 4352, 4096]⟩
abbrev S8x4352x8x2x64 : Shape := ⟨5, ![8, 4352, 8, 2, 64]⟩
abbrev S8x4352x8x2 : Shape := ⟨4, ![8, 4352, 8, 2]⟩
abbrev S8x4352x8x2x1 : Shape := ⟨5, ![8, 4352, 8, 2, 1]⟩
abbrev S1x1x1x1x64 : Shape := ⟨5, ![1, 1, 1, 1, 64]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S8x256x8x2x64 : Shape := ⟨5, ![8, 256, 8, 2, 64]⟩
abbrev S8x4096x8x2x64 : Shape := ⟨5, ![8, 4096, 8, 2, 64]⟩
abbrev S8x4096x8x2x32 : Shape := ⟨5, ![8, 4096, 8, 2, 32]⟩
abbrev S8x4096x8x2x16 : Shape := ⟨5, ![8, 4096, 8, 2, 16]⟩
abbrev S1x4096x1x1x16 : Shape := ⟨5, ![1, 4096, 1, 1, 16]⟩
abbrev S8x17x256x16x64 : Shape := ⟨5, ![8, 17, 256, 16, 64]⟩
abbrev S8x17x16x256x64 : Shape := ⟨5, ![8, 17, 16, 256, 64]⟩
abbrev S8x17x16x256x128 : Shape := ⟨5, ![8, 17, 16, 256, 128]⟩
abbrev S8x1024x4352 : Shape := ⟨3, ![8, 1024, 4352]⟩
abbrev S8x17x256x1024 : Shape := ⟨4, ![8, 17, 256, 1024]⟩
abbrev S8x17x1024x256 : Shape := ⟨4, ![8, 17, 1024, 256]⟩

abbrev nBuf : Space → Nat
  | .hbm => 255
  | .vmem => 0
  | .smem => 0
  | _ => 0

abbrev hbmTy0_0 (i : Nat) : BufTy := match i % 128 with
  | 0 => ⟨S8x4352x1024, .f32⟩
  | 1 => ⟨S8x4352x1024, .f32⟩
  | 2 => ⟨S8x4352x1024, .f32⟩
  | 3 => ⟨S8x1024, .f32⟩
  | 4 => ⟨S1024, .f32⟩
  | 5 => ⟨S1024x1024, .f32⟩
  | 6 => ⟨S1024, .f32⟩
  | 7 => ⟨S8x1024, .f32⟩
  | 8 => ⟨S1024, .f32⟩
  | 9 => ⟨S8x1024, .f32⟩
  | 10 => ⟨S1024, .f32⟩
  | 11 => ⟨S1024x4096, .f32⟩
  | 12 => ⟨S64, .f32⟩
  | 13 => ⟨S64, .f32⟩
  | 14 => ⟨S8x256x1024, .f32⟩
  | 15 => ⟨S8x1x1024, .f32⟩
  | 16 => ⟨S8x4096x1024, .f32⟩
  | 17 => ⟨S8x4352x1024, .f32⟩
  | 18 => ⟨S8x4352x1024, .f32⟩
  | 19 => ⟨S8x4352x1024, .f32⟩
  | 20 => ⟨S8x4352x1024, .f32⟩
  | 21 => ⟨S8x4352x1024, .f32⟩
  | 22 => ⟨S8x4352x1024, .f32⟩
  | 23 => ⟨S_, .f32⟩
  | 24 => ⟨S8x4352, .f32⟩
  | 25 => ⟨S8x4352x1, .f32⟩
  | 26 => ⟨S_, .f32⟩
  | 27 => ⟨S8x4352x1, .f32⟩
  | 28 => ⟨S8x4352x1, .f32⟩
  | 29 => ⟨S_, .f32⟩
  | 30 => ⟨S8x4352x1, .f32⟩
  | 31 => ⟨S8x4352x1, .f32⟩
  | 32 => ⟨S8x4352x1, .f32⟩
  | 33 => ⟨S8x4352x1024, .f32⟩
  | 34 => ⟨S8x4352x1024, .f32⟩
  | 35 => ⟨S1x1x1024, .f32⟩
  | 36 => ⟨S8x4352x1024, .f32⟩
  | 37 => ⟨S8x4352x1024, .f32⟩
  | 38 => ⟨S8x256x1024, .f32⟩
  | 39 => ⟨S8x1x1024, .f32⟩
  | 40 => ⟨S8x4096x1024, .f32⟩
  | 41 => ⟨S8x4352x1024, .f32⟩
  | 42 => ⟨S_, .f32⟩
  | 43 => ⟨S8x4352x1024, .f32⟩
  | 44 => ⟨S8x4352x1024, .f32⟩
  | 45 => ⟨S8x4352x1024, .f32⟩
  | 46 => ⟨S8x256x1024, .f32⟩
  | 47 => ⟨S8x1x1024, .f32⟩
  | 48 => ⟨S8x4096x1024, .f32⟩
  | 49 => ⟨S8x4352x1024, .f32⟩
  | 50 => ⟨S8x4352x1024, .f32⟩
  | 51 => ⟨S8x4352x4096, .f32⟩
  | 52 => ⟨S8x4352x1024, .f32⟩
  | 53 => ⟨S8x4352x1024, .f32⟩
  | 54 => ⟨S8x4352x1024, .f32⟩
  | 55 => ⟨S8x4352x1024, .f32⟩
  | 56 => ⟨S8x4352x8x2x64, .f32⟩
  | 57 => ⟨S8x4352x8x2x64, .f32⟩
  | 58 => ⟨S_, .f32⟩
  | 59 => ⟨S8x4352x8x2, .f32⟩
  | 60 => ⟨S8x4352x8x2x1, .f32⟩
  | 61 => ⟨S_, .f32⟩
  | 62 => ⟨S8x4352x8x2x1, .f32⟩
  | 63 => ⟨S8x4352x8x2x1, .f32⟩
  | 64 => ⟨S_, .f32⟩
  | 65 => ⟨S8x4352x8x2x1, .f32⟩
  | 66 => ⟨S8x4352x8x2x1, .f32⟩
  | 67 => ⟨S8x4352x8x2x1, .f32⟩
  | 68 => ⟨S8x4352x8x2x64, .f32⟩
  | 69 => ⟨S8x4352x8x2x64, .f32⟩
  | 70 => ⟨S1x1x1x1x64, .f32⟩
  | 71 => ⟨S8x4352x8x2x64, .f32⟩
  | 72 => ⟨S8x4352x8x2x64, .f32⟩
  | 73 => ⟨S8x4352x8x2x64, .f32⟩
  | 74 => ⟨S8x4352x8x2x64, .f32⟩
  | 75 => ⟨S_, .f32⟩
  | 76 => ⟨S8x4352x8x2, .f32⟩
  | 77 => ⟨S8x4352x8x2x1, .f32⟩
  | 78 => ⟨S_, .f32⟩
  | 79 => ⟨S8x4352x8x2x1, .f32⟩
  | 80 => ⟨S8x4352x8x2x1, .f32⟩
  | 81 => ⟨S_, .f32⟩
  | 82 => ⟨S8x4352x8x2x1, .f32⟩
  | 83 => ⟨S8x4352x8x2x1, .f32⟩
  | 84 => ⟨S8x4352x8x2x1, .f32⟩
  | 85 => ⟨S8x4352x8x2x64, .f32⟩
  | 86 => ⟨S8x4352x8x2x64, .f32⟩
  | 87 => ⟨S1x1x1x1x64, .f32⟩
  | 88 => ⟨S8x4352x8x2x64, .f32⟩
  | 89 => ⟨S8x4352x8x2x64, .f32⟩
  | 90 => ⟨S4096, .i32⟩
  | 91 => ⟨S_, .i32⟩
  | 92 => ⟨S_, .i32⟩
  | 93 => ⟨S4096, .i32⟩
  | 94 => ⟨S4096, .i32⟩
  | 95 => ⟨S4096, .i32⟩
  | 96 => ⟨S_, .i32⟩
  | 97 => ⟨S4096, .i32⟩
  | 98 => ⟨S4096, .i1⟩
  | 99 => ⟨S4096, .i32⟩
  | 100 => ⟨S4096, .i32⟩
  | 101 => ⟨S_, .i32⟩
  | 102 => ⟨S4096, .i32⟩
  | 103 => ⟨S4096, .i1⟩
  | 104 => ⟨S4096, .i1⟩
  | 105 => ⟨S_, .i32⟩
  | 106 => ⟨S4096, .i32⟩
  | 107 => ⟨S4096, .i32⟩
  | 108 => ⟨S4096, .i32⟩
  | 109 => ⟨S4096, .f32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S4096, .i32⟩
  | 117 => ⟨S4096, .i32⟩
  | 118 => ⟨S_, .i32⟩
  | 119 => ⟨S4096, .i32⟩
  | 120 => ⟨S4096, .i1⟩
  | 121 => ⟨S_, .i32⟩
  | 122 => ⟨S4096, .i32⟩
  | 123 => ⟨S4096, .i1⟩
  | 124 => ⟨S_, .i32⟩
  | 125 => ⟨S_, .i1⟩
  | 126 => ⟨S4096, .i1⟩
  | 127 => ⟨S4096, .i1⟩
  | _ => ⟨S8x4352x1024, .f32⟩

abbrev hbmTy0_1 (i : Nat) : BufTy := match i % 128 with
  | 0 => ⟨S4096, .i1⟩
  | 1 => ⟨S4096, .i32⟩
  | 2 => ⟨S4096, .i32⟩
  | 3 => ⟨S4096, .i32⟩
  | 4 => ⟨S4096, .f32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S4096x1, .f32⟩
  | 14 => ⟨S1x16, .f32⟩
  | 15 => ⟨S4096x16, .f32⟩
  | 16 => ⟨S4096x16, .f32⟩
  | 17 => ⟨S4096x16, .f32⟩
  | 18 => ⟨S4096x1, .f32⟩
  | 19 => ⟨S1x16, .f32⟩
  | 20 => ⟨S4096x16, .f32⟩
  | 21 => ⟨S4096x16, .f32⟩
  | 22 => ⟨S4096x16, .f32⟩
  | 23 => ⟨S8x256x8x2x64, .f32⟩
  | 24 => ⟨S8x4096x8x2x64, .f32⟩
  | 25 => ⟨S8x4096x8x2x32, .f32⟩
  | 26 => ⟨S8x4096x8x2x32, .f32⟩
  | 27 => ⟨S8x4096x8x2x16, .f32⟩
  | 28 => ⟨S8x4096x8x2x16, .f32⟩
  | 29 => ⟨S4096x16, .f32⟩
  | 30 => ⟨S1x4096x1x1x16, .f32⟩
  | 31 => ⟨S4096x16, .f32⟩
  | 32 => ⟨S1x4096x1x1x16, .f32⟩
  | 33 => ⟨S8x4096x8x2x16, .f32⟩
  | 34 => ⟨S8x4096x8x2x16, .f32⟩
  | 35 => ⟨S8x4096x8x2x16, .f32⟩
  | 36 => ⟨S8x4096x8x2x16, .f32⟩
  | 37 => ⟨S8x4096x8x2x16, .f32⟩
  | 38 => ⟨S8x4096x8x2x16, .f32⟩
  | 39 => ⟨S8x4096x8x2x16, .f32⟩
  | 40 => ⟨S8x4096x8x2x16, .f32⟩
  | 41 => ⟨S8x4096x8x2x16, .f32⟩
  | 42 => ⟨S8x4096x8x2x16, .f32⟩
  | 43 => ⟨S8x4096x8x2x32, .f32⟩
  | 44 => ⟨S8x4096x8x2x16, .f32⟩
  | 45 => ⟨S8x4096x8x2x16, .f32⟩
  | 46 => ⟨S4096x16, .f32⟩
  | 47 => ⟨S1x4096x1x1x16, .f32⟩
  | 48 => ⟨S4096x16, .f32⟩
  | 49 => ⟨S1x4096x1x1x16, .f32⟩
  | 50 => ⟨S8x4096x8x2x16, .f32⟩
  | 51 => ⟨S8x4096x8x2x16, .f32⟩
  | 52 => ⟨S8x4096x8x2x16, .f32⟩
  | 53 => ⟨S8x4096x8x2x16, .f32⟩
  | 54 => ⟨S8x4096x8x2x16, .f32⟩
  | 55 => ⟨S8x4096x8x2x16, .f32⟩
  | 56 => ⟨S8x4096x8x2x16, .f32⟩
  | 57 => ⟨S8x4096x8x2x16, .f32⟩
  | 58 => ⟨S8x4096x8x2x16, .f32⟩
  | 59 => ⟨S8x4096x8x2x16, .f32⟩
  | 60 => ⟨S8x4096x8x2x32, .f32⟩
  | 61 => ⟨S8x4096x8x2x64, .f32⟩
  | 62 => ⟨S8x4352x8x2x64, .f32⟩
  | 63 => ⟨S8x256x8x2x64, .f32⟩
  | 64 => ⟨S8x4096x8x2x64, .f32⟩
  | 65 => ⟨S8x4096x8x2x32, .f32⟩
  | 66 => ⟨S8x4096x8x2x32, .f32⟩
  | 67 => ⟨S8x4096x8x2x16, .f32⟩
  | 68 => ⟨S8x4096x8x2x16, .f32⟩
  | 69 => ⟨S4096x16, .f32⟩
  | 70 => ⟨S1x4096x1x1x16, .f32⟩
  | 71 => ⟨S4096x16, .f32⟩
  | 72 => ⟨S1x4096x1x1x16, .f32⟩
  | 73 => ⟨S8x4096x8x2x16, .f32⟩
  | 74 => ⟨S8x4096x8x2x16, .f32⟩
  | 75 => ⟨S8x4096x8x2x16, .f32⟩
  | 76 => ⟨S8x4096x8x2x16, .f32⟩
  | 77 => ⟨S8x4096x8x2x16, .f32⟩
  | 78 => ⟨S8x4096x8x2x16, .f32⟩
  | 79 => ⟨S8x4096x8x2x16, .f32⟩
  | 80 => ⟨S8x4096x8x2x16, .f32⟩
  | 81 => ⟨S8x4096x8x2x16, .f32⟩
  | 82 => ⟨S8x4096x8x2x16, .f32⟩
  | 83 => ⟨S8x4096x8x2x32, .f32⟩
  | 84 => ⟨S8x4096x8x2x16, .f32⟩
  | 85 => ⟨S8x4096x8x2x16, .f32⟩
  | 86 => ⟨S4096x16, .f32⟩
  | 87 => ⟨S1x4096x1x1x16, .f32⟩
  | 88 => ⟨S4096x16, .f32⟩
  | 89 => ⟨S1x4096x1x1x16, .f32⟩
  | 90 => ⟨S8x4096x8x2x16, .f32⟩
  | 91 => ⟨S8x4096x8x2x16, .f32⟩
  | 92 => ⟨S8x4096x8x2x16, .f32⟩
  | 93 => ⟨S8x4096x8x2x16, .f32⟩
  | 94 => ⟨S8x4096x8x2x16, .f32⟩
  | 95 => ⟨S8x4096x8x2x16, .f32⟩
  | 96 => ⟨S8x4096x8x2x16, .f32⟩
  | 97 => ⟨S8x4096x8x2x16, .f32⟩
  | 98 => ⟨S8x4096x8x2x16, .f32⟩
  | 99 => ⟨S8x4096x8x2x16, .f32⟩
  | 100 => ⟨S8x4096x8x2x32, .f32⟩
  | 101 => ⟨S8x4096x8x2x64, .f32⟩
  | 102 => ⟨S8x4352x8x2x64, .f32⟩
  | 103 => ⟨S8x17x256x16x64, .f32⟩
  | 104 => ⟨S8x17x16x256x64, .f32⟩
  | 105 => ⟨S_, .f32⟩
  | 106 => ⟨S8x17x16x256x64, .f32⟩
  | 107 => ⟨S8x17x16x256x128, .f32⟩
  | 108 => ⟨S8x17x16x256x128, .bf16⟩
  | 109 => ⟨S8x1024x4352, .f32⟩
  | 110 => ⟨S8x17x256x1024, .f32⟩
  | 111 => ⟨S8x17x1024x256, .f32⟩
  | 112 => ⟨S8x17x1024x256, .bf16⟩
  | 113 => ⟨S8x17x256x1024, .f32⟩
  | 114 => ⟨S8x17x1024x256, .f32⟩
  | 115 => ⟨S8x17x1024x256, .bf16⟩
  | 116 => ⟨S8x4352x1024, .f32⟩
  | 117 => ⟨S8x4352x1024, .f32⟩
  | 118 => ⟨S_, .f32⟩
  | 119 => ⟨S8x4352x1024, .f32⟩
  | 120 => ⟨S8x4352x1024, .f32⟩
  | 121 => ⟨S_, .f32⟩
  | 122 => ⟨S8x4352x1024, .f32⟩
  | 123 => ⟨S8x4352x1024, .f32⟩
  | 124 => ⟨S8x4352x1024, .f32⟩
  | 125 => ⟨S8x1024x4352, .f32⟩
  | 126 => ⟨S8x1024x4352, .bf16⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_v5 : Ref sig .tc := ⟨.hbm, 97, rfl⟩
abbrev main_call0_v6 : Ref sig .tc := ⟨.hbm, 98, rfl⟩
abbrev main_call0_v7 : Ref sig .tc := ⟨.hbm, 99, rfl⟩
abbrev main_call0_v8 : Ref sig .tc := ⟨.hbm, 100, rfl⟩
abbrev main_call0_c : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_c_0 : Ref sig .tc := ⟨.hbm, 105, rfl⟩
abbrev main_call0_v12 : Ref sig .tc := ⟨.hbm, 106, rfl⟩
abbrev main_call0_v13 : Ref sig .tc := ⟨.hbm, 107, rfl⟩
abbrev main_v67 : Ref sig .tc := ⟨.hbm, 108, rfl⟩
abbrev main_v68 : Ref sig .tc := ⟨.hbm, 109, rfl⟩
abbrev main_c_9 : Ref sig .tc := ⟨.hbm, 110, rfl⟩
abbrev main_call1_v0 : Ref sig .tc := ⟨.hbm, 111, rfl⟩
abbrev main_call1_c : Ref sig .tc := ⟨.hbm, 112, rfl⟩
abbrev main_call1_v1 : Ref sig .tc := ⟨.hbm, 113, rfl⟩
abbrev main_call1_c_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_c_1 : Ref sig .tc := ⟨.hbm, 118, rfl⟩
abbrev main_call1_v5 : Ref sig .tc := ⟨.hbm, 119, rfl⟩
abbrev main_call1_v6 : Ref sig .tc := ⟨.hbm, 120, rfl⟩
abbrev main_call1_c_2 : Ref sig .tc := ⟨.hbm, 121, rfl⟩
abbrev main_call1_v7 : Ref sig .tc := ⟨.hbm, 122, rfl⟩
abbrev main_call1_v8 : Ref sig .tc := ⟨.hbm, 123, rfl⟩
abbrev main_call1_c_3 : Ref sig .tc := ⟨.hbm, 124, rfl⟩
abbrev main_call1_v9 : Ref sig .tc := ⟨.hbm, 125, rfl⟩
abbrev main_call1_v10 : Ref sig .tc := ⟨.hbm, 126, rfl⟩
abbrev main_call1_v11 : Ref sig .tc := ⟨.hbm, 127, rfl⟩
abbrev main_call1_v12 : Ref sig .tc := ⟨.hbm, 128, rfl⟩
abbrev main_call1_v13 : Ref sig .tc := ⟨.hbm, 129, rfl⟩
abbrev main_call1_v14 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_10 : Ref sig .tc := ⟨.hbm, 135, rfl⟩
abbrev main_v73 : Ref sig .tc := ⟨.hbm, 136, rfl⟩
abbrev main_v74 : Ref sig .tc := ⟨.hbm, 137, rfl⟩
abbrev main_cst_11 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_cst_12 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_call2_v0 : Ref sig .tc := ⟨.hbm, 244, rfl⟩
abbrev main_call2_v1 : Ref sig .tc := ⟨.hbm, 245, rfl⟩
abbrev main_call2_cst : Ref sig .tc := ⟨.hbm, 246, rfl⟩
abbrev main_call2_v2 : Ref sig .tc := ⟨.hbm, 247, rfl⟩
abbrev main_call2_v3 : Ref sig .tc := ⟨.hbm, 248, rfl⟩
abbrev main_call2_cst_0 : Ref sig .tc := ⟨.hbm, 249, rfl⟩
abbrev main_call2_v4 : Ref sig .tc := ⟨.hbm, 250, rfl⟩
abbrev main_call2_v5 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩

abbrev nD : Nat := 1
abbrev τ : Topo := Topo.v7x

variable {F : FTy → Type} [FloatOps F]
-- ==== Proof.Stages.lean ====
/-
  The kernel body as a sequence of stages. The attention call's body is one straight line of some five hundred memory
  operations and a loop of sixteen trips of some four hundred each; both are the same seven stages over and over — set the
  running maximum and the accumulator back, lay out a query tile, score a key tile, fold a scored tile into the
  accumulator, divide and write a result tile. Here each stage is a program with its tile and its buffer as parameters,
  and the printed body is their sequence.
-/
module

public import proofs.«01_k».proof.Proof.Gen.KernelIdeal.Skeleton
public import Idealize.ShloMosaic.Lib.Pipeline.Regions

@[expose] public section

set_option maxRecDepth 65536

noncomputable section

namespace Cert.Proof.Gqa

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-! ## The rectangles the body accesses -/

/-- Key tile `t` of the window of keys. -/
abbrev rK (t : ℕ) (h : ∀ a, (![0, t, 0, 0, 0] : Fin 5 → ℕ) a + S1x1x1x256x128.size a ≤ S1x17x1x256x128.size a) : Rect S1x17x1x256x128 :=
  Rect.unit (s := S1x17x1x256x128) ![0, t, 0, 0, 0] S1x1x1x256x128.size h
/-- Value tile `t` of the window of values. -/
abbrev rV (t : ℕ) (h : ∀ a, (![0, t, 0, 0] : Fin 4 → ℕ) a + S1x1x64x256.size a ≤ S1x17x64x256.size a) : Rect S1x17x64x256 :=
  Rect.unit (s := S1x17x64x256) ![0, t, 0, 0] S1x1x64x256.size h
/-- A 64 × 256 part of the window of queries, or of results, at the offset `o`. -/
abbrev rQ (o : Fin 4 → ℕ) (h : ∀ a, o a + S1x1x64x256.size a ≤ S1x17x256x256.size a) : Rect S1x17x256x256 :=
  Rect.unit (s := S1x17x256x256) o S1x1x64x256.size h
/-- Buffer `b` of the scores, whole. -/
abbrev rS (b : ℕ) (h : ∀ a, (![b, 0, 0] : Fin 3 → ℕ) a + S1x256x1024.size a ≤ S3x256x1024.size a) : Rect S3x256x1024 :=
  Rect.unit (s := S3x256x1024) ![b, 0, 0] S1x256x1024.size h
/-- Columns `o` to `o + 255` of buffer `b` of the scores. -/
abbrev rSc (b o : ℕ) (h : ∀ a, (![b, 0, o] : Fin 3 → ℕ) a + S1x256x256.size a ≤ S3x256x1024.size a) : Rect S3x256x1024 :=
  Rect.unit (s := S3x256x1024) ![b, 0, o] S1x256x256.size h
/-- Buffer `b` of the tile maxima. -/
abbrev rX (b : ℕ) (h : ∀ a, (![b, 0, 0] : Fin 3 → ℕ) a + S1x1x1024.size a ≤ S4x1x1024.size a) : Rect S4x1x1024 :=
  Rect.unit (s := S4x1x1024) ![b, 0, 0] S1x1x1024.size h
/-- The running maximum. -/
abbrev rM : Rect S2x1x1024 := Rect.unit (s := S2x1x1024) ![0, 0, 0] S1x1x1024.size inb_S2x1x1024_S1x1x1024_0_0_0
/-- The laid-out queries, whole. -/
abbrev rC : Rect S64x1024 := Rect.unit (s := S64x1024) ![0, 0] S64x1024.size inb_S64x1024_S64x1024_0_0
abbrev rC0 : Rect S64x1024 := Rect.unit (s := S64x1024) ![0, 0] S64x256.size inb_S64x1024_S64x256_0_0
abbrev rC1 : Rect S64x1024 := Rect.unit (s := S64x1024) ![0, 256] S64x256.size inb_S64x1024_S64x256_0_256
abbrev rC2 : Rect S64x1024 := Rect.unit (s := S64x1024) ![0, 512] S64x256.size inb_S64x1024_S64x256_0_512
abbrev rC3 : Rect S64x1024 := Rect.unit (s := S64x1024) ![0, 768] S64x256.size inb_S64x1024_S64x256_0_768
/-- The accumulator, whole, its first 64 rows, and the row of sums. -/
abbrev rA : Rect S80x1024 := Rect.unit (s := S80x1024) ![0, 0] S80x1024.size inb_S80x1024_S80x1024_0_0
abbrev rAv : Rect S80x1024 := Rect.unit (s := S80x1024) ![0, 0] S64x1024.size inb_S80x1024_S64x1024_0_0
abbrev rAl : Rect S80x1024 := Rect.unit (s := S80x1024) ![64, 0] S1x1024.size inb_S80x1024_S1x1024_64_0
abbrev rA0 : Rect S80x1024 := Rect.unit (s := S80x1024) ![0, 0] S80x256.size inb_S80x1024_S80x256_0_0
abbrev rA1 : Rect S80x1024 := Rect.unit (s := S80x1024) ![0, 256] S80x256.size inb_S80x1024_S80x256_0_256
abbrev rA2 : Rect S80x1024 := Rect.unit (s := S80x1024) ![0, 512] S80x256.size inb_S80x1024_S80x256_0_512
abbrev rA3 : Rect S80x1024 := Rect.unit (s := S80x1024) ![0, 768] S80x256.size inb_S80x1024_S80x256_0_768

/-- Tile `t` of seventeen lies in the window of keys, -/
theorem inbK {t : ℕ} (ht : t < 17) : ∀ a, (![0, t, 0, 0, 0] : Fin 5 → ℕ) a + S1x1x1x256x128.size a ≤ S1x17x1x256x128.size a := by
  intro a; fin_cases a <;> simp <;> omega
/-- and in the window of values; -/
theorem inbV {t : ℕ} (ht : t < 17) : ∀ a, (![0, t, 0, 0] : Fin 4 → ℕ) a + S1x1x64x256.size a ≤ S1x17x64x256.size a := by
  intro a; fin_cases a <;> simp <;> omega
/-- buffer `b` of three lies in the scores, -/
theorem inbS {b : ℕ} (hb : b < 3) : ∀ a, (![b, 0, 0] : Fin 3 → ℕ) a + S1x256x1024.size a ≤ S3x256x1024.size a := by
  intro a; fin_cases a <;> simp <;> omega
/-- and 256 of its columns, -/
theorem inbSc {b o : ℕ} (hb : b < 3) (ho : o ≤ 768) : ∀ a, (![b, 0, o] : Fin 3 → ℕ) a + S1x256x256.size a ≤ S3x256x1024.size a := by
  intro a; fin_cases a <;> simp <;> omega
/-- and in the tile maxima. -/
theorem inbX {b : ℕ} (hb : b < 3) : ∀ a, (![b, 0, 0] : Fin 3 → ℕ) a + S1x1x1024.size a ≤ S4x1x1024.size a := by
  intro a; fin_cases a <;> simp <;> omega

/-! ## The stages -/

section Stages

variable (arg2 : Memref sig .tc .vmem S1x17x256x256 .f32) (harg2 : arg2.IsWhole) (arg3 : Memref sig .tc .vmem S1x17x1x256x128 .bf16) (harg3 : arg3.IsWhole) (arg4 : Memref sig .tc .vmem S1x17x64x256 .bf16) (harg4 : arg4.IsWhole) (arg5 : Memref sig .tc .vmem S1x17x256x256 .bf16) (harg5 : arg5.IsWhole) (arg6 : Memref sig .tc .vmem S2x1x1024 .f32) (harg6 : arg6.IsWhole) (arg7 : Memref sig .tc .vmem S64x1024 .bf16) (harg7 : arg7.IsWhole) (arg8 : Memref sig .tc .vmem S3x256x1024 .f32) (harg8 : arg8.IsWhole) (arg9 : Memref sig .tc .vmem S4x1x1024 .f32) (harg9 : arg9.IsWhole) (arg10 : Memref sig .tc .vmem S80x1024 .f32) (harg10 : arg10.IsWhole)

/-- The body's effects. -/
abbrev Eff (F : FTy → Type) := TpuEff nD τ sig (Elt F) Λ₀ .tc

/-- Set the running maximum and the accumulator to their first values. -/
def resetP : Prog (Eff F) PUnit := do
  let _ : Vec F S1x1x1024 .f32 ← Prog.lift (.load arg6 rM.toLoadRect (View.loadsAt_vmem h_S1x1x1024))
  Prog.lift (.store arg6 rM (k0_pay251 (F := F)) Finset.univ (View.stores_vmem_bits_univ h_S1x1x1024 rfl) (.inl rfl))
  let _ : Vec F S80x1024 .f32 ← Prog.lift (.load arg10 rA.toLoadRect (View.loadsAt_vmem h_S80x1024))
  Prog.lift (.store arg10 rA (k0_pay252 (F := F)) Finset.univ (View.stores_vmem_bits_univ h_S80x1024 rfl) (.inl rfl))

/-- Lay the four parts of a query tile out side by side. -/
def buildP (o0 o1 o2 o3 : Fin 4 → ℕ) (h0 : ∀ a, o0 a + S1x1x64x256.size a ≤ S1x17x256x256.size a)
    (h1 : ∀ a, o1 a + S1x1x64x256.size a ≤ S1x17x256x256.size a) (h2 : ∀ a, o2 a + S1x1x64x256.size a ≤ S1x17x256x256.size a)
    (h3 : ∀ a, o3 a + S1x1x64x256.size a ≤ S1x17x256x256.size a) : Prog (Eff F) PUnit := do
  let x0 : Vec F S1x1x64x256 .f32 ← Prog.lift (.load arg2 (rQ o0 h0).toLoadRect (View.loadsAt_vmem h_S1x1x64x256))
  let _ : Vec F S64x256 .bf16 ← Prog.lift (.load arg7 rC0.toLoadRect (View.loadsAt_vmem h_S64x256))
  Prog.lift (.store arg7 rC0 (k0_pay253 x0) Finset.univ (View.stores_vmem h_S64x256 (harg7.storeExact_slice rfl _ packedbf16_S64x1024_S64x256_0_0) (fun _ => rfl)) (.inl rfl))
  let x1 : Vec F S1x1x64x256 .f32 ← Prog.lift (.load arg2 (rQ o1 h1).toLoadRect (View.loadsAt_vmem h_S1x1x64x256))
  let _ : Vec F S64x256 .bf16 ← Prog.lift (.load arg7 rC1.toLoadRect (View.loadsAt_vmem h_S64x256))
  Prog.lift (.store arg7 rC1 (k0_pay253 x1) Finset.univ (View.stores_vmem h_S64x256 (harg7.storeExact_slice rfl _ packedbf16_S64x1024_S64x256_0_256) (fun _ => rfl)) (.inl rfl))
  let x2 : Vec F S1x1x64x256 .f32 ← Prog.lift (.load arg2 (rQ o2 h2).toLoadRect (View.loadsAt_vmem h_S1x1x64x256))
  let _ : Vec F S64x256 .bf16 ← Prog.lift (.load arg7 rC2.toLoadRect (View.loadsAt_vmem h_S64x256))
  Prog.lift (.store arg7 rC2 (k0_pay253 x2) Finset.univ (View.stores_vmem h_S64x256 (harg7.storeExact_slice rfl _ packedbf16_S64x1024_S64x256_0_512) (fun _ => rfl)) (.inl rfl))
  let x3 : Vec F S1x1x64x256 .f32 ← Prog.lift (.load arg2 (rQ o3 h3).toLoadRect (View.loadsAt_vmem h_S1x1x64x256))
  let _ : Vec F S64x256 .bf16 ← Prog.lift (.load arg7 rC3.toLoadRect (View.loadsAt_vmem h_S64x256))
  Prog.lift (.store arg7 rC3 (k0_pay253 x3) Finset.univ (View.stores_vmem h_S64x256 (harg7.storeExact_slice rfl _ packedbf16_S64x1024_S64x256_0_768) (fun _ => rfl)) (.inl rfl))

/-- Score key tile `t` against the laid-out queries into buffer `b`, and take each query's maximum. -/
def scoreP (t b : ℕ) (ht : t < 17) (hb : b < 3) : Prog (Eff F) PUnit := do
  let k : Vec F S1x1x1x256x128 .bf16 ← Prog.lift (.load arg3 (rK t (inbK ht)).toLoadRect (View.loadsAt_vmem h_S1x1x1x256x128))
  let q : Vec F S64x1024 .bf16 ← Prog.lift (.load arg7 rC.toLoadRect (View.loadsAt_vmem h_S64x1024))
  let _ : Vec F S1x256x1024 .f32 ← Prog.lift (.load arg8 (rS b (inbS hb)).toLoadRect (View.loadsAt_vmem h_S1x256x1024))
  Prog.lift (.store arg8 (rS b (inbS hb)) (k0_pay4 k q) Finset.univ (View.stores_vmem_bits_univ h_S1x256x1024 rfl) (.inl rfl))
  let _ : Vec F S1x1x1024 .f32 ← Prog.lift (.load arg9 (rX b (inbX hb)).toLoadRect (View.loadsAt_vmem h_S1x1x1024))
  Prog.lift (.store arg9 (rX b (inbX hb)) (k0_pay5 k q) Finset.univ (View.stores_vmem_bits_univ h_S1x1x1024 rfl) (.inl rfl))

/-- What the fold of one scored tile leaves in a quarter of the accumulator, quarter by quarter. -/
def foldPay0 (v : Vec F S1x1x64x256 .bf16) (mo mx : Vec F S1x1x1024 .f32) (s : Vec F S1x256x256 .f32) (a : Vec F S80x256 .f32) : FVec F S80x256 .f32 :=
  k0_pay12 (k0_pay7 mo mx) (k0_pay8 mo mx) (k0_pay10 v) k0_pay11 s a
def foldPay1 (v : Vec F S1x1x64x256 .bf16) (mo mx : Vec F S1x1x1024 .f32) (s : Vec F S1x256x256 .f32) (a : Vec F S80x256 .f32) : FVec F S80x256 .f32 :=
  k0_pay13 (k0_pay7 mo mx) (k0_pay8 mo mx) v s a
def foldPay2 (v : Vec F S1x1x64x256 .bf16) (mo mx : Vec F S1x1x1024 .f32) (s : Vec F S1x256x256 .f32) (a : Vec F S80x256 .f32) : FVec F S80x256 .f32 :=
  k0_pay14 (k0_pay7 mo mx) (k0_pay8 mo mx) v s a
def foldPay3 (v : Vec F S1x1x64x256 .bf16) (mo mx : Vec F S1x1x1024 .f32) (s : Vec F S1x256x256 .f32) (a : Vec F S80x256 .f32) : FVec F S80x256 .f32 :=
  k0_pay18 (k0_pay15 v) (k0_pay16 (k0_pay7 mo mx) s) (k0_pay17 (k0_pay8 mo mx) a) (constant S80x256 .f32 0x00000000#32)

/-- Fold the scored tile `t` in buffer `b` into the running maximum and the accumulator. -/
def valueP (t b : ℕ) (ht : t < 17) (hb : b < 3) : Prog (Eff F) PUnit := do
  let mo : Vec F S1x1x1024 .f32 ← Prog.lift (.load arg6 rM.toLoadRect (View.loadsAt_vmem h_S1x1x1024))
  let mx : Vec F S1x1x1024 .f32 ← Prog.lift (.load arg9 (rX b (inbX hb)).toLoadRect (View.loadsAt_vmem h_S1x1x1024))
  let _ : Vec F S1x1x1024 .f32 ← Prog.lift (.load arg6 rM.toLoadRect (View.loadsAt_vmem h_S1x1x1024))
  Prog.lift (.store arg6 rM (k0_pay9 mo mx) Finset.univ (View.stores_vmem_bits_univ h_S1x1x1024 rfl) (.inl rfl))
  let v0 : Vec F S1x1x64x256 .bf16 ← Prog.lift (.load arg4 (rV t (inbV ht)).toLoadRect (View.loadsAt_vmem h_S1x1x64x256))
  let s0 : Vec F S1x256x256 .f32 ← Prog.lift (.load arg8 (rSc b 0 (inbSc hb (by decide))).toLoadRect (View.loadsAt_vmem h_S1x256x256))
  let a0 : Vec F S80x256 .f32 ← Prog.lift (.load arg10 rA0.toLoadRect (View.loadsAt_vmem h_S80x256))
  let _ : Vec F S80x256 .f32 ← Prog.lift (.load arg10 rA0.toLoadRect (View.loadsAt_vmem h_S80x256))
  Prog.lift (.store arg10 rA0 (foldPay0 v0 mo mx s0 a0) Finset.univ (View.stores_vmem_bits_univ h_S80x256 rfl) (.inl rfl))
  let v1 : Vec F S1x1x64x256 .bf16 ← Prog.lift (.load arg4 (rV t (inbV ht)).toLoadRect (View.loadsAt_vmem h_S1x1x64x256))
  let s1 : Vec F S1x256x256 .f32 ← Prog.lift (.load arg8 (rSc b 256 (inbSc hb (by decide))).toLoadRect (View.loadsAt_vmem h_S1x256x256))
  let a1 : Vec F S80x256 .f32 ← Prog.lift (.load arg10 rA1.toLoadRect (View.loadsAt_vmem h_S80x256))
  let _ : Vec F S80x256 .f32 ← Prog.lift (.load arg10 rA1.toLoadRect (View.loadsAt_vmem h_S80x256))
  Prog.lift (.store arg10 rA1 (foldPay1 v1 mo mx s1 a1) Finset.univ (View.stores_vmem_bits_univ h_S80x256 rfl) (.inl rfl))
  let v2 : Vec F S1x1x64x256 .bf16 ← Prog.lift (.load arg4 (rV t (inbV ht)).toLoadRect (View.loadsAt_vmem h_S1x1x64x256))
  let s2 : Vec F S1x256x256 .f32 ← Prog.lift (.load arg8 (rSc b 512 (inbSc hb (by decide))).toLoadRect (View.loadsAt_vmem h_S1x256x256))
  let a2 : Vec F S80x256 .f32 ← Prog.lift (.load arg10 rA2.toLoadRect (View.loadsAt_vmem h_S80x256))
  let _ : Vec F S80x256 .f32 ← Prog.lift (.load arg10 rA2.toLoadRect (View.loadsAt_vmem h_S80x256))
  Prog.lift (.store arg10 rA2 (foldPay2 v2 mo mx s2 a2) Finset.univ (View.stores_vmem_bits_univ h_S80x256 rfl) (.inl rfl))
  let v3 : Vec F S1x1x64x256 .bf16 ← Prog.lift (.load arg4 (rV t (inbV ht)).toLoadRect (View.loadsAt_vmem h_S1x1x64x256))
  let s3 : Vec F S1x256x256 .f32 ← Prog.lift (.load arg8 (rSc b 768 (inbSc hb (by decide))).toLoadRect (View.loadsAt_vmem h_S1x256x256))
  let a3 : Vec F S80x256 .f32 ← Prog.lift (.load arg10 rA3.toLoadRect (View.loadsAt_vmem h_S80x256))
  let _ : Vec F S80x256 .f32 ← Prog.lift (.load arg10 rA3.toLoadRect (View.loadsAt_vmem h_S80x256))
  Prog.lift (.store arg10 rA3 (foldPay3 v3 mo mx s3 a3) Finset.univ (View.stores_vmem_bits_univ h_S80x256 rfl) (.inl rfl))

/-- A part's place in the window of results. -/
structure Place where
  o : Fin 4 → ℕ
  h : ∀ a, o a + S1x1x64x256.size a ≤ S1x17x256x256.size a
  p : (rQ o h).PackedRows (EltTy.packing .bf16)

/-- Divide the accumulated values by the accumulated sums and write the four parts of a result tile. -/
def finalizeP (p0 p1 p2 p3 : Place) : Prog (Eff F) PUnit := do
  let n : Vec F S64x1024 .f32 ← Prog.lift (.load arg10 rAv.toLoadRect (View.loadsAt_vmem h_S64x1024))
  let l : Vec F S1x1024 .f32 ← Prog.lift (.load arg10 rAl.toLoadRect (View.loadsAt_vmem h_S1x1024))
  let _ : Vec F S1x1x64x256 .bf16 ← Prog.lift (.load arg5 (rQ p0.o p0.h).toLoadRect (View.loadsAt_vmem h_S1x1x64x256))
  Prog.lift (.store arg5 (rQ p0.o p0.h) (k0_pay246 n l) Finset.univ (View.stores_vmem h_S1x1x64x256 (harg5.storeExact_slice rfl _ p0.p) (fun _ => rfl)) (.inl rfl))
  let _ : Vec F S1x1x64x256 .bf16 ← Prog.lift (.load arg5 (rQ p1.o p1.h).toLoadRect (View.loadsAt_vmem h_S1x1x64x256))
  Prog.lift (.store arg5 (rQ p1.o p1.h) (k0_pay247 n l) Finset.univ (View.stores_vmem h_S1x1x64x256 (harg5.storeExact_slice rfl _ p1.p) (fun _ => rfl)) (.inl rfl))
  let _ : Vec F S1x1x64x256 .bf16 ← Prog.lift (.load arg5 (rQ p2.o p2.h).toLoadRect (View.loadsAt_vmem h_S1x1x64x256))
  Prog.lift (.store arg5 (rQ p2.o p2.h) (k0_pay249 (k0_pay248 n l)) Finset.univ (View.stores_vmem h_S1x1x64x256 (harg5.storeExact_slice rfl _ p2.p) (fun _ => rfl)) (.inl rfl))
  let _ : Vec F S1x1x64x256 .bf16 ← Prog.lift (.load arg5 (rQ p3.o p3.h).toLoadRect (View.loadsAt_vmem h_S1x1x64x256))
  Prog.lift (.store arg5 (rQ p3.o p3.h) (k0_pay250 (k0_pay245 n l)) Finset.univ (View.stores_vmem h_S1x1x64x256 (harg5.storeExact_slice rfl _ p3.p) (fun _ => rfl)) (.inl rfl))

/-- The buffer tile `g` of seventeen is scored into: the two are taken in turn, and the last has its own. -/
def buf (g : ℕ) : ℕ := if g = 16 then 2 else g % 2

theorem buf_lt (g : ℕ) : buf g < 3 := by unfold buf; split <;> omega

/-- The first `n` pairs "score the next tile, fold this one". -/
def groupsP : (n : ℕ) → n < 17 → Prog (Eff F) PUnit
  | 0, _ => pure ⟨⟩
  | n + 1, h => do
    groupsP n (Nat.lt_of_succ_lt h)
    scoreP arg3 arg7 arg8 arg9 (n + 1) (buf (n + 1)) h (buf_lt _)
    valueP arg4 arg6 arg8 arg9 arg10 n (buf n) (Nat.lt_of_succ_lt h) (buf_lt _)

/-- One trip of the loop: all seventeen key tiles for one query tile, its result, and the start of the next one. -/
def tripP (p0 p1 p2 p3 : Place) (o0 o1 o2 o3 : Fin 4 → ℕ) (h0 : ∀ a, o0 a + S1x1x64x256.size a ≤ S1x17x256x256.size a)
    (h1 : ∀ a, o1 a + S1x1x64x256.size a ≤ S1x17x256x256.size a) (h2 : ∀ a, o2 a + S1x1x64x256.size a ≤ S1x17x256x256.size a)
    (h3 : ∀ a, o3 a + S1x1x64x256.size a ≤ S1x17x256x256.size a) : Prog (Eff F) PUnit := do
  groupsP arg3 arg4 arg6 arg7 arg8 arg9 arg10 16 (by decide)
  valueP arg4 arg6 arg8 arg9 arg10 16 2 (by decide) (by decide)
  finalizeP arg5 harg5 arg10 p0 p1 p2 p3
  resetP arg6 arg10
  buildP arg2 arg7 harg7 o0 o1 o2 o3 h0 h1 h2 h3
  scoreP arg3 arg7 arg8 arg9 0 0 (by decide) (by decide)

/-- The body up to its loop: the first query tile, which sees the first key tile only, and the start of the second. -/
def headP : Prog (Eff F) PUnit := do
  resetP arg6 arg10
  buildP arg2 arg7 harg7 ![0, 0, 0, 0] ![0, 0, 64, 0] ![0, 0, 128, 0] ![0, 0, 192, 0] inb_S1x17x256x256_S1x1x64x256_0_0_0_0 inb_S1x17x256x256_S1x1x64x256_0_0_64_0 inb_S1x17x256x256_S1x1x64x256_0_0_128_0 inb_S1x17x256x256_S1x1x64x256_0_0_192_0
  scoreP arg3 arg7 arg8 arg9 0 0 (by decide) (by decide)
  valueP arg4 arg6 arg8 arg9 arg10 0 0 (by decide) (by decide)
  finalizeP arg5 harg5 arg10 ⟨![0, 0, 0, 0], inb_S1x17x256x256_S1x1x64x256_0_0_0_0, packedbf16_S1x17x256x256_S1x1x64x256_0_0_0_0⟩ ⟨![0, 0, 64, 0], inb_S1x17x256x256_S1x1x64x256_0_0_64_0, packedbf16_S1x17x256x256_S1x1x64x256_0_0_64_0⟩
    ⟨![0, 0, 128, 0], inb_S1x17x256x256_S1x1x64x256_0_0_128_0, packedbf16_S1x17x256x256_S1x1x64x256_0_0_128_0⟩ ⟨![0, 0, 192, 0], inb_S1x17x256x256_S1x1x64x256_0_0_192_0, packedbf16_S1x17x256x256_S1x1x64x256_0_0_192_0⟩
  resetP arg6 arg10
  buildP arg2 arg7 harg7 ![0, 1, 0, 0] ![0, 1, 64, 0] ![0, 1, 128, 0] ![0, 1, 192, 0] inb_S1x17x256x256_S1x1x64x256_0_1_0_0 inb_S1x17x256x256_S1x1x64x256_0_1_64_0 inb_S1x17x256x256_S1x1x64x256_0_1_128_0 inb_S1x17x256x256_S1x1x64x256_0_1_192_0
  scoreP arg3 arg7 arg8 arg9 0 0 (by decide) (by decide)

end Stages

/-! ## The printed body is the sequence -/

section Equal

variable (i : grid0.Coords) (arg2 : Memref sig .tc .vmem S1x17x256x256 .f32) (harg2 : arg2.IsWhole) (arg3 : Memref sig .tc .vmem S1x17x1x256x128 .bf16) (harg3 : arg3.IsWhole) (arg4 : Memref sig .tc .vmem S1x17x64x256 .bf16) (harg4 : arg4.IsWhole) (arg5 : Memref sig .tc .vmem S1x17x256x256 .bf16) (harg5 : arg5.IsWhole) (arg6 : Memref sig .tc .vmem S2x1x1024 .f32) (harg6 : arg6.IsWhole) (arg7 : Memref sig .tc .vmem S64x1024 .bf16) (harg7 : arg7.IsWhole) (arg8 : Memref sig .tc .vmem S3x256x1024 .f32) (harg8 : arg8.IsWhole) (arg9 : Memref sig .tc .vmem S4x1x1024 .f32) (harg9 : arg9.IsWhole) (arg10 : Memref sig .tc .vmem S80x1024 .f32) (harg10 : arg10.IsWhole)

/-- A trip of the printed loop is the trip stage by stage. -/
theorem trip_eq (k : Fin k0_t1_loop.trips) :
    k0_t1_body (F := F) i arg2 harg2 arg3 harg3 arg4 harg4 arg5 harg5 arg6 harg6 arg7 harg7 arg8 harg8 arg9 harg9 arg10 harg10 k ()
      = tripP arg2 arg3 arg4 arg5 harg5 arg6 arg7 harg7 arg8 arg9 arg10
          ⟨k0_off1 k, k0_off1_inb k, k0_off1_packedbf16 k⟩ ⟨k0_off2 k, k0_off2_inb k, k0_off2_packedbf16 k⟩
          ⟨k0_off3 k, k0_off3_inb k, k0_off3_packedbf16 k⟩ ⟨k0_off4 k, k0_off4_inb k, k0_off4_packedbf16 k⟩
          (k0_off5 k) (k0_off6 k) (k0_off7 k) (k0_off8 k) (k0_off5_inb k) (k0_off6_inb k) (k0_off7_inb k) (k0_off8_inb k) := by
  chain_rfl

/-- The printed body is its head, then its loop. -/
theorem body_eq :
    cc0_gqa_attn (F := F) i arg2 harg2 arg3 harg3 arg4 harg4 arg5 harg5 arg6 harg6 arg7 harg7 arg8 harg8 arg9 harg9 arg10 harg10
      = (headP arg2 arg3 arg4 arg5 harg5 arg6 arg7 harg7 arg8 arg9 arg10 >>= fun _ =>
          (Scf.Loop.for k0_t1_loop k0_t1_ok ⟨⟩ (k0_t1_body i arg2 harg2 arg3 harg3 arg4 harg4 arg5 harg5 arg6 harg6 arg7 harg7 arg8 harg8 arg9 harg9 arg10 harg10)
            >>= fun _ => pure ⟨⟩)) := by
  chain_rfl

end Equal

end Cert.Proof.Gqa

end
-- ==== Proof.State.lean ====
/-
  The buffers the kernel body works on, as plain arrays. The nine buffers of a point are held together (`Pts`), each as
  the array read through it; a load at the head of a program reads the array through its rectangle (`rd`), and a store
  leaves the array with the rectangle's part replaced (`upd`).
-/
module

public import proofs.«01_k».proof.Proof.Stages
public import Idealize.ShloMosaic.Lib.Pipeline.Frame
public import Idealize.ShloMosaic.Lib.Tactic
public import Idealize.ShloMosaic.Lib.WholeRead

@[expose] public section

set_option maxRecDepth 16384

noncomputable section

namespace Cert.Proof.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Reading and replacing a part of an array -/

/-- The part of `X` under the rectangle `r`. -/
def rd {s : Shape} {α : Type} (r : Rect s) (X : s.Idx → α) : r.shape.Idx → α := fun x => X (r.idx x)

open Classical in
/-- `X` with the part under `r` replaced by `w`. -/
def upd {s : Shape} {α : Type} (r : Rect s) (w : r.shape.Idx → α) (X : s.Idx → α) : s.Idx → α :=
  fun y => if h : ∃ x, r.idx x = y then w h.choose else X y

section Upd

variable {s : Shape} {α : Type} (r : Rect s) (w : r.shape.Idx → α) (X : s.Idx → α)

theorem rd_apply (x : r.shape.Idx) : rd r X x = X (r.idx x) := rfl

/-- Under the rectangle the replaced array is the replacement, -/
theorem upd_idx (x : r.shape.Idx) : upd r w X (r.idx x) = w x := by
  unfold upd
  have h : ∃ x', r.idx x' = r.idx x := ⟨x, rfl⟩
  rw [dif_pos h]
  exact congrArg w (r.emb.injective h.choose_spec)

theorem upd_of_eq {x : r.shape.Idx} {y : s.Idx} (h : r.idx x = y) : upd r w X y = w x := by
  rw [← h, upd_idx]

/-- and off it the old one. -/
theorem upd_of_not_mem {y : s.Idx} (h : y ∉ r.set) : upd r w X y = X y := by
  unfold upd
  rw [dif_neg]
  rintro ⟨x, hx⟩
  exact h (by rw [← hx]; exact (LoadRect.mem_set _).mpr fun a => ⟨x a, (x a).isLt, rfl⟩)

theorem rd_upd : rd r (upd r w X) = w := funext fun x => upd_idx r w X x

theorem rd_upd_of_disjoint (r' : Rect s) (h : Disjoint r'.set r.set) : rd r' (upd r w X) = rd r' X :=
  funext fun x => upd_of_not_mem r w X fun hm =>
    Finset.disjoint_left.mp h ((LoadRect.mem_set _).mpr fun a => ⟨x a, (x a).isLt, rfl⟩) hm

end Upd

/-- What a store through a rectangle of a whole buffer leaves, as arrays. -/
theorem write_unread {κ : Kind} {sp : Space} {s : Shape} {e : EltTy} {Val : EltTy → Type} {m : Memref sig κ sp s e} (h : m.IsWhole)
    (r : Rect s) (X : s.Idx → Val e) (w : r.shape.Idx → Val e) :
    (m.access r).write Val (h.unread X) w Finset.univ = h.unread (upd r w X) := by
  refine h.eq_unread (funext fun y => ?_)
  by_cases hy : y ∈ r.set
  · obtain ⟨x, rfl⟩ : ∃ x, r.idx x = y := r.exists_idx_of_mem hy
    rw [upd_idx]
    exact View.read_slice_write_emb r _ w (Finset.mem_univ x)
  · rw [upd_of_not_mem r w X hy, View.read_slice_write_of_not_mem r _ w Finset.univ (by rwa [Rect.map_emb_univ]), h.read_unread]

/-! ## The buffers -/

/-- Their contents: queries, keys, values, results, running maximum, laid-out queries, scores, tile maxima, accumulator. -/
structure St (F : FTy → Type) where
  q : Vec F S1x17x256x256 .f32
  k : Vec F S1x17x1x256x128 .bf16
  v : Vec F S1x17x64x256 .bf16
  o : Vec F S1x17x256x256 .bf16
  m : Vec F S2x1x1024 .f32
  c : Vec F S64x1024 .bf16
  s : Vec F S3x256x1024 .f32
  x : Vec F S4x1x1024 .f32
  a : Vec F S80x1024 .f32

variable {F : FTy → Type} [FloatOps F] [Named F]

/-- The assertions about the buffers. -/
abbrev SP (F : FTy → Type) := sProp (MT nD τ sig Unit (Elt F) ℕ (UR sig nD τ) ℕ)

/-- The body's nine buffers. -/
structure Bufs where
  arg2 : Memref sig .tc .vmem S1x17x256x256 .f32
  h2 : arg2.IsWhole
  arg3 : Memref sig .tc .vmem S1x17x1x256x128 .bf16
  h3 : arg3.IsWhole
  arg4 : Memref sig .tc .vmem S1x17x64x256 .bf16
  h4 : arg4.IsWhole
  arg5 : Memref sig .tc .vmem S1x17x256x256 .bf16
  h5 : arg5.IsWhole
  arg6 : Memref sig .tc .vmem S2x1x1024 .f32
  h6 : arg6.IsWhole
  arg7 : Memref sig .tc .vmem S64x1024 .bf16
  h7 : arg7.IsWhole
  arg8 : Memref sig .tc .vmem S3x256x1024 .f32
  h8 : arg8.IsWhole
  arg9 : Memref sig .tc .vmem S4x1x1024 .f32
  h9 : arg9.IsWhole
  arg10 : Memref sig .tc .vmem S80x1024 .f32
  h10 : arg10.IsWhole

/-- One whole buffer at an array. -/
abbrev own (d : Dev nD) {s : Shape} {e : EltTy} (m : Memref sig .tc .vmem s e) (h : m.IsWhole) (X : s.Idx → Elt F e) : SP F :=
  (m.view.loc (d : Thread nD τ)) ↦{fullShare} h.unread X

/-- The nine buffers at their contents, beside anything else. -/
def Pts (d : Dev nD) (B : Bufs) (W : SP F) (σ : St F) : SP F :=
  iprop(W ∗ own d B.arg2 B.h2 σ.q ∗ own d B.arg3 B.h3 σ.k ∗ own d B.arg4 B.h4 σ.v ∗ own d B.arg5 B.h5 σ.o ∗ own d B.arg6 B.h6 σ.m
    ∗ own d B.arg7 B.h7 σ.c ∗ own d B.arg8 B.h8 σ.s ∗ own d B.arg9 B.h9 σ.x ∗ own d B.arg10 B.h10 σ.a)

variable {d : Dev nD} {B : Bufs} {W : SP F} {σ : St F} {α : Type} {E : Set ℕ} {K : α → SP F}

/-- A program of the body, run to the post `K`. -/
abbrev run (d : Dev nD) (E : Set ℕ) (p : Prog (Eff F) α) (K : α → SP F) : SP F :=
  wp frame (wpE (defs₀ (F := F)) Variants.none (d : Thread nD τ) none) E p K

/-- A load from a whole buffer that `P` holds. -/
theorem load_gen {P : SP F} {s : Shape} {e : EltTy} {m : Memref sig .tc .vmem s e} (h : m.IsWhole) {X : s.Idx → Elt F e}
    {r : Rect s} {hl : m.view.LoadsAt r.toLoadRect} {k : (r.shape.Idx → Elt F e) → Prog (Eff F) α}
    {P' : (s.Idx → Elt F e) → SP F} (hP : P ⊢ iprop(own d m h X ∗ (∀ Y, own d m h Y -∗ P' Y))) (hP' : P' X ⊢ P)
    (hk : P ⊢ run d E (k (rd r X)) K) : P ⊢ run d E (.op (.load m r.toLoadRect hl) k) K := by
  refine hP.trans ?_
  have e : m.view.readAt (Elt F) r.toLoadRect (h.unread X) = rd r X := funext fun x => h.readAt_unread X _ x
  iintro ⟨H, HR⟩
  iapply (wp_load Variants.none (d : Thread nD τ) none E (m := m) (r := r.toLoadRect) (S := Finset.univ) (Finset.subset_univ _)) $$ H
  rw [e]
  iintro H
  iapply (hP'.trans hk)
  iapply HR
  iexact H

/-- A store to a whole buffer that `P` holds. -/
theorem store_gen {P : SP F} {s : Shape} {e : EltTy} {m : Memref sig .tc .vmem s e} (h : m.IsWhole) {X : s.Idx → Elt F e}
    {r : Rect s} {w : r.shape.Idx → Elt F e} {hx : (m.access r).Stores Finset.univ} {hm} {k : PUnit → Prog (Eff F) α}
    {P' : (s.Idx → Elt F e) → SP F} (hP : P ⊢ iprop(own d m h X ∗ (∀ Y, own d m h Y -∗ P' Y)))
    (hk : P' (upd r w X) ⊢ run d E (k ⟨⟩) K) : P ⊢ run d E (.op (.store m r w Finset.univ hx hm) k) K := by
  refine hP.trans ?_
  iintro ⟨H, HR⟩
  iapply (wp_store Variants.none (d : Thread nD τ) none E (m := m) (r := r) (w := w) (Mk := Finset.univ) (S := Finset.univ) (Finset.subset_univ _)) $$ H
  rw [write_unread h r X w]
  iintro H
  iapply hk
  iapply HR
  iexact H

/-! ### The buffers one by one: taken out, and put back at any contents -/

theorem split2 : Pts d B W σ ⊢ iprop(own d B.arg2 B.h2 σ.q ∗ (∀ Y, own d B.arg2 B.h2 Y -∗ Pts d B W { σ with q := Y })) := by
  unfold Pts; iintro ⟨HW, H2, H3, H4, H5, H6, H7, H8, H9, H10⟩
  isplitl [H2]; · iexact H2
  iintro %Y H2; iframe
theorem split3 : Pts d B W σ ⊢ iprop(own d B.arg3 B.h3 σ.k ∗ (∀ Y, own d B.arg3 B.h3 Y -∗ Pts d B W { σ with k := Y })) := by
  unfold Pts; iintro ⟨HW, H2, H3, H4, H5, H6, H7, H8, H9, H10⟩
  isplitl [H3]; · iexact H3
  iintro %Y H3; iframe
theorem split4 : Pts d B W σ ⊢ iprop(own d B.arg4 B.h4 σ.v ∗ (∀ Y, own d B.arg4 B.h4 Y -∗ Pts d B W { σ with v := Y })) := by
  unfold Pts; iintro ⟨HW, H2, H3, H4, H5, H6, H7, H8, H9, H10⟩
  isplitl [H4]; · iexact H4
  iintro %Y H4; iframe
theorem split5 : Pts d B W σ ⊢ iprop(own d B.arg5 B.h5 σ.o ∗ (∀ Y, own d B.arg5 B.h5 Y -∗ Pts d B W { σ with o := Y })) := by
  unfold Pts; iintro ⟨HW, H2, H3, H4, H5, H6, H7, H8, H9, H10⟩
  isplitl [H5]; · iexact H5
  iintro %Y H5; iframe
theorem split6 : Pts d B W σ ⊢ iprop(own d B.arg6 B.h6 σ.m ∗ (∀ Y, own d B.arg6 B.h6 Y -∗ Pts d B W { σ with m := Y })) := by
  unfold Pts; iintro ⟨HW, H2, H3, H4, H5, H6, H7, H8, H9, H10⟩
  isplitl [H6]; · iexact H6
  iintro %Y H6; iframe
theorem split7 : Pts d B W σ ⊢ iprop(own d B.arg7 B.h7 σ.c ∗ (∀ Y, own d B.arg7 B.h7 Y -∗ Pts d B W { σ with c := Y })) := by
  unfold Pts; iintro ⟨HW, H2, H3, H4, H5, H6, H7, H8, H9, H10⟩
  isplitl [H7]; · iexact H7
  iintro %Y H7; iframe
theorem split8 : Pts d B W σ ⊢ iprop(own d B.arg8 B.h8 σ.s ∗ (∀ Y, own d B.arg8 B.h8 Y -∗ Pts d B W { σ with s := Y })) := by
  unfold Pts; iintro ⟨HW, H2, H3, H4, H5, H6, H7, H8, H9, H10⟩
  isplitl [H8]; · iexact H8
  iintro %Y H8; iframe
theorem split9 : Pts d B W σ ⊢ iprop(own d B.arg9 B.h9 σ.x ∗ (∀ Y, own d B.arg9 B.h9 Y -∗ Pts d B W { σ with x := Y })) := by
  unfold Pts; iintro ⟨HW, H2, H3, H4, H5, H6, H7, H8, H9, H10⟩
  isplitl [H9]; · iexact H9
  iintro %Y H9; iframe
theorem split10 : Pts d B W σ ⊢ iprop(own d B.arg10 B.h10 σ.a ∗ (∀ Y, own d B.arg10 B.h10 Y -∗ Pts d B W { σ with a := Y })) := by
  unfold Pts; iintro ⟨HW, H2, H3, H4, H5, H6, H7, H8, H9, H10⟩
  isplitl [H10]; · iexact H10
  iintro %Y H10; iframe

/-! ### Loads and stores at the head of a program -/

theorem load2 {r : Rect _} {hl : B.arg2.view.LoadsAt r.toLoadRect} {k : _ → Prog (Eff F) α} (hk : Pts d B W σ ⊢ run d E (k (rd r σ.q)) K) :
    Pts d B W σ ⊢ run d E (.op (.load B.arg2 r.toLoadRect hl) k) K := load_gen B.h2 split2 .rfl hk
theorem load3 {r : Rect _} {hl : B.arg3.view.LoadsAt r.toLoadRect} {k : _ → Prog (Eff F) α} (hk : Pts d B W σ ⊢ run d E (k (rd r σ.k)) K) :
    Pts d B W σ ⊢ run d E (.op (.load B.arg3 r.toLoadRect hl) k) K := load_gen B.h3 split3 .rfl hk
theorem load4 {r : Rect _} {hl : B.arg4.view.LoadsAt r.toLoadRect} {k : _ → Prog (Eff F) α} (hk : Pts d B W σ ⊢ run d E (k (rd r σ.v)) K) :
    Pts d B W σ ⊢ run d E (.op (.load B.arg4 r.toLoadRect hl) k) K := load_gen B.h4 split4 .rfl hk
theorem load5 {r : Rect _} {hl : B.arg5.view.LoadsAt r.toLoadRect} {k : _ → Prog (Eff F) α} (hk : Pts d B W σ ⊢ run d E (k (rd r σ.o)) K) :
    Pts d B W σ ⊢ run d E (.op (.load B.arg5 r.toLoadRect hl) k) K := load_gen B.h5 split5 .rfl hk
theorem load6 {r : Rect _} {hl : B.arg6.view.LoadsAt r.toLoadRect} {k : _ → Prog (Eff F) α} (hk : Pts d B W σ ⊢ run d E (k (rd r σ.m)) K) :
    Pts d B W σ ⊢ run d E (.op (.load B.arg6 r.toLoadRect hl) k) K := load_gen B.h6 split6 .rfl hk
theorem load7 {r : Rect _} {hl : B.arg7.view.LoadsAt r.toLoadRect} {k : _ → Prog (Eff F) α} (hk : Pts d B W σ ⊢ run d E (k (rd r σ.c)) K) :
    Pts d B W σ ⊢ run d E (.op (.load B.arg7 r.toLoadRect hl) k) K := load_gen B.h7 split7 .rfl hk
theorem load8 {r : Rect _} {hl : B.arg8.view.LoadsAt r.toLoadRect} {k : _ → Prog (Eff F) α} (hk : Pts d B W σ ⊢ run d E (k (rd r σ.s)) K) :
    Pts d B W σ ⊢ run d E (.op (.load B.arg8 r.toLoadRect hl) k) K := load_gen B.h8 split8 .rfl hk
theorem load9 {r : Rect _} {hl : B.arg9.view.LoadsAt r.toLoadRect} {k : _ → Prog (Eff F) α} (hk : Pts d B W σ ⊢ run d E (k (rd r σ.x)) K) :
    Pts d B W σ ⊢ run d E (.op (.load B.arg9 r.toLoadRect hl) k) K := load_gen B.h9 split9 .rfl hk
theorem load10 {r : Rect _} {hl : B.arg10.view.LoadsAt r.toLoadRect} {k : _ → Prog (Eff F) α} (hk : Pts d B W σ ⊢ run d E (k (rd r σ.a)) K) :
    Pts d B W σ ⊢ run d E (.op (.load B.arg10 r.toLoadRect hl) k) K := load_gen B.h10 split10 .rfl hk
theorem store5 {r : Rect _} {w : _} {hx : (B.arg5.access r).Stores Finset.univ} {hm} {k : PUnit → Prog (Eff F) α}
    (hk : Pts d B W { σ with o := upd r w σ.o } ⊢ run d E (k ⟨⟩) K) :
    Pts d B W σ ⊢ run d E (.op (.store B.arg5 r w Finset.univ hx hm) k) K := store_gen B.h5 split5 hk
theorem store6 {r : Rect _} {w : _} {hx : (B.arg6.access r).Stores Finset.univ} {hm} {k : PUnit → Prog (Eff F) α}
    (hk : Pts d B W { σ with m := upd r w σ.m } ⊢ run d E (k ⟨⟩) K) :
    Pts d B W σ ⊢ run d E (.op (.store B.arg6 r w Finset.univ hx hm) k) K := store_gen B.h6 split6 hk
theorem store7 {r : Rect _} {w : _} {hx : (B.arg7.access r).Stores Finset.univ} {hm} {k : PUnit → Prog (Eff F) α}
    (hk : Pts d B W { σ with c := upd r w σ.c } ⊢ run d E (k ⟨⟩) K) :
    Pts d B W σ ⊢ run d E (.op (.store B.arg7 r w Finset.univ hx hm) k) K := store_gen B.h7 split7 hk
theorem store8 {r : Rect _} {w : _} {hx : (B.arg8.access r).Stores Finset.univ} {hm} {k : PUnit → Prog (Eff F) α}
    (hk : Pts d B W { σ with s := upd r w σ.s } ⊢ run d E (k ⟨⟩) K) :
    Pts d B W σ ⊢ run d E (.op (.store B.arg8 r w Finset.univ hx hm) k) K := store_gen B.h8 split8 hk
theorem store9 {r : Rect _} {w : _} {hx : (B.arg9.access r).Stores Finset.univ} {hm} {k : PUnit → Prog (Eff F) α}
    (hk : Pts d B W { σ with x := upd r w σ.x } ⊢ run d E (k ⟨⟩) K) :
    Pts d B W σ ⊢ run d E (.op (.store B.arg9 r w Finset.univ hx hm) k) K := store_gen B.h9 split9 hk
theorem store10 {r : Rect _} {w : _} {hx : (B.arg10.access r).Stores Finset.univ} {hm} {k : PUnit → Prog (Eff F) α}
    (hk : Pts d B W { σ with a := upd r w σ.a } ⊢ run d E (k ⟨⟩) K) :
    Pts d B W σ ⊢ run d E (.op (.store B.arg10 r w Finset.univ hx hm) k) K := store_gen B.h10 split10 hk

end Cert.Proof.Gqa

end
-- ==== Proof.StageRuns.lean ====
/-
  What each stage leaves, as arrays: the result window comes to hold `resO q k v`, query tile by query tile the
  accumulator folded over the key tiles the query sees, divided by its sums.
-/
module

public import proofs.«01_k».proof.Proof.State

@[expose] public section

set_option maxRecDepth 16384

noncomputable section

namespace Cert.Proof.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The arrays the stages leave -/

/-- Key tile `t` of the window of keys, -/
def kT (k : Vec F S1x17x1x256x128 .bf16) (t : ℕ) : Vec F S1x1x1x256x128 .bf16 :=
  if h : t < 17 then rd (rK t (inbK h)) k else rd (rK 0 (inbK (by decide))) k
/-- and of the window of values. -/
def vT (v : Vec F S1x17x64x256 .bf16) (t : ℕ) : Vec F S1x1x64x256 .bf16 :=
  if h : t < 17 then rd (rV t (inbV h)) v else rd (rV 0 (inbV (by decide))) v

theorem kT_of {t : ℕ} (h : t < 17) (k : Vec F S1x17x1x256x128 .bf16) : kT k t = rd (rK t (inbK h)) k := by unfold kT; rw [dif_pos h]
theorem vT_of {t : ℕ} (h : t < 17) (v : Vec F S1x17x64x256 .bf16) : vT v t = rd (rV t (inbV h)) v := by unfold vT; rw [dif_pos h]

/-- Columns `o` to `o + 256` of a block of scores. -/
def colS (o : ℕ) (ho : o ≤ 768) (S : Vec F S1x256x1024 .f32) : Vec F S1x256x256 .f32 :=
  fun x => S (fun a => match a with
    | 0 => (x 0 : Fin 1) | 1 => (x 1 : Fin 256) | 2 => (⟨o + (x 2 : Fin 256).val, by have h : (x 2 : Fin 256).val < 256 := (x 2 : Fin 256).isLt; omega⟩ : Fin 1024))

/-- The accumulator with one scored tile folded in, quarter by quarter. -/
def foldA (v : Vec F S1x1x64x256 .bf16) (mo mx : Vec F S1x1x1024 .f32) (S : Vec F S1x256x1024 .f32) (A : Vec F S80x1024 .f32) : Vec F S80x1024 .f32 :=
  upd rA3 (foldPay3 v mo mx (colS 768 (by decide) S) (rd rA3 A)) (upd rA2 (foldPay2 v mo mx (colS 512 (by decide) S) (rd rA2 A))
    (upd rA1 (foldPay1 v mo mx (colS 256 (by decide) S) (rd rA1 A)) (upd rA0 (foldPay0 v mo mx (colS 0 (by decide) S) (rd rA0 A)) A)))

/-- Four query parts laid out side by side, over `X`. -/
def layOn (q0 q1 q2 q3 : Vec F S1x1x64x256 .f32) (X : Vec F S64x1024 .bf16) : Vec F S64x1024 .bf16 :=
  upd rC3 (k0_pay253 q3) (upd rC2 (k0_pay253 q2) (upd rC1 (k0_pay253 q1) (upd rC0 (k0_pay253 q0) X)))

theorem cover_rC (y : S64x1024.Idx) : y ∈ rC3.set ∨ y ∈ rC2.set ∨ y ∈ rC1.set ∨ y ∈ rC0.set := by
  have h0 : (y 0).val < 64 := (y 0).isLt
  have h1 : (y 1).val < 1024 := (y 1).isLt
  simp only [Rect.mem_set_unit]
  have : (y 1).val < 256 ∨ (256 ≤ (y 1).val ∧ (y 1).val < 512) ∨ (512 ≤ (y 1).val ∧ (y 1).val < 768) ∨ 768 ≤ (y 1).val := by omega
  rcases this with h | h | h | h
  · right; right; right; intro a; fin_cases a <;> simp <;> omega
  · right; right; left; intro a; fin_cases a <;> simp <;> omega
  · right; left; intro a; fin_cases a <;> simp <;> omega
  · left; intro a; fin_cases a <;> simp <;> omega

/-- An array replaced at a point is the same whatever was under. -/
theorem upd_congr {s : Shape} {α : Type} (r : Rect s) (w : r.shape.Idx → α) {X Y : s.Idx → α} {y : s.Idx} (h : y ∉ r.set → X y = Y y) :
    upd r w X y = upd r w Y y := by
  by_cases hy : y ∈ r.set
  · obtain ⟨x, rfl⟩ : ∃ x, r.idx x = y := r.exists_idx_of_mem hy
    rw [upd_idx, upd_idx]
  · rw [upd_of_not_mem r w X hy, upd_of_not_mem r w Y hy, h hy]

theorem layOn_congr (q0 q1 q2 q3 : Vec F S1x1x64x256 .f32) (X Y : Vec F S64x1024 .bf16) : layOn q0 q1 q2 q3 X = layOn q0 q1 q2 q3 Y :=
  funext fun y => by
    unfold layOn
    refine upd_congr _ _ fun h3 => upd_congr _ _ fun h2 => upd_congr _ _ fun h1 => upd_congr _ _ fun h0 => ?_
    exact (cover_rC y).elim (absurd · h3) fun h => h.elim (absurd · h2) fun h => h.elim (absurd · h1) (absurd · h0)

/-- Part `g` of query tile `j` lies in the window of queries, as in the window of results. -/
theorem inbQ {j g : ℕ} (hj : j < 17) (hg : g ≤ 192) : ∀ a, (![0, j, g, 0] : Fin 4 → ℕ) a + S1x1x64x256.size a ≤ S1x17x256x256.size a := by
  intro a; fin_cases a <;> simp <;> omega

/-- Query tile `j`, its four parts side by side. -/
def layQ (q : Vec F S1x17x256x256 .f32) (j : ℕ) (hj : j < 17) : Vec F S64x1024 .bf16 :=
  layOn (rd (rQ _ (inbQ hj (g := 0) (by decide))) q) (rd (rQ _ (inbQ hj (g := 64) (by decide))) q) (rd (rQ _ (inbQ hj (g := 128) (by decide))) q)
    (rd (rQ _ (inbQ hj (g := 192) (by decide))) q) (constant S64x1024 .bf16 0x0000#16)

/-- The scores of key tile `t` against the laid-out queries, -/
def scS (k : Vec F S1x17x1x256x128 .bf16) (c : Vec F S64x1024 .bf16) (t : ℕ) : Vec F S1x256x1024 .f32 := k0_pay4 (kT k t) c
/-- and each query's maximum of them. -/
def scX (k : Vec F S1x17x1x256x128 .bf16) (c : Vec F S64x1024 .bf16) (t : ℕ) : Vec F S1x1x1024 .f32 := k0_pay5 (kT k t) c

/-- The running maximum after the first `n` key tiles, -/
def stM (k : Vec F S1x17x1x256x128 .bf16) (c : Vec F S64x1024 .bf16) : ℕ → Vec F S1x1x1024 .f32
  | 0 => k0_pay251
  | n + 1 => k0_pay9 (stM k c n) (scX k c n)
/-- and the accumulator. -/
def stA (k : Vec F S1x17x1x256x128 .bf16) (v : Vec F S1x17x64x256 .bf16) (c : Vec F S64x1024 .bf16) : ℕ → Vec F S80x1024 .f32
  | 0 => k0_pay252
  | n + 1 => foldA (vT v n) (stM k c n) (scX k c n) (scS k c n) (stA k v c n)

/-- The result window with tile `j` written from the accumulator `A`. -/
def finO (j : ℕ) (hj : j < 17) (A : Vec F S80x1024 .f32) (O : Vec F S1x17x256x256 .bf16) : Vec F S1x17x256x256 .bf16 :=
  upd (rQ _ (inbQ hj (g := 192) (by decide))) (k0_pay250 (k0_pay245 (rd rAv A) (rd rAl A)))
    (upd (rQ _ (inbQ hj (g := 128) (by decide))) (k0_pay249 (k0_pay248 (rd rAv A) (rd rAl A)))
      (upd (rQ _ (inbQ hj (g := 64) (by decide))) (k0_pay247 (rd rAv A) (rd rAl A))
        (upd (rQ _ (inbQ hj (g := 0) (by decide))) (k0_pay246 (rd rAv A) (rd rAl A)) O)))

/-- How many key tiles query tile `j` sees: the context sees itself, the latents see everything. -/
def tiles (j : ℕ) : ℕ := if j = 0 then 1 else 17

/-- The result window with its first `n` tiles written. -/
def resO (q : Vec F S1x17x256x256 .f32) (k : Vec F S1x17x1x256x128 .bf16) (v : Vec F S1x17x64x256 .bf16) (O : Vec F S1x17x256x256 .bf16) :
    (n : ℕ) → n ≤ 17 → Vec F S1x17x256x256 .bf16
  | 0, _ => O
  | n + 1, h => finO n h (stA k v (layQ q n h) (tiles n)) (resO q k v O n (Nat.le_of_succ_le h))

theorem cover_rQ {j : ℕ} (hj : j < 17) (y : S1x17x256x256.Idx) : (y 1).val = j ↔
    (y ∈ (rQ _ (inbQ hj (g := 192) (by decide))).set ∨ y ∈ (rQ _ (inbQ hj (g := 128) (by decide))).set
      ∨ y ∈ (rQ _ (inbQ hj (g := 64) (by decide))).set ∨ y ∈ (rQ _ (inbQ hj (g := 0) (by decide))).set) := by
  have h0 : (y 0).val < 1 := (y 0).isLt
  have h2 : (y 2).val < 256 := (y 2).isLt
  have h3 : (y 3).val < 256 := (y 3).isLt
  simp only [Rect.mem_set_unit, Fin.forall_fin_succ]
  simp
  omega

/-- Written over, a tile is the same whatever was under; elsewhere nothing changes. -/
theorem finO_of_ne {j : ℕ} (hj : j < 17) (A : Vec F S80x1024 .f32) (O : Vec F S1x17x256x256 .bf16) {y : S1x17x256x256.Idx} (h : (y 1).val ≠ j) :
    finO j hj A O y = O y := by
  have hn := (cover_rQ hj y).not.mp h
  simp only [not_or] at hn
  obtain ⟨h3, h2, h1, h0⟩ := hn
  unfold finO
  rw [upd_of_not_mem _ _ _ h3, upd_of_not_mem _ _ _ h2, upd_of_not_mem _ _ _ h1, upd_of_not_mem _ _ _ h0]

theorem finO_congr {j : ℕ} (hj : j < 17) (A : Vec F S80x1024 .f32) {O O' : Vec F S1x17x256x256 .bf16} {y : S1x17x256x256.Idx}
    (h : (y 1).val ≠ j → O y = O' y) : finO j hj A O y = finO j hj A O' y := by
  by_cases hy : (y 1).val = j
  · refine upd_congr _ _ fun h3 => upd_congr _ _ fun h2 => upd_congr _ _ fun h1 => upd_congr _ _ fun h0 => ?_
    exact ((cover_rQ hj y).mp hy).elim (absurd · h3) fun h => h.elim (absurd · h2) fun h => h.elim (absurd · h1) (absurd · h0)
  · rw [finO_of_ne hj A O hy, finO_of_ne hj A O' hy, h hy]

theorem resO_congr (q : Vec F S1x17x256x256 .f32) (k : Vec F S1x17x1x256x128 .bf16) (v : Vec F S1x17x64x256 .bf16) (O O' : Vec F S1x17x256x256 .bf16)
    {y : S1x17x256x256.Idx} : ∀ (n : ℕ) (h : n ≤ 17), (y 1).val < n → resO q k v O n h y = resO q k v O' n h y
  | 0, _, hy => absurd hy (Nat.not_lt_zero _)
  | n + 1, h, hy => finO_congr _ _ fun hne => resO_congr q k v O O' n _ (by omega)

/-- The whole result window does not depend on what was there before. -/
theorem resO_all (q : Vec F S1x17x256x256 .f32) (k : Vec F S1x17x1x256x128 .bf16) (v : Vec F S1x17x64x256 .bf16) (O O' : Vec F S1x17x256x256 .bf16) :
    resO q k v O 17 le_rfl = resO q k v O' 17 le_rfl :=
  funext fun y => resO_congr q k v O O' 17 le_rfl (y 1).isLt

/-! ## The stages, each at the head of a program -/

variable {d : Dev nD} {B : Bufs} {W : SP F} {σ : St F} {α : Type} {E : Set ℕ} {K : α → SP F} {kk : PUnit → Prog (Eff F) α}

theorem rd_rC (X : Vec F S64x1024 .bf16) : rd rC X = X := funext fun x => congrArg X (funext fun a => Fin.ext (by
  rw [LoadRect.idx_apply]; fin_cases a <;> simp))
theorem upd_rA (w X : Vec F S80x1024 .f32) : upd rA w X = w := funext fun y => by
  have h : rA.idx y = y := funext fun a => Fin.ext (by rw [LoadRect.idx_apply]; fin_cases a <;> simp)
  exact upd_of_eq rA w X h

theorem rd_rSc {b o : ℕ} (hb : b < 3) (ho : o ≤ 768) (s : Vec F S3x256x1024 .f32) : rd (rSc b o (inbSc hb ho)) s = colS o ho (rd (rS b (inbS hb)) s) :=
  funext fun x => congrArg s (funext fun a => Fin.ext (by
    rw [LoadRect.idx_apply, LoadRect.idx_apply]; fin_cases a <;> simp [colS]))

theorem reset_run (hk : ∀ m', rd rM m' = k0_pay251 → Pts d B W { σ with m := m', a := k0_pay252 } ⊢ run d E (kk ⟨⟩) K) :
    Pts d B W σ ⊢ run d E (resetP B.arg6 B.arg10 >>= kk) K := by
  refine load6 ?_
  refine store6 ?_
  refine load10 ?_
  refine store10 ?_
  rw [upd_rA]
  exact hk _ (rd_upd _ _ _)

theorem build_run {j : ℕ} (hj : j < 17) {o0 o1 o2 o3 : Fin 4 → ℕ} {h0 h1 h2 h3} (e0 : o0 = ![0, j, 0, 0]) (e1 : o1 = ![0, j, 64, 0])
    (e2 : o2 = ![0, j, 128, 0]) (e3 : o3 = ![0, j, 192, 0])
    (hk : Pts d B W { σ with c := layQ σ.q j hj } ⊢ run d E (kk ⟨⟩) K) :
    Pts d B W σ ⊢ run d E (buildP B.arg2 B.arg7 B.h7 o0 o1 o2 o3 h0 h1 h2 h3 >>= kk) K := by
  subst e0 e1 e2 e3
  refine load2 ?_
  refine load7 ?_
  refine store7 ?_
  refine load2 ?_
  refine load7 ?_
  refine store7 ?_
  refine load2 ?_
  refine load7 ?_
  refine store7 ?_
  refine load2 ?_
  refine load7 ?_
  refine store7 ?_
  have e := layOn_congr (rd (rQ _ h0) σ.q) (rd (rQ _ h1) σ.q) (rd (rQ _ h2) σ.q) (rd (rQ _ h3) σ.q) σ.c (constant S64x1024 .bf16 0x0000#16)
  change Pts d B W { σ with c := layOn (rd (rQ _ h0) σ.q) (rd (rQ _ h1) σ.q) (rd (rQ _ h2) σ.q) (rd (rQ _ h3) σ.q) σ.c } ⊢ _
  rw [e]
  exact hk

theorem disjS {b b' : ℕ} (hb : b < 3) (hb' : b' < 3) (h : b ≠ b') : Disjoint (rS b (inbS hb)).set (rS b' (inbS hb')).set :=
  Rect.unit_disjoint 0 (by simp; omega)
theorem disjX {b b' : ℕ} (hb : b < 3) (hb' : b' < 3) (h : b ≠ b') : Disjoint (rX b (inbX hb)).set (rX b' (inbX hb')).set :=
  Rect.unit_disjoint 0 (by simp; omega)

theorem score_run {t b : ℕ} (ht : t < 17) (hb : b < 3)
    (hk : ∀ s' x', rd (rS b (inbS hb)) s' = scS σ.k σ.c t → rd (rX b (inbX hb)) x' = scX σ.k σ.c t →
      (∀ b' (hb' : b' < 3), b' ≠ b → rd (rS b' (inbS hb')) s' = rd (rS b' (inbS hb')) σ.s) →
      (∀ b' (hb' : b' < 3), b' ≠ b → rd (rX b' (inbX hb')) x' = rd (rX b' (inbX hb')) σ.x) →
      Pts d B W { σ with s := s', x := x' } ⊢ run d E (kk ⟨⟩) K) :
    Pts d B W σ ⊢ run d E (scoreP B.arg3 B.arg7 B.arg8 B.arg9 t b ht hb >>= kk) K := by
  refine load3 ?_
  refine load7 ?_
  refine load8 ?_
  refine store8 ?_
  refine load9 ?_
  refine store9 ?_
  rw [rd_rC, ← kT_of ht]
  have h := hk _ _ (rd_upd (rS b (inbS hb)) (scS σ.k σ.c t) σ.s) (rd_upd (rX b (inbX hb)) (scX σ.k σ.c t) σ.x)
    (fun b' hb' hne => rd_upd_of_disjoint (rS b (inbS hb)) (scS σ.k σ.c t) σ.s (rS b' (inbS hb')) (disjS hb' hb hne))
    (fun b' hb' hne => rd_upd_of_disjoint (rX b (inbX hb)) (scX σ.k σ.c t) σ.x (rX b' (inbX hb')) (disjX hb' hb hne))
  change _ ⊢ run d E (kk ⟨⟩) K
  dsimp only
  unfold scS scX at h
  exact h

set_option maxHeartbeats 800000 in
theorem value_run {t b : ℕ} (ht : t < 17) (hb : b < 3)
    (hk : ∀ m', rd rM m' = k0_pay9 (rd rM σ.m) (rd (rX b (inbX hb)) σ.x) →
      Pts d B W { σ with m := m', a := foldA (vT σ.v t) (rd rM σ.m) (rd (rX b (inbX hb)) σ.x) (rd (rS b (inbS hb)) σ.s) σ.a } ⊢ run d E (kk ⟨⟩) K) :
    Pts d B W σ ⊢ run d E (valueP B.arg4 B.arg6 B.arg8 B.arg9 B.arg10 t b ht hb >>= kk) K := by
  refine load6 ?_
  refine load9 ?_
  refine load6 ?_
  refine store6 ?_
  refine load4 ?_
  refine load8 ?_
  refine load10 ?_
  refine load10 ?_
  refine store10 ?_
  refine load4 ?_
  refine load8 ?_
  refine load10 ?_
  refine load10 ?_
  refine store10 ?_
  refine load4 ?_
  refine load8 ?_
  refine load10 ?_
  refine load10 ?_
  refine store10 ?_
  refine load4 ?_
  refine load8 ?_
  refine load10 ?_
  refine load10 ?_
  refine store10 ?_
  have hk' := hk (upd rM (k0_pay9 (rd rM σ.m) (rd (rX b (inbX hb)) σ.x)) σ.m) (rd_upd _ _ _)
  unfold foldA at hk'
  rw [← vT_of ht, rd_rSc hb, rd_rSc hb, rd_rSc hb, rd_rSc hb]
  rw [rd_upd_of_disjoint rA2 _ _ rA3 (Rect.unit_disjoint 1 (by simp)), rd_upd_of_disjoint rA1 _ _ rA3 (Rect.unit_disjoint 1 (by simp)),
    rd_upd_of_disjoint rA0 _ _ rA3 (Rect.unit_disjoint 1 (by simp)), rd_upd_of_disjoint rA1 _ _ rA2 (Rect.unit_disjoint 1 (by simp)),
    rd_upd_of_disjoint rA0 _ _ rA2 (Rect.unit_disjoint 1 (by simp)), rd_upd_of_disjoint rA0 _ _ rA1 (Rect.unit_disjoint 1 (by simp))]
  change _ ⊢ run d E (kk ⟨⟩) K
  dsimp only
  exact hk'

theorem finalize_run {j : ℕ} (hj : j < 17) {p0 p1 p2 p3 : Place} (e0 : p0.o = ![0, j, 0, 0]) (e1 : p1.o = ![0, j, 64, 0])
    (e2 : p2.o = ![0, j, 128, 0]) (e3 : p3.o = ![0, j, 192, 0])
    (hk : Pts d B W { σ with o := finO j hj σ.a σ.o } ⊢ run d E (kk ⟨⟩) K) :
    Pts d B W σ ⊢ run d E (finalizeP B.arg5 B.h5 B.arg10 p0 p1 p2 p3 >>= kk) K := by
  obtain ⟨o0, h0, q0⟩ := p0
  obtain ⟨o1, h1, q1⟩ := p1
  obtain ⟨o2, h2, q2⟩ := p2
  obtain ⟨o3, h3, q3⟩ := p3
  dsimp only at e0 e1 e2 e3
  subst e0 e1 e2 e3
  refine load10 ?_
  refine load10 ?_
  refine load5 ?_
  refine store5 ?_
  refine load5 ?_
  refine store5 ?_
  refine load5 ?_
  refine store5 ?_
  refine load5 ?_
  refine store5 ?_
  change _ ⊢ run d E (kk ⟨⟩) K
  unfold finO at hk
  dsimp only at hk ⊢
  exact hk

end Cert.Proof.Gqa

end
-- ==== Proof.BodyRuns.lean ====
/-
  The stages put together: all key tiles for one query tile, a trip of the loop, and the whole body, which from any
  contents of its result window and its scratch leaves `resO q k v` in the result window.
-/
module

public import proofs.«01_k».proof.Proof.StageRuns

@[expose] public section

set_option maxRecDepth 16384

noncomputable section

namespace Cert.Proof.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable {d : Dev nD} {B : Bufs} {W : SP F} {σ : St F} {α : Type} {E : Set ℕ} {K : α → SP F} {kk : PUnit → Prog (Eff F) α}

/-! ## All key tiles for one query tile -/

/-- After `n` pairs the running maximum and the accumulator are those of the first `n` key tiles, and the next tile is scored. -/
theorem groups_run (hm : rd rM σ.m = k0_pay251) (ha : σ.a = k0_pay252) (hs : rd (rS 0 (inbS (by decide))) σ.s = scS σ.k σ.c 0)
    (hx : rd (rX 0 (inbX (by decide))) σ.x = scX σ.k σ.c 0) : ∀ (n : ℕ) (h : n < 17) {kk : PUnit → Prog (Eff F) α}
    (hk : ∀ m' s' x', rd rM m' = stM σ.k σ.c n → rd (rS (buf n) (inbS (buf_lt n))) s' = scS σ.k σ.c n →
      rd (rX (buf n) (inbX (buf_lt n))) x' = scX σ.k σ.c n →
      Pts d B W { σ with m := m', s := s', x := x', a := stA σ.k σ.v σ.c n } ⊢ run d E (kk ⟨⟩) K),
    Pts d B W σ ⊢ run d E (groupsP B.arg3 B.arg4 B.arg6 B.arg7 B.arg8 B.arg9 B.arg10 n h >>= kk) K
  | 0, h, kk, hk => by
    have := hk σ.m σ.s σ.x hm hs hx
    have e : stA σ.k σ.v σ.c 0 = σ.a := ha.symm
    rw [e] at this
    exact this
  | n + 1, h, kk, hk => by
    have hb : buf n ≠ buf (n + 1) := by unfold buf; split <;> split <;> omega
    unfold groupsP
    rw [bind_assoc]
    refine groups_run hm ha hs hx n _ fun m' s' x' h1 h2 h3 => ?_
    rw [bind_assoc]
    refine score_run h (buf_lt _) fun s'' x'' g1 g2 g3 g4 => ?_
    refine value_run _ (buf_lt _) fun m'' f1 => ?_
    dsimp only at g1 g2 g3 g4 f1 ⊢
    rw [g4 _ (buf_lt _) hb, h3, h1] at f1 ⊢
    rw [g3 _ (buf_lt _) hb, h2]
    exact hk m'' s'' x'' f1 g1 g2

theorem stA_zero (k : Vec F S1x17x1x256x128 .bf16) (v : Vec F S1x17x64x256 .bf16) (c : Vec F S64x1024 .bf16) : stA k v c 0 = k0_pay252 := by rw [stA]
theorem stM_zero (k : Vec F S1x17x1x256x128 .bf16) (c : Vec F S64x1024 .bf16) : stM k c 0 = k0_pay251 := by rw [stM]
theorem stA_succ (k : Vec F S1x17x1x256x128 .bf16) (v : Vec F S1x17x64x256 .bf16) (c : Vec F S64x1024 .bf16) (n : ℕ) :
    stA k v c (n + 1) = foldA (vT v n) (stM k c n) (scX k c n) (scS k c n) (stA k v c n) := by rw [stA]
theorem stM_succ (k : Vec F S1x17x1x256x128 .bf16) (c : Vec F S64x1024 .bf16) (n : ℕ) :
    stM k c (n + 1) = k0_pay9 (stM k c n) (scX k c n) := by rw [stM]
theorem resO_succ (q : Vec F S1x17x256x256 .f32) (k : Vec F S1x17x1x256x128 .bf16) (v : Vec F S1x17x64x256 .bf16) (O : Vec F S1x17x256x256 .bf16)
    (n : ℕ) (h : n + 1 ≤ 17) : resO q k v O (n + 1) h = finO n h (stA k v (layQ q n h) (tiles n)) (resO q k v O n (Nat.le_of_succ_le h)) := by rw [resO]
theorem resO_one (q : Vec F S1x17x256x256 .f32) (k : Vec F S1x17x1x256x128 .bf16) (v : Vec F S1x17x64x256 .bf16) (O : Vec F S1x17x256x256 .bf16)
    (h : 1 ≤ 17) : resO q k v O 1 h = finO 0 h (stA k v (layQ q 0 h) (0 + 1)) O := by rw [resO, resO]; rfl

attribute [local irreducible] stA stM foldA layQ finO scS scX groupsP

/-- What holds between query tiles: tile `j` is laid out, the first key tile scored, nothing folded yet. -/
structure Ready (σ : St F) (j : ℕ) (hj : j < 17) : Prop where
  m : rd rM σ.m = k0_pay251
  a : σ.a = k0_pay252
  c : σ.c = layQ σ.q j hj
  s : rd (rS 0 (inbS (by decide))) σ.s = scS σ.k σ.c 0
  x : rd (rX 0 (inbX (by decide))) σ.x = scX σ.k σ.c 0

/-- Set back, lay out the tile `j`, and score the first key tile. -/
theorem prep_run {j : ℕ} (hj : j < 17) {o0 o1 o2 o3 : Fin 4 → ℕ} {h0 h1 h2 h3} (e0 : o0 = ![0, j, 0, 0]) (e1 : o1 = ![0, j, 64, 0])
    (e2 : o2 = ![0, j, 128, 0]) (e3 : o3 = ![0, j, 192, 0])
    (hk : ∀ τ : St F, Ready τ j hj → τ.q = σ.q → τ.k = σ.k → τ.v = σ.v → τ.o = σ.o → Pts d B W τ ⊢ run d E (kk ⟨⟩) K) :
    Pts d B W σ ⊢ run d E ((do
      resetP B.arg6 B.arg10
      buildP B.arg2 B.arg7 B.h7 o0 o1 o2 o3 h0 h1 h2 h3
      scoreP B.arg3 B.arg7 B.arg8 B.arg9 0 0 (by decide) (by decide)) >>= kk) K := by
  rw [bind_assoc]
  refine reset_run fun m' f1 => ?_
  rw [bind_assoc]
  refine build_run hj e0 e1 e2 e3 ?_
  refine score_run (by decide) (by decide) fun s' x' g1 g2 g3 g4 => ?_
  exact hk _ ⟨f1, rfl, rfl, g1, g2⟩ rfl rfl rfl rfl

/-- One trip: query tile `j` is written from all seventeen key tiles, and tile `j'` prepared. -/
theorem trip_run {j j' : ℕ} (hj : j < 17) (hj0 : j ≠ 0) (hj' : j' < 17) {p0 p1 p2 p3 : Place} {o0 o1 o2 o3 : Fin 4 → ℕ} {h0 h1 h2 h3}
    (e0 : p0.o = ![0, j, 0, 0]) (e1 : p1.o = ![0, j, 64, 0]) (e2 : p2.o = ![0, j, 128, 0]) (e3 : p3.o = ![0, j, 192, 0])
    (f0 : o0 = ![0, j', 0, 0]) (f1 : o1 = ![0, j', 64, 0]) (f2 : o2 = ![0, j', 128, 0]) (f3 : o3 = ![0, j', 192, 0])
    (hr : Ready σ j hj)
    (hk : ∀ τ : St F, Ready τ j' hj' → τ.q = σ.q → τ.k = σ.k → τ.v = σ.v →
      τ.o = finO j hj (stA σ.k σ.v (layQ σ.q j hj) (tiles j)) σ.o → Pts d B W τ ⊢ run d E (kk ⟨⟩) K) :
    Pts d B W σ ⊢ run d E (tripP B.arg2 B.arg3 B.arg4 B.arg5 B.h5 B.arg6 B.arg7 B.h7 B.arg8 B.arg9 B.arg10
      p0 p1 p2 p3 o0 o1 o2 o3 h0 h1 h2 h3 >>= kk) K := by
  unfold tripP
  rw [bind_assoc]
  refine groups_run hr.m hr.a hr.s hr.x 16 (by decide) fun m' s' x' h1 h2 h3 => ?_
  rw [bind_assoc]
  refine value_run (t := 16) (b := 2) (by decide) (by decide) fun m'' g1 => ?_
  rw [bind_assoc]
  refine finalize_run hj e0 e1 e2 e3 ?_
  refine prep_run hj' f0 f1 f2 f3 fun τ ht q k v o => ?_
  refine hk τ ht q k v ?_
  rw [o]
  dsimp only
  have e : tiles j = 16 + 1 := by unfold tiles; rw [if_neg hj0]
  have h2' : rd (rS 2 (inbS (by decide))) s' = scS σ.k σ.c 16 := h2
  have h3' : rd (rX 2 (inbX (by decide))) x' = scX σ.k σ.c 16 := h3
  rw [e, stA_succ σ.k σ.v _ 16, ← hr.c, h1, h2', h3']

/-- The body up to its loop: tile 0 is written from the first key tile, and tile 1 prepared. -/
theorem head_run (hk : ∀ τ : St F, Ready τ 1 (by decide) → τ.q = σ.q → τ.k = σ.k → τ.v = σ.v →
      τ.o = resO σ.q σ.k σ.v σ.o 1 (by decide) → Pts d B W τ ⊢ run d E (kk ⟨⟩) K) :
    Pts d B W σ ⊢ run d E (headP B.arg2 B.arg3 B.arg4 B.arg5 B.h5 B.arg6 B.arg7 B.h7 B.arg8 B.arg9 B.arg10 >>= kk) K := by
  unfold headP
  rw [bind_assoc]
  refine reset_run fun m1 f1 => ?_
  rw [bind_assoc]
  refine build_run (by decide) rfl rfl rfl rfl ?_
  rw [bind_assoc]
  refine score_run (by decide) (by decide) fun s' x' g1 g2 _ _ => ?_
  rw [bind_assoc]
  refine value_run _ _ fun m'' g3 => ?_
  rw [bind_assoc]
  refine finalize_run (by decide) rfl rfl rfl rfl ?_
  refine prep_run (by decide) rfl rfl rfl rfl fun τ ht q k v o => ?_
  refine hk τ ht q k v ?_
  rw [o]
  dsimp only at g1 g2 g3 ⊢
  rw [g1, g2, f1, resO_one, stA_succ, stA_zero, stM_zero]

/-! ## The loop -/

theorem trips_eq : k0_t1_loop.trips = 16 := by decide +kernel

theorem off1_eq : ∀ k : Fin k0_t1_loop.trips, k0_off1 k = ![0, k.val + 1, 0, 0] := by decide +kernel
theorem off2_eq : ∀ k : Fin k0_t1_loop.trips, k0_off2 k = ![0, k.val + 1, 64, 0] := by decide +kernel
theorem off3_eq : ∀ k : Fin k0_t1_loop.trips, k0_off3 k = ![0, k.val + 1, 128, 0] := by decide +kernel
theorem off4_eq : ∀ k : Fin k0_t1_loop.trips, k0_off4 k = ![0, k.val + 1, 192, 0] := by decide +kernel
theorem off5_eq : ∀ k : Fin k0_t1_loop.trips, k0_off5 k = ![0, min (k.val + 2) 16, 0, 0] := by decide +kernel
theorem off6_eq : ∀ k : Fin k0_t1_loop.trips, k0_off6 k = ![0, min (k.val + 2) 16, 64, 0] := by decide +kernel
theorem off7_eq : ∀ k : Fin k0_t1_loop.trips, k0_off7 k = ![0, min (k.val + 2) 16, 128, 0] := by decide +kernel
theorem off8_eq : ∀ k : Fin k0_t1_loop.trips, k0_off8 k = ![0, min (k.val + 2) 16, 192, 0] := by decide +kernel

/-- What holds after `n` trips: the first `n + 1` query tiles are written, and the next one is prepared (the last one again, at the end). -/
structure Done (σ : St F) (n : ℕ) (hn : n + 1 ≤ 17) (τ : St F) : Prop where
  ready : Ready τ (min (n + 1) 16) (by omega)
  q : τ.q = σ.q
  k : τ.k = σ.k
  v : τ.v = σ.v
  o : τ.o = resO σ.q σ.k σ.v σ.o (n + 1) hn

/-- One trip of the printed loop advances it. -/
theorem Done.step {τ' : St F} (i : grid0.Coords) (k : Fin k0_t1_loop.trips) (hn : k.val + 1 ≤ 17) (h : Done σ k.val hn τ')
    {K : Unit → SP F} (hk : ∀ τ hn', Done σ (k.val + 1) hn' τ → Pts d B W τ ⊢ K ()) :
    Pts d B W τ' ⊢ run d E (k0_t1_body (F := F) i B.arg2 B.h2 B.arg3 B.h3 B.arg4 B.h4 B.arg5 B.h5 B.arg6 B.h6 B.arg7 B.h7 B.arg8 B.h8 B.arg9 B.h9 B.arg10 B.h10 k ()) K := by
  have hk16 : k.val < 16 := by exact k.isLt.trans_eq trips_eq
  have hr : Ready τ' (k.val + 1) (by omega) := by
    have := h.ready
    simp only [show min (k.val + 1) 16 = k.val + 1 by omega] at this
    exact this
  rw [trip_eq, ← bind_pure (tripP _ _ _ _ _ _ _ _ _ _ _ _ _ _ _ _ _ _ _ _ _ _ _)]
  refine trip_run (j := k.val + 1) (j' := min (k.val + 2) 16) (by omega) (by omega) (by omega) (off1_eq k) (off2_eq k) (off3_eq k) (off4_eq k)
    (off5_eq k) (off6_eq k) (off7_eq k) (off8_eq k) hr fun τ ht q k' v o => ?_
  refine (hk τ (by omega) ⟨ht, q.trans h.q, k'.trans h.k, v.trans h.v, ?_⟩).trans ?_
  · rw [o, h.q, h.k, h.v, h.o, ← resO_succ]
  · exact fupd_intro

/-- The printed body leaves the result window at `resO`, and its other three windows as they were. -/
theorem body_run (i : grid0.Coords) {K : PUnit → SP F}
    (hk : ∀ τ : St F, τ.q = σ.q → τ.k = σ.k → τ.v = σ.v → τ.o = resO σ.q σ.k σ.v σ.o 17 le_rfl → Pts d B W τ ⊢ K ⟨⟩) :
    Pts d B W σ ⊢ run d E (cc0_gqa_attn (F := F) i B.arg2 B.h2 B.arg3 B.h3 B.arg4 B.h4 B.arg5 B.h5 B.arg6 B.h6 B.arg7 B.h7 B.arg8 B.h8 B.arg9 B.h9 B.arg10 B.h10) K := by
  rw [body_eq]
  refine head_run fun τ₀ ht q k v o => ?_
  have h0 : Done σ 0 (by decide) τ₀ := ⟨ht, q, k, v, o⟩
  let I : ℕ → Unit → SP F := fun n _ => iprop(∃ τ : St F, ⌜∃ hn, Done σ n hn τ⌝ ∗ Pts d B W τ)
  have hI : Pts d B W τ₀ ⊢ I 0 () := by
    iintro H
    iexists τ₀
    isplitr
    · ipureintro; exact ⟨_, h0⟩
    · iexact H
  refine hI.trans ?_
  have hl := Scf.wp_for_bind frame (wpE (defs₀ (F := F)) Variants.none (d : Thread nD τ) none) E k0_t1_loop.lb k0_t1_loop.ub k0_t1_loop.st k0_t1_ok
    () (k0_t1_body (F := F) i B.arg2 B.h2 B.arg3 B.h3 B.arg4 B.h4 B.arg5 B.h5 B.arg6 B.h6 B.arg7 B.h7 B.arg8 B.h8 B.arg9 B.h9 B.arg10 B.h10) I
    (hbody := ?_) (kk := fun _ => pure ⟨⟩) (Q := K)
  · iintro HI
    iapply hl $$ HI
    iintro %acc ⟨%τ', %hd, H⟩
    obtain ⟨hn, hd⟩ := hd
    have ht : Scf.trips k0_t1_loop.lb k0_t1_loop.ub k0_t1_loop.st = 16 := trips_eq
    have ho := hd.o
    have h17 : τ'.o = resO σ.q σ.k σ.v σ.o 17 le_rfl := by
      rw [ho]
      congr 1
    have hf : Pts d B W τ' ⊢ run d E (pure ⟨⟩) K := (hk τ' hd.q hd.k hd.v h17).trans fupd_intro
    iapply hf
    iexact H
  · intro k acc
    iintro ⟨%τ', %hd, H⟩
    obtain ⟨hn, hd⟩ := hd
    have hs := hd.step (d := d) (B := B) (W := W) (E := E) i k hn (K := I (k.val + 1)) (by
      intro τ hn' h'
      iintro H
      iexists τ
      isplitr
      · ipureintro; exact ⟨hn', h'⟩
      · iexact H)
    iapply hs
    iexact H

end Cert.Proof.Gqa

end
-- ==== Proof.Run.lean ====
/-
  The launch: the proof data of the one pipeline, the body's obligation at any point of the grid (by `body_run`), the
  run of the whole program and its frame, over any values.
-/
module

public import proofs.«01_k».proof.Proof.BodyRuns
public import proofs.«01_k».proof.Proof.Gen.KernelIdeal.Frame
public import Idealize.ShloMosaic.Lib.Claim

@[expose] public section

set_option maxRecDepth 16384

noncomputable section

namespace Cert.Proof.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## A whole buffer, as `owns` and as `own` -/

theorem own_of_owns (d : Dev nD) {s : Shape} {e : EltTy} (b : Memref sig .tc .vmem s e) (h : b.IsWhole) (X : s.Idx → Elt F e) :
    (owns (d : Thread nD τ) b fullShare X : SP F) ⊢ own d b h X := by
  unfold owns
  iintro ⟨%f, %hf, H⟩
  have := h.eq_unread hf
  subst this
  rw [h.set_eq_univ]
  iexact H

theorem owns_of_own (d : Dev nD) {s : Shape} {e : EltTy} (b : Memref sig .tc .vmem s e) (h : b.IsWhole) (X : s.Idx → Elt F e) :
    own d b h X ⊢ (owns (d : Thread nD τ) b fullShare X : SP F) := by
  unfold owns
  iintro H
  iexists h.unread X
  isplitr
  · ipureintro; exact h.read_unread X
  · rw [h.set_eq_univ]; iexact H

/-! ## The pipeline's proof data -/

/-- What the body leaves in the result window at point `t`. -/
def outAt (c : Dev nD) (t : Fin cfg0.N) : Vec F S1x17x256x256 .bf16 :=
  resO (iblk m c 0 t) (iblk m c 1 t) (iblk m c 2 t) (fun _ => Scalar.ofBits .bf16 0) 17 le_rfl

/-- The proof data of the pipeline on core `c`: the arrays as the region finds them; after the body at point `t` each input
    window holds its block and the result window `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- The buffers the body is called with at point `t`. -/
abbrev bufsAt (t : Fin cfg0.N) : Bufs where
  arg2 := win0_0.stage (cfg0.slots t 0)
  h2 := hstage0_0 ((cfg0.slots t 0).cast nbuf0_0)
  arg3 := win0_1.stage (cfg0.slots t 1)
  h3 := hstage0_1 ((cfg0.slots t 1).cast nbuf0_1)
  arg4 := win0_2.stage (cfg0.slots t 2)
  h4 := hstage0_2 ((cfg0.slots t 2).cast nbuf0_2)
  arg5 := win0_3.stage (cfg0.slots t 3)
  h5 := hstage0_3 ((cfg0.slots t 3).cast nbuf0_3)
  arg6 := Memref.whole cc0_scratch0
  h6 := Memref.isWhole_whole _
  arg7 := Memref.whole cc0_scratch1
  h7 := Memref.isWhole_whole _
  arg8 := Memref.whole cc0_scratch2
  h8 := Memref.isWhole_whole _
  arg9 := Memref.whole cc0_scratch3
  h9 := Memref.isWhole_whole _
  arg10 := Memref.whole cc0_scratch4
  h10 := Memref.isWhole_whole _

/-- What the body is called with at point `t`, the windows one by one, -/
def bodyPre (c : Dev nD) (t : Fin cfg0.N) : SP F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : SP F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point, by `body_run`: its windows and its scratch as plain arrays, the rest beside them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl]
  unfold Pipeline.ΦA
  rw [scopedRest0_eq]
  iintro ⟨⟨⟨⟨%f0, S0⟩, ⟨%f1, S1⟩, ⟨%f2, S2⟩, ⟨%f3, S3⟩, ⟨%f4, S4⟩⟩, Hr⟩, Ho, ⟨%d0, H0⟩, ⟨%d1, H1⟩, ⟨%d2, H2⟩, ⟨%d3, H3⟩⟩
  iapply (body_run (d := c) (E := Set.univ) (B := bufsAt t)
    (W := iprop((∃ r, prngReg c r) ∗ (dats m 0 c).owesAt () t.castSucc))
    (σ := ⟨iblk m c 0 t, iblk m c 1 t, iblk m c 2 t, (dats m 0 c).before 3 t d3, f0, f1, f2, f3, f4⟩) (grid0.coords t) ?hk)
  case hk =>
    intro τ' hq hk hv ho
    unfold Pts
    have ho' : τ'.o = outAt m c t := ho.trans (resO_all _ _ _ _ _)
    rw [hq, hk, hv, ho']
    iintro ⟨⟨Hr, Ho⟩, H0, H1, H2, H3, S0, S1, S2, S3, S4⟩
    isplitl [Hr S0 S1 S2 S3 S4]
    · isplitr [Hr]
      · isplitl [S0]; · iexists _; iexact S0
        isplitl [S1]; · iexists _; iexact S1
        isplitl [S2]; · iexists _; iexact S2
        isplitl [S3]; · iexists _; iexact S3
        iexists _; iexact S4
      · iexact Hr
    isplitl [Ho]; · iexact Ho
    isplitl [H0]; · iapply (owns_of_own c _ (bufsAt t).h2 _); iexact H0
    isplitl [H1]; · iapply (owns_of_own c _ (bufsAt t).h3 _); iexact H1
    isplitl [H2]; · iapply (owns_of_own c _ (bufsAt t).h4 _); iexact H2
    iapply (owns_of_own c _ (bufsAt t).h5 _); iexact H3
  unfold Pts
  isplitl [Hr Ho]
  · isplitl [Hr]; · iexact Hr
    iexact Ho
  isplitl [H0]; · iapply (own_of_owns c _ (bufsAt t).h2 _); iexact H0
  isplitl [H1]; · iapply (own_of_owns c _ (bufsAt t).h3 _); iexact H1
  isplitl [H2]; · iapply (own_of_owns c _ (bufsAt t).h4 _); iexact H2
  isplitl [H3]; · iapply (own_of_owns c _ (bufsAt t).h5 _); iexact H3
  isplitl [S0]; · iapply (own_of_owns c (Memref.whole cc0_scratch0) (Memref.isWhole_whole _) f0); iapply (Entails.of_eq ((owns_whole (c : Thread nD τ) cc0_scratch0 fullShare f0).symm)); iexact S0
  isplitl [S1]; · iapply (own_of_owns c (Memref.whole cc0_scratch1) (Memref.isWhole_whole _) f1); iapply (Entails.of_eq ((owns_whole (c : Thread nD τ) cc0_scratch1 fullShare f1).symm)); iexact S1
  isplitl [S2]; · iapply (own_of_owns c (Memref.whole cc0_scratch2) (Memref.isWhole_whole _) f2); iapply (Entails.of_eq ((owns_whole (c : Thread nD τ) cc0_scratch2 fullShare f2).symm)); iexact S2
  isplitl [S3]; · iapply (own_of_owns c (Memref.whole cc0_scratch3) (Memref.isWhole_whole _) f3); iapply (Entails.of_eq ((owns_whole (c : Thread nD τ) cc0_scratch3 fullShare f3).symm)); iexact S3
  iapply (own_of_owns c (Memref.whole cc0_scratch4) (Memref.isWhole_whole _) f4); iapply (Entails.of_eq ((owns_whole (c : Thread nD τ) cc0_scratch4 fullShare f4).symm)); iexact S4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the pipeline's arrays end as the proof data says, and every semaphore counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, over any values: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Proof.Gqa

end
-- ==== Proof.Frames.lean ====
/-
  The frames: the kernel as printed over words (the same text as the idealized one, its named constant spelt as the word it
  stands for), the kernel over extended reals, and the reference.
-/
module

public import proofs.«01_k».proof.Defs
public import proofs.«01_k».proof.Proof.Run
public import proofs.«01_k».proof.Proof.Gen.Kernel
public import proofs.«01_k».proof.Proof.Gen.ReferenceIdeal
public import Idealize.ShloMosaic.Lib.Claim
public import proofs.«01_k».proof.Proof.Gen.ReferenceIdeal.Run

@[expose] public section

noncomputable section

namespace Cert.Proof.Gqa

open Idealize.ShloMosaic Idealize.ShloMosaic.TcCoe
open Idealize.SL.Sem

/-- Over words a named constant is the word it names. -/
instance namedBits : Named Bits where
  named _ _ _ b := Scalar.ofBits _ b

theorem frame_KernelIdeal : Cert.quiescent_KernelIdeal := fun m ρ _ => frame (F := Ideal) m ρ

/-- The frame of the idealized text over values `F`. -/
def FrameAt (F : FTy → Type) [FloatOps F] [Named F] : Prop :=
  ∀ (m : (ℓ : Loc Cert.KernelIdeal.nD Cert.KernelIdeal.τ Cert.KernelIdeal.sig) → Buf (Elt F) ℓ)
    (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

theorem frameAt (F : FTy → Type) [FloatOps F] [Named F] : FrameAt F := fun m ρ _ => frame (F := F) m ρ

/-- Over words the idealized text is the printed one. -/
theorem frameAt_bits : FrameAt Bits = Cert.quiescent_Kernel := by chain_rfl

theorem frame_Kernel : Cert.quiescent_Kernel := frameAt_bits.mp (frameAt Bits)

theorem preserves : Cert.preserves_Kernel_KernelIdeal :=
  IdealRules.named_const.statement Cert.KernelIdeal.κ "scale_log2e" .f32 0x3E38AA3B#32 _ rfl

theorem frame_ReferenceIdeal : Cert.quiescent_ReferenceIdeal := fun m ρ _ =>
  (θ_run _ _ _).mono (fun _ h => ⟨fun c => (h c).2, Idealize.ShloMosaic.sem_eq_zero_of_no_sems (by decide) _⟩) (Cert.ReferenceIdeal.Value.run m ρ)

end Cert.Proof.Gqa

end
-- ==== Proof.Online.lean ====
/-
  The mathematics of a softmax kept over tiles, with no program in it: powers of two times values sum to the same
  quotient as exponentials divided by their sum, whatever number is taken off the logits.
-/
module

public import Idealize.ShloMosaic.PureOps.Ideal
public import Idealize.ShloMosaic.PureOps.Ideal.Laws

@[expose] public section

noncomputable section

namespace Cert.Proof.Gqa

open Idealize.ShloMosaic

/-- A finite extended real. -/
def Fin' (x : EReal) : Prop := ∃ r : ℝ, x = (r : EReal)

theorem Fin'.coe (r : ℝ) : Fin' (r : EReal) := ⟨r, rfl⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.max {x y : EReal} (hx : Fin' x) (hy : Fin' y) : Fin' (max x y) := by
  rcases max_choice x y with h | h <;> rw [h] <;> assumption
theorem Fin'.sum {ι : Type*} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih

/-- The greatest of finitely many finite numbers, at least one, is finite, however the fold starts from below. -/
theorem Fin'.fold {ι : Type*} (s : Finset ι) (hs : s.Nonempty) {f : ι → EReal} (h : ∀ i, Fin' (f i)) : Fin' (s.fold Max.max ⊥ f) := by
  classical
  induction s using Finset.induction_on with
  | empty => exact absurd hs (by simp)
  | insert a s ha ih =>
    rw [Finset.fold_insert ha]
    rcases s.eq_empty_or_nonempty with rfl | hne
    · simpa using h a
    · exact (h a).max (ih hne)

theorem Fin'.toReal {x : EReal} (h : Fin' x) : ((x.toReal : ℝ) : EReal) = x := by obtain ⟨r, rfl⟩ := h; rfl

/-- A nonnegative number times a sum. -/
theorem coe_mul_sum {ι : Type*} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (by exact_mod_cast ha) (EReal.coe_ne_top a), ih]

theorem sum_mul_coe {ι : Type*} (s : Finset ι) {a : ℝ} (ha : 0 ≤ a) (f : ι → EReal) :
    (∑ i ∈ s, f i) * (a : EReal) = ∑ i ∈ s, f i * (a : EReal) := by
  rw [mul_comm, coe_mul_sum s ha]; exact Finset.sum_congr rfl fun i _ => mul_comm _ _

theorem coe_sum' {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- Two to a power. -/
def p2 (x : ℝ) : ℝ := (2 : ℝ) ^ x

theorem p2_pos (x : ℝ) : 0 < p2 x := Real.rpow_pos_of_pos (by norm_num) x
theorem p2_add (x y : ℝ) : p2 x * p2 y = p2 (x + y) := (Real.rpow_add (by norm_num) x y).symm
theorem p2_eq (x : ℝ) : p2 x = Real.exp (Real.log 2 * x) := by rw [p2, Real.rpow_def_of_pos (by norm_num)]

/-- `exp2` of the difference of finite numbers. -/
theorem exp2_sub {x y : EReal} (hx : Fin' x) (hy : Fin' y) : Ideal.exp2 (x - y) = (p2 (x.toReal - y.toReal) : EReal) := by
  obtain ⟨a, rfl⟩ := hx; obtain ⟨b, rfl⟩ := hy; rfl
theorem exp_sub {x y : EReal} (hx : Fin' x) (hy : Fin' y) : Ideal.exp (x - y) = (Real.exp (x.toReal - y.toReal) : EReal) := by
  obtain ⟨a, rfl⟩ := hx; obtain ⟨b, rfl⟩ := hy; rfl

/-- One tile folded in: the sums kept over the old maximum, brought to the new one, with the tile's own. -/
theorem fold_step {ι κ : Type*} (S : Finset ι) (T : Finset κ) (va : ι → EReal) (s : ι → ℝ) (vb : κ → EReal) (t : κ → ℝ) (M M' : ℝ) :
    (p2 (M - M') : EReal) * ∑ i ∈ S, va i * (p2 (s i - M) : EReal) + ∑ j ∈ T, vb j * (p2 (t j - M') : EReal)
      = ∑ i ∈ S, va i * (p2 (s i - M') : EReal) + ∑ j ∈ T, vb j * (p2 (t j - M') : EReal) := by
  congr 1
  rw [coe_mul_sum S (p2_pos _).le]
  refine Finset.sum_congr rfl fun i _ => ?_
  rw [mul_left_comm, ← EReal.coe_mul, p2_add]
  rw [show M - M' + (s i - M) = s i - M' by ring]

/-- The quotient: values weighed by powers of two of the scores over the powers' sum are the values weighed by the softmax of
    the logits, `u k = s k · log 2`. -/
theorem quotient {ι : Type*} (S : Finset ι) (hS : S.Nonempty) (v : ι → EReal) (s u : ι → ℝ) (M M' : ℝ) (hu : ∀ k, u k = Real.log 2 * s k) :
    Ideal.div (∑ k ∈ S, v k * (p2 (s k - M) : EReal)) (∑ k ∈ S, 1 * (p2 (s k - M) : EReal))
      = ∑ k ∈ S, v k * Ideal.div (Real.exp (u k - M') : EReal) (∑ k ∈ S, (Real.exp (u k - M') : EReal)) := by
  have hp : ∀ k, p2 (s k - M) = Real.exp (u k - M') * Real.exp (M' - Real.log 2 * M) := fun k => by
    rw [p2_eq, ← Real.exp_add, hu]; congr 1; ring
  generalize hγ : Real.exp (M' - Real.log 2 * M) = γ at hp
  have hγ0 : 0 < γ := hγ ▸ Real.exp_pos _
  have hE : 0 < ∑ k ∈ S, Real.exp (u k - M') := Finset.sum_pos (fun k _ => Real.exp_pos _) hS
  simp only [one_mul, coe_sum', hp]
  rw [← Finset.sum_mul]
  generalize ∑ k ∈ S, Real.exp (u k - M') = E at hE ⊢
  rw [Ideal.div_coe (mul_pos hE hγ0).ne', sum_mul_coe S (by positivity)]
  refine Finset.sum_congr rfl fun k _ => ?_
  rw [Ideal.div_coe hE.ne', mul_assoc, ← EReal.coe_mul, ← EReal.coe_mul]
  congr 2
  field_simp

end Cert.Proof.Gqa

end
-- ==== Proof.Tiles.lean ====
/-
  The stages' arrays over extended reals, read at an index: scores, running maximum, accumulator and the result window.
-/
module

public import proofs.«01_k».proof.Proof.StageRuns
public import proofs.«01_k».proof.Proof.Online
public import Idealize.ShloMosaic.Lib.Pointwise

@[expose] public section

set_option maxRecDepth 16384

noncomputable section

namespace Cert.Proof.Gqa

open Cert.KernelIdeal Cert.KernelIdeal.Gen
open Idealize.ShloMosaic Idealize.ShloMosaic.TcCoe Idealize.ShloMosaic.Tactic

/-! ## What a payload holds at an index -/

/-- Number `kap` scales the queries: log₂ e over 8. -/
def kap : ℝ := (Real.log 2)⁻¹ * (1 / 8)

theorem ofBits_neg_inf : Ideal.ofBits .f32 0xFF800000#32 = (⊥ : EReal) := by simp [Ideal.ofBits, Ideal.ieee]
theorem ofBits_inf : Ideal.ofBits .f32 0x7F800000#32 = (⊤ : EReal) := by simp [Ideal.ofBits, Ideal.ieee]
theorem ofBits_eighth : Ideal.ofBits .f32 0x3E000000#32 = ((1 / 8 : ℝ) : EReal) := by
  simp [Ideal.ofBits, Ideal.ieee, -EReal.coe_mul]; norm_num
theorem ofBits_start : Fin' (Ideal.ofBits .f32 0xF149F2CA#32) := by
  simp only [Ideal.ofBits, Ideal.ieee]
  norm_num
  exact ⟨_, rfl⟩

theorem pay3_apply (k : Vec Ideal S1x1x1x256x128 .bf16) (c : Vec Ideal S64x1024 .bf16) (w : Fin 256) (x : Fin 1024) :
    k0_pay3 (F := Ideal) k c (ix2 w x) = ∑ d : Fin 64, k (ix5 0 0 0 w ⟨d, by omega⟩) * c (ix2 d x) := by
  unfold_payloads
  pointwise

theorem pay4_apply (k : Vec Ideal S1x1x1x256x128 .bf16) (c : Vec Ideal S64x1024 .bf16) (w : Fin 256) (x : Fin 1024) :
    k0_pay4 (F := Ideal) k c (ix3 0 w x) = k0_pay3 (F := Ideal) k c (ix2 w x) := by
  unfold k0_pay4
  pointwise

theorem fin_pay5 (k : Vec Ideal S1x1x1x256x128 .bf16) (c : Vec Ideal S64x1024 .bf16) (x : Fin 1024) (h : ∀ w, Fin' (k0_pay3 (F := Ideal) k c (ix2 w x))) :
    Fin' (k0_pay5 (F := Ideal) k c (ix3 0 0 x)) := by
  unfold k0_pay5
  generalize k0_pay3 k c = y at h
  pointwise
  rw [ofBits_neg_inf]
  exact Fin'.fold _ ⟨⟨0, by decide⟩, Finset.mem_univ _⟩ h

theorem pay9_apply (mo mx : Vec Ideal S1x1x1024 .f32) (x : Fin 1024) :
    k0_pay9 (F := Ideal) mo mx (ix3 0 0 x) = max (mo (ix3 0 0 x)) (mx (ix3 0 0 x)) := by
  unfold_payloads
  pointwise

theorem pay253_apply (q : Vec Ideal S1x1x64x256 .f32) (d : Fin 64) (x : Fin 256) :
    k0_pay253 (F := Ideal) q (ix2 d x) = q (ix4 0 0 d x) * (kap : EReal) := by
  unfold_payloads
  pointwise
  rfl

theorem pay251_apply (x : Fin 1024) : Fin' (k0_pay251 (F := Ideal) (ix3 0 0 x)) := by
  unfold_payloads
  pointwise
  exact ofBits_start

theorem pay252_apply (r : Fin 80) (x : Fin 1024) : k0_pay252 (F := Ideal) (ix2 r x) = 0 := by
  unfold_payloads
  pointwise

/-- Values over rows of ones. -/
def aug (v : Vec Ideal S1x1x64x256 .bf16) (r : Fin 80) (w : Fin 256) : EReal :=
  if h : r.val < 64 then v (ix4 0 0 ⟨r, h⟩ w) else 1

/-- One tile folded into the accumulator, at an index. -/
def foldAt (v : Vec Ideal S1x1x64x256 .bf16) (mo mx : Vec Ideal S1x1x1024 .f32) (s : Fin 256 → EReal) (a : EReal) (r : Fin 80) (x : Fin 1024) : EReal :=
  Ideal.exp2 (mo (ix3 0 0 x) - max (mo (ix3 0 0 x)) (mx (ix3 0 0 x))) * a
    + ∑ w : Fin 256, aug v r w * Ideal.exp2 (s w - max (mo (ix3 0 0 x)) (mx (ix3 0 0 x)))

theorem foldPay0_apply (v : Vec Ideal S1x1x64x256 .bf16) (mo mx : Vec Ideal S1x1x1024 .f32) (s : Vec Ideal S1x256x256 .f32) (a : Vec Ideal S80x256 .f32)
    (r : Fin 80) (x : Fin 256) : foldPay0 (F := Ideal) v mo mx s a (ix2 r x) = foldAt v mo mx (fun w => s (ix3 0 w x)) (a (ix2 r x)) r ⟨x, by omega⟩ := by
  unfold foldPay0
  unfold_payloads
  pointwise
  rfl

theorem foldPay1_apply (v : Vec Ideal S1x1x64x256 .bf16) (mo mx : Vec Ideal S1x1x1024 .f32) (s : Vec Ideal S1x256x256 .f32) (a : Vec Ideal S80x256 .f32)
    (r : Fin 80) (x : Fin 256) : foldPay1 (F := Ideal) v mo mx s a (ix2 r x) = foldAt v mo mx (fun w => s (ix3 0 w x)) (a (ix2 r x)) r ⟨256 + x, by omega⟩ := by
  unfold foldPay1
  unfold_payloads
  pointwise
  rfl

theorem foldPay2_apply (v : Vec Ideal S1x1x64x256 .bf16) (mo mx : Vec Ideal S1x1x1024 .f32) (s : Vec Ideal S1x256x256 .f32) (a : Vec Ideal S80x256 .f32)
    (r : Fin 80) (x : Fin 256) : foldPay2 (F := Ideal) v mo mx s a (ix2 r x) = foldAt v mo mx (fun w => s (ix3 0 w x)) (a (ix2 r x)) r ⟨512 + x, by omega⟩ := by
  unfold foldPay2
  unfold_payloads
  pointwise
  rfl

theorem foldPay3_apply (v : Vec Ideal S1x1x64x256 .bf16) (mo mx : Vec Ideal S1x1x1024 .f32) (s : Vec Ideal S1x256x256 .f32) (a : Vec Ideal S80x256 .f32)
    (r : Fin 80) (x : Fin 256) : foldPay3 (F := Ideal) v mo mx s a (ix2 r x) = foldAt v mo mx (fun w => s (ix3 0 w x)) (a (ix2 r x)) r ⟨768 + x, by omega⟩ := by
  unfold foldPay3
  unfold_payloads
  pointwise
  rfl

theorem pay250_apply (a : Vec Ideal S64x1024 .f32) (r : Fin 64) (x : Fin 256) : k0_pay250 (F := Ideal) a (ix4 0 0 r x) = a (ix2 r ⟨768 + x, by omega⟩) := by
  unfold_payloads
  pointwise
theorem pay245_apply (a : Vec Ideal S64x1024 .f32) (l : Vec Ideal S1x1024 .f32) (r : Fin 64) (x : Fin 1024) :
    k0_pay245 (F := Ideal) a l (ix2 r x) = Ideal.div (a (ix2 r x)) (l (ix2 0 x)) := by
  unfold_payloads
  pointwise
theorem pay246_apply (a : Vec Ideal S64x1024 .f32) (l : Vec Ideal S1x1024 .f32) (r : Fin 64) (x : Fin 256) :
    k0_pay246 (F := Ideal) a l (ix4 0 0 r x) = k0_pay245 (F := Ideal) a l (ix2 r ⟨x, by omega⟩) := by
  unfold k0_pay246
  pointwise
theorem pay247_apply (a : Vec Ideal S64x1024 .f32) (l : Vec Ideal S1x1024 .f32) (r : Fin 64) (x : Fin 256) :
    k0_pay247 (F := Ideal) a l (ix4 0 0 r x) = k0_pay245 (F := Ideal) a l (ix2 r ⟨256 + x, by omega⟩) := by
  unfold k0_pay247
  pointwise
theorem pay249_apply (a : Vec Ideal S64x1024 .f32) (l : Vec Ideal S1x1024 .f32) (r : Fin 64) (x : Fin 256) :
    k0_pay249 (F := Ideal) (k0_pay248 (F := Ideal) a l) (ix4 0 0 r x) = k0_pay245 (F := Ideal) a l (ix2 r ⟨512 + x, by omega⟩) := by
  unfold k0_pay249 k0_pay248
  pointwise

/-! ## Four columns of blocks -/

/-- Column `i` of block `g`. -/
def col (g : Fin 4) (i : Fin 256) : Fin 1024 := ⟨256 * g.val + i.val, by omega⟩

theorem exists_col (x : Fin 1024) : ∃ g i, x = col g i :=
  ⟨⟨x.val / 256, by omega⟩, ⟨x.val % 256, by omega⟩, Fin.ext (by simp only [col]; omega)⟩

theorem idx_block {R : ℕ} (o : ℕ) (h : ∀ a, (![0, o] : Fin 2 → ℕ) a + (⟨2, ![R, 256]⟩ : Shape).size a ≤ (⟨2, ![R, 1024]⟩ : Shape).size a) (r : Fin R) (i : Fin 256)
    (x : Fin 1024) (e : x.val = o + i.val) :
    (Rect.unit (s := ⟨2, ![R, 1024]⟩) ![0, o] (⟨2, ![R, 256]⟩ : Shape).size h).idx (ix2 r i) = ix2 r x :=
  funext fun a => Fin.ext (by rw [LoadRect.idx_apply]; fin_cases a <;> simp [e])

theorem not_mem_block {R : ℕ} (o : ℕ) (h : ∀ a, (![0, o] : Fin 2 → ℕ) a + (⟨2, ![R, 256]⟩ : Shape).size a ≤ (⟨2, ![R, 1024]⟩ : Shape).size a) (r : Fin R)
    (x : Fin 1024) (e : x.val < o ∨ o + 256 ≤ x.val) :
    ix2 r x ∉ (Rect.unit (s := ⟨2, ![R, 1024]⟩) ![0, o] (⟨2, ![R, 256]⟩ : Shape).size h).set := by
  rw [Rect.mem_set_unit]
  intro H
  have := H 1
  simp at this
  omega

/-- Part `o` of tile `j` of a window of queries or results. -/
theorem idx_rQ {j o : ℕ} (hj : j < 17) (h : ∀ a, (![0, j, o, 0] : Fin 4 → ℕ) a + S1x1x64x256.size a ≤ S1x17x256x256.size a) (d : Fin 64) (i : Fin 256) (f : Fin 256)
    (e : f.val = o + d.val) : (rQ ![0, j, o, 0] h).idx (ix4 0 0 d i) = ix4 0 ⟨j, hj⟩ f i :=
  funext fun a => Fin.ext (by rw [LoadRect.idx_apply]; fin_cases a <;> simp [e])

theorem not_mem_rQ {j o : ℕ} (hj : j < 17) (h : ∀ a, (![0, j, o, 0] : Fin 4 → ℕ) a + S1x1x64x256.size a ≤ S1x17x256x256.size a) (i : Fin 256) (f : Fin 256)
    (e : f.val < o ∨ o + 64 ≤ f.val) : (ix4 0 ⟨j, hj⟩ f i : S1x17x256x256.Idx) ∉ (rQ ![0, j, o, 0] h).set := by
  rw [Rect.mem_set_unit]
  intro H
  have := H 2
  simp at this
  omega

theorem kT_apply (k : Vec Ideal S1x17x1x256x128 .bf16) {t : ℕ} (ht : t < 17) (w : Fin 256) (l : Fin 128) :
    kT k t (ix5 0 0 0 w l) = k (ix5 0 ⟨t, ht⟩ 0 w l) := by
  rw [kT_of ht, rd_apply]
  exact congrArg k (funext fun a => Fin.ext (by rw [LoadRect.idx_apply]; fin_cases a <;> simp))
theorem vT_apply (v : Vec Ideal S1x17x64x256 .bf16) {t : ℕ} (ht : t < 17) (d : Fin 64) (w : Fin 256) :
    vT v t (ix4 0 0 d w) = v (ix4 0 ⟨t, ht⟩ d w) := by
  rw [vT_of ht, rd_apply]
  exact congrArg v (funext fun a => Fin.ext (by rw [LoadRect.idx_apply]; fin_cases a <;> simp))

/-- Feature `d` of part `g`. -/
def feat (g : Fin 4) (d : Fin 64) : Fin 256 := ⟨64 * g.val + d.val, by omega⟩

/-- Scaled queries, features before columns: block `g` of column `x` is the tile's part `g`. -/
theorem layQ_apply (q : Vec Ideal S1x17x256x256 .f32) (j : ℕ) (hj : j < 17) (d : Fin 64) (g : Fin 4) (i : Fin 256) :
    layQ q j hj (ix2 d (col g i)) = q (ix4 0 ⟨j, hj⟩ (feat g d) i) * (kap : EReal) := by
  unfold layQ layOn
  have hi := i.isLt
  match g with
  | 3 =>
    rw [upd_of_eq rC3 _ _ (idx_block 768 _ d i (col 3 i) rfl), pay253_apply, rd_apply, idx_rQ (o := 192) hj _ d i (feat 3 d) (by simp only [feat]; simp)]
  | 2 =>
    rw [upd_of_not_mem rC3 _ _ (not_mem_block 768 _ d _ (by simp only [col]; simp <;> omega)), upd_of_eq rC2 _ _ (idx_block 512 _ d i (col 2 i) rfl), pay253_apply,
      rd_apply, idx_rQ (o := 128) hj _ d i (feat 2 d) (by simp only [feat]; simp)]
  | 1 =>
    rw [upd_of_not_mem rC3 _ _ (not_mem_block 768 _ d _ (by simp only [col]; simp <;> omega)),
      upd_of_not_mem rC2 _ _ (not_mem_block 512 _ d _ (by simp only [col]; simp <;> omega)), upd_of_eq rC1 _ _ (idx_block 256 _ d i (col 1 i) rfl), pay253_apply,
      rd_apply, idx_rQ (o := 64) hj _ d i (feat 1 d) (by simp only [feat]; simp)]
  | 0 =>
    rw [upd_of_not_mem rC3 _ _ (not_mem_block 768 _ d _ (by simp only [col]; simp <;> omega)),
      upd_of_not_mem rC2 _ _ (not_mem_block 512 _ d _ (by simp only [col]; simp <;> omega)),
      upd_of_not_mem rC1 _ _ (not_mem_block 256 _ d _ (by simp only [col]; simp <;> omega)), upd_of_eq rC0 _ _ (idx_block 0 _ d i (col 0 i) rfl), pay253_apply,
      rd_apply, idx_rQ (o := 0) hj _ d i (feat 0 d) (by simp only [feat]; simp)]

theorem colS_apply {o : ℕ} (ho : o ≤ 768) (S : Vec Ideal S1x256x1024 .f32) (w : Fin 256) (i : Fin 256) (x : Fin 1024) (e : x.val = o + i.val) :
    colS o ho S (ix3 0 w i) = S (ix3 0 w x) := by
  unfold colS
  exact congrArg S (funext fun a => Fin.ext (by fin_cases a <;> simp [e]))

/-- The accumulator with a tile folded in, at an index. -/
theorem foldA_apply (v : Vec Ideal S1x1x64x256 .bf16) (mo mx : Vec Ideal S1x1x1024 .f32) (S : Vec Ideal S1x256x1024 .f32) (A : Vec Ideal S80x1024 .f32)
    (r : Fin 80) (x : Fin 1024) : foldA v mo mx S A (ix2 r x) = foldAt v mo mx (fun w => S (ix3 0 w x)) (A (ix2 r x)) r x := by
  obtain ⟨g, i, rfl⟩ := exists_col x
  have hi := i.isLt
  unfold foldA
  match g with
  | 3 =>
    rw [upd_of_eq rA3 _ _ (idx_block 768 _ r i (col 3 i) rfl), foldPay3_apply, rd_apply, idx_block 768 _ r i (col 3 i) rfl]
    simp only [colS_apply (o := 768) (by decide) S _ i (col 3 i) rfl]
    rfl
  | 2 =>
    rw [upd_of_not_mem rA3 _ _ (not_mem_block 768 _ r _ (by simp only [col]; simp <;> omega)), upd_of_eq rA2 _ _ (idx_block 512 _ r i (col 2 i) rfl), foldPay2_apply,
      rd_apply, idx_block 512 _ r i (col 2 i) rfl]
    simp only [colS_apply (o := 512) (by decide) S _ i (col 2 i) rfl]
    rfl
  | 1 =>
    rw [upd_of_not_mem rA3 _ _ (not_mem_block 768 _ r _ (by simp only [col]; simp <;> omega)),
      upd_of_not_mem rA2 _ _ (not_mem_block 512 _ r _ (by simp only [col]; simp <;> omega)), upd_of_eq rA1 _ _ (idx_block 256 _ r i (col 1 i) rfl), foldPay1_apply,
      rd_apply, idx_block 256 _ r i (col 1 i) rfl]
    simp only [colS_apply (o := 256) (by decide) S _ i (col 1 i) rfl]
    rfl
  | 0 =>
    rw [upd_of_not_mem rA3 _ _ (not_mem_block 768 _ r _ (by simp only [col]; simp <;> omega)),
      upd_of_not_mem rA2 _ _ (not_mem_block 512 _ r _ (by simp only [col]; simp <;> omega)),
      upd_of_not_mem rA1 _ _ (not_mem_block 256 _ r _ (by simp only [col]; simp <;> omega)), upd_of_eq rA0 _ _ (idx_block 0 _ r i (col 0 i) rfl), foldPay0_apply,
      rd_apply, idx_block 0 _ r i (col 0 i) rfl]
    simp only [colS_apply (o := 0) (by decide) S _ i (col 0 i) (by simp only [col]; simp)]
    congr 1
    exact Fin.ext (by simp [col])

/-- The written result tile, at an index. -/
theorem finO_apply (j : ℕ) (hj : j < 17) (A : Vec Ideal S80x1024 .f32) (O : Vec Ideal S1x17x256x256 .bf16) (d : Fin 64) (g : Fin 4) (i : Fin 256) :
    finO j hj A O (ix4 0 ⟨j, hj⟩ (feat g d) i) = Ideal.div (A (ix2 ⟨d, by omega⟩ (col g i))) (A (ix2 64 (col g i))) := by
  have hd := d.isLt
  have ev : ∀ x : Fin 1024, rd rAv A (ix2 d x) = A (ix2 ⟨d, by omega⟩ x) := fun x =>
    congrArg A (funext fun a => Fin.ext (by rw [LoadRect.idx_apply]; fin_cases a <;> simp))
  have el : ∀ x : Fin 1024, rd rAl A (ix2 0 x) = A (ix2 64 x) := fun x =>
    congrArg A (funext fun a => Fin.ext (by rw [LoadRect.idx_apply]; fin_cases a <;> simp))
  unfold finO
  match g with
  | 3 =>
    rw [upd_of_eq _ _ _ (idx_rQ (o := 192) hj _ d i (feat 3 d) (by simp only [feat]; simp)), pay250_apply, pay245_apply, ev, el]
    rfl
  | 2 =>
    rw [upd_of_not_mem _ _ _ (not_mem_rQ hj _ i _ (by simp only [feat]; simp <;> omega)), upd_of_eq _ _ _ (idx_rQ (o := 128) hj _ d i (feat 2 d) (by simp only [feat]; simp)), pay249_apply, pay245_apply,
      ev, el]
    rfl
  | 1 =>
    rw [upd_of_not_mem _ _ _ (not_mem_rQ hj _ i _ (by simp only [feat]; simp <;> omega)), upd_of_not_mem _ _ _ (not_mem_rQ hj _ i _ (by simp only [feat]; simp <;> omega)),
      upd_of_eq _ _ _ (idx_rQ (o := 64) hj _ d i (feat 1 d) (by simp only [feat]; simp)), pay247_apply, pay245_apply, ev, el]
    rfl
  | 0 =>
    rw [upd_of_not_mem _ _ _ (not_mem_rQ hj _ i _ (by simp only [feat]; simp <;> omega)), upd_of_not_mem _ _ _ (not_mem_rQ hj _ i _ (by simp only [feat]; simp <;> omega)),
      upd_of_not_mem _ _ _ (not_mem_rQ hj _ i _ (by simp only [feat]; simp <;> omega)),
      upd_of_eq _ _ _ (idx_rQ (o := 0) hj _ d i (feat 0 d) (by simp only [feat]; simp)), pay246_apply, pay245_apply, ev, el]
    have e : (⟨i.val, by omega⟩ : Fin 1024) = col 0 i := Fin.ext (by simp [col])
    rw [e]

/-- The result window, at an index: tile `j` of it is what stage `j` wrote. -/
theorem resO_apply (q : Vec Ideal S1x17x256x256 .f32) (k : Vec Ideal S1x17x1x256x128 .bf16) (v : Vec Ideal S1x17x64x256 .bf16) (O : Vec Ideal S1x17x256x256 .bf16)
    (j : ℕ) (hj : j < 17) (d : Fin 64) (g : Fin 4) (i : Fin 256) : ∀ (n : ℕ) (h : n ≤ 17), j < n →
      resO q k v O n h (ix4 0 ⟨j, hj⟩ (feat g d) i)
        = Ideal.div (stA k v (layQ q j hj) (tiles j) (ix2 ⟨d, by omega⟩ (col g i))) (stA k v (layQ q j hj) (tiles j) (ix2 64 (col g i)))
  | 0, _, hn => absurd hn (Nat.not_lt_zero _)
  | n + 1, h, hn => by
    rcases Nat.lt_succ_iff_lt_or_eq.mp hn with hlt | rfl
    · show finO n _ _ _ _ = _
      rw [finO_of_ne _ _ _ (show j ≠ n by omega)]
      exact resO_apply q k v O j hj d g i n _ hlt
    · exact finO_apply j _ _ _ d g i

/-! ## The running maximum and the accumulator -/

theorem sum_range_succ_product {N : ℕ} (n : ℕ) (f : ℕ × Fin N → EReal) : ∑ p ∈ Finset.range (n + 1) ×ˢ (Finset.univ : Finset (Fin N)), f p
    = ∑ p ∈ Finset.range n ×ˢ (Finset.univ : Finset (Fin N)), f p + ∑ w : Fin N, f (n, w) := by
  rw [Finset.sum_product, Finset.sum_product, Finset.sum_range_succ]

section Fold
variable (k : Vec Ideal S1x17x1x256x128 .bf16) (v : Vec Ideal S1x17x64x256 .bf16) (c : Vec Ideal S64x1024 .bf16)
variable (hk : ∀ t w l, Fin' (k (ix5 0 t 0 w l))) (hc : ∀ d x, Fin' (c (ix2 d x)))
include hk hc

theorem scS_apply {t : ℕ} (ht : t < 17) (w : Fin 256) (x : Fin 1024) :
    scS k c t (ix3 0 w x) = ∑ d : Fin 64, k (ix5 0 ⟨t, ht⟩ 0 w ⟨d, by omega⟩) * c (ix2 d x) := by
  unfold scS
  rw [pay4_apply, pay3_apply]
  simp only [kT_apply k ht]

theorem fin_scS {t : ℕ} (ht : t < 17) (w : Fin 256) (x : Fin 1024) : Fin' (scS k c t (ix3 0 w x)) := by
  rw [scS_apply k c hk hc ht]
  exact Fin'.sum _ fun d => (hk _ _ _).mul (hc _ _)

theorem fin_scX {t : ℕ} (ht : t < 17) (x : Fin 1024) : Fin' (scX k c t (ix3 0 0 x)) :=
  fin_pay5 _ _ _ fun w => by rw [← pay4_apply]; exact fin_scS k c hk hc ht w x

theorem fin_stM (x : Fin 1024) : ∀ n ≤ 17, Fin' (stM k c n (ix3 0 0 x))
  | 0, _ => pay251_apply x
  | n + 1, h => by
    show Fin' (k0_pay9 (F := Ideal) (stM k c n) (scX k c n) (ix3 0 0 x))
    rw [pay9_apply]
    exact (fin_stM x n (by omega)).max (fin_scX k c hk hc (by omega) x)

/-- The accumulator after `n` tiles: over every key of them, its value (or one) times two to the power of its score less the
    running maximum. -/
theorem stA_apply (r : Fin 80) (x : Fin 1024) : ∀ n ≤ 17, stA k v c n (ix2 r x)
    = ∑ p ∈ Finset.range n ×ˢ (Finset.univ : Finset (Fin 256)),
        aug (vT v p.1) r p.2 * (p2 ((scS k c p.1 (ix3 0 p.2 x)).toReal - (stM k c n (ix3 0 0 x)).toReal) : EReal)
  | 0, _ => by
    show k0_pay252 (F := Ideal) (ix2 r x) = _
    rw [pay252_apply]; simp
  | n + 1, h => by
    show foldA (vT v n) (stM k c n) (scX k c n) (scS k c n) (stA k v c n) (ix2 r x) = _
    have eM : stM k c (n + 1) (ix3 0 0 x) = max (stM k c n (ix3 0 0 x)) (scX k c n (ix3 0 0 x)) := pay9_apply _ _ _
    have hM := fin_stM k c hk hc x n (by omega)
    have hM' := fin_stM k c hk hc x (n + 1) h
    rw [foldA_apply, foldAt, ← eM, stA_apply r x n (by omega), exp2_sub hM hM']
    simp only [exp2_sub (fin_scS k c hk hc (show n < 17 by omega) _ x) hM']
    rw [sum_range_succ_product]
    exact fold_step _ _ _ _ _ _ _ _

end Fold

end Cert.Proof.Gqa

end
-- ==== Proof.Host.lean ====
/-
  The arrays the kernel's windows read, from the arguments: queries, keys and values in tiles of 256 tokens.
-/
module

public import proofs.«01_k».proof.Proof.Run
public import proofs.«01_k».proof.Proof.Tiles

@[expose] public section

set_option maxRecDepth 16384

noncomputable section

namespace Cert.Proof.Gqa

open Cert.KernelIdeal Cert.KernelIdeal.Gen
open Idealize.ShloMosaic Idealize.ShloMosaic.TcCoe Idealize.ShloMosaic.Tactic

/-- Queries of both kinds of token, heads side by side, -/
def hostQs (x0 : FVec Ideal S8x4096x4x4x64 .f32) (x3 : FVec Ideal S8x256x4x4x64 .f32) : FVec Ideal S8x4352x1024 .f32 :=
  concatenate S8x4352x1024 1
    [⟨S8x256x1024, shapeCast S8x256x1024 x3 shapeCasts_S8x256x4x4x64_S8x256x1024⟩, ⟨S8x4096x1024, shapeCast S8x4096x1024 x0 shapeCasts_S8x4096x4x4x64_S8x4096x1024⟩]
    concatenates_S8x256x1024_S8x4096x1024_S8x4352x1024_d1
/-- as the kernel's window reads them; -/
def hostQ (x0 : FVec Ideal S8x4096x4x4x64 .f32) (x3 : FVec Ideal S8x256x4x4x64 .f32) : FVec Ideal S8x17x1024x256 .f32 :=
  transpose S8x17x1024x256 [0, 1, 3, 2] (shapeCast S8x17x256x1024 (hostQs x0 x3) shapeCasts_S8x4352x1024_S8x17x256x1024)
    transposes_S8x17x256x1024_S8x17x1024x256_0_1_3_2
/-- keys and values of both kinds of token, heads side by side, -/
def hostKV (x1 : FVec Ideal S8x4096x4x64 .f32) (x4 : FVec Ideal S8x256x4x64 .f32) : FVec Ideal S8x4352x256 .f32 :=
  concatenate S8x4352x256 1
    [⟨S8x256x256, shapeCast S8x256x256 x4 shapeCasts_S8x256x4x64_S8x256x256⟩, ⟨S8x4096x256, shapeCast S8x4096x256 x1 shapeCasts_S8x4096x4x64_S8x4096x256⟩]
    concatenates_S8x256x256_S8x4096x256_S8x4352x256_d1
/-- keys as the window reads them, -/
def hostK (x1 : FVec Ideal S8x4096x4x64 .f32) (x4 : FVec Ideal S8x256x4x64 .f32) : FVec Ideal S8x17x4x256x128 .bf16 :=
  truncf .bf16 (concatenate S8x17x4x256x128 4
    [⟨S8x17x4x256x64, transpose S8x17x4x256x64 [0, 1, 3, 2, 4] (shapeCast S8x17x256x4x64 (hostKV x1 x4) shapeCasts_S8x4352x256_S8x17x256x4x64)
      transposes_S8x17x256x4x64_S8x17x4x256x64_0_1_3_2_4⟩,
      ⟨S8x17x4x256x64, broadcastInDim S8x17x4x256x64 ![] bcast_S_S8x17x4x256x64 (constant (F := Ideal) S_ .f32 0x00000000#32)⟩]
    concatenates_S8x17x4x256x64_S8x17x4x256x64_S8x17x4x256x128_d4) bitsLt_bf16_f32
/-- and values as the window reads them. -/
def hostV (x2 : FVec Ideal S8x4096x4x64 .f32) (x5 : FVec Ideal S8x256x4x64 .f32) : FVec Ideal S8x17x256x256 .bf16 :=
  truncf .bf16 (transpose S8x17x256x256 [0, 1, 3, 2] (shapeCast S8x17x256x256 (hostKV x2 x5) shapeCasts_S8x4352x256_S8x17x256x256)
    transposes_S8x17x256x256_S8x17x256x256_0_1_3_2) bitsLt_bf16_f32

/-- Entry `f` of token `T`'s queries: the context tokens come first, a head's four groups lie side by side. -/
theorem hostQs_apply (x0 : FVec Ideal S8x4096x4x4x64 .f32) (x3 : FVec Ideal S8x256x4x4x64 .f32) (b : Fin 8) (T : Fin 4352) (h g : Fin 4) (d : Fin 64) :
    hostQs x0 x3 (ix3 b T ⟨256 * h.val + 64 * g.val + d.val, by omega⟩)
      = if hT : T.val < 256 then x3 (ix5 b ⟨T, hT⟩ h g d) else x0 (ix5 b ⟨T - 256, by omega⟩ h g d) := by
  unfold hostQs
  pointwise

/-- Entry `d` of head `h` of token `T`'s keys (or values), the context tokens first. -/
theorem hostKV_apply (x1 : FVec Ideal S8x4096x4x64 .f32) (x4 : FVec Ideal S8x256x4x64 .f32) (b : Fin 8) (T : Fin 4352) (h : Fin 4) (d : Fin 64) :
    hostKV x1 x4 (ix3 b T (feat h d))
      = if hT : T.val < 256 then x4 (ix4 b ⟨T, hT⟩ h d) else x1 (ix4 b ⟨T - 256, by omega⟩ h d) := by
  unfold hostKV feat
  pointwise

theorem hostQ_apply (x0 : FVec Ideal S8x4096x4x4x64 .f32) (x3 : FVec Ideal S8x256x4x4x64 .f32) (b : Fin 8) (t : Fin 17) (f : Fin 1024) (i : Fin 256) :
    hostQ x0 x3 (ix4 b t f i) = hostQs x0 x3 (ix3 b ⟨256 * t.val + i.val, by omega⟩ f) := by
  unfold hostQ
  generalize hostQs x0 x3 = y
  refine (transpose_apply _ _ _ (ix4 b t f i) (ix4 b t i f) fun a => ?_).trans ?_
  · fin_cases a <;> rfl
  · refine shapeCast_apply _ _ _ _ ?_
    rw [Shape.rowMajor_val_three, Shape.rowMajor_val_four]
    show (b.val * 4352 + (256 * t.val + i.val)) * 1024 + f.val = ((b.val * 17 + t.val) * 256 + i.val) * 1024 + f.val
    omega

theorem truncf_val {s : Shape} (x : FVec Ideal s .f32) (h : FTy.bf16.bits < FTy.f32.bits) (i : s.Idx) : truncf (F := Ideal) .bf16 x h i = x i := rfl

theorem hostK_apply (x1 : FVec Ideal S8x4096x4x64 .f32) (x4 : FVec Ideal S8x256x4x64 .f32) (b : Fin 8) (t : Fin 17) (h : Fin 4) (w : Fin 256) (d : Fin 64) :
    hostK x1 x4 (ix5 b t h w ⟨d, by omega⟩) = hostKV x1 x4 (ix3 b ⟨256 * t.val + w.val, by omega⟩ (feat h d)) := by
  unfold hostK
  rw [truncf_val]
  generalize hostKV x1 x4 = y
  refine (concatenate_pair_apply_left (s₁ := S8x17x4x256x64) (t := S8x17x4x256x128) (4 : Fin 5) _ _ concatenates_S8x17x4x256x64_S8x17x4x256x64_S8x17x4x256x128_d4 (ix5 b t h w (⟨d, by omega⟩ : Fin 128)) rfl (ix5 b t h w d) fun a => ?_).trans ?_
  · fin_cases a <;> rfl
  refine (transpose_apply _ _ _ (ix5 b t h w d) (ix5 b t w h d) fun a => ?_).trans ?_
  · fin_cases a <;> rfl
  · refine shapeCast_apply _ _ _ _ ?_
    rw [Shape.rowMajor_val_three, Shape.rowMajor_val_five]
    show (b.val * 4352 + (256 * t.val + w.val)) * 256 + (64 * h.val + d.val) = (((b.val * 17 + t.val) * 256 + w.val) * 4 + h.val) * 64 + d.val
    omega

theorem ofBits_zero : Ideal.ofBits .f32 0x00000000#32 = (0 : EReal) := by simp [Ideal.ofBits, Ideal.ieee]

/-- The lanes past a key's length are zero. -/
theorem hostK_pad (x1 : FVec Ideal S8x4096x4x64 .f32) (x4 : FVec Ideal S8x256x4x64 .f32) (b : Fin 8) (t : Fin 17) (h : Fin 4) (w : Fin 256) (l : Fin 128) (hl : 64 ≤ l.val) :
    hostK x1 x4 (ix5 b t h w l) = 0 := by
  unfold hostK
  rw [truncf_val]
  generalize hostKV x1 x4 = y
  refine (concatenate_pair_apply_right (s₁ := S8x17x4x256x64) (s₂ := S8x17x4x256x64) (t := S8x17x4x256x128) (4 : Fin 5) _ _ concatenates_S8x17x4x256x64_S8x17x4x256x64_S8x17x4x256x128_d4 (ix5 b t h w l) rfl rfl (ix5 b t h w (⟨l.val - 64, by omega⟩ : Fin 64)) ?_ ?_).trans ?_
  · intro a ha
    fin_cases a <;> first | rfl | exact absurd rfl ha
  · show (l.val - 64) + 64 = l.val
    omega
  · exact ofBits_zero

theorem hostV_apply (x1 : FVec Ideal S8x4096x4x64 .f32) (x4 : FVec Ideal S8x256x4x64 .f32) (b : Fin 8) (t : Fin 17) (f : Fin 256) (w : Fin 256) :
    hostV x1 x4 (ix4 b t f w) = hostKV x1 x4 (ix3 b ⟨256 * t.val + w.val, by omega⟩ f) := by
  unfold hostV
  rw [truncf_val]
  generalize hostKV x1 x4 = y
  refine (transpose_apply _ _ _ (ix4 b t f w) (ix4 b t w f) fun a => ?_).trans ?_
  · fin_cases a <;> rfl
  · refine shapeCast_apply _ _ _ _ ?_
    rw [Shape.rowMajor_val_three, Shape.rowMajor_val_four]
    show (b.val * 4352 + (256 * t.val + w.val)) * 256 + f.val = ((b.val * 17 + t.val) * 256 + w.val) * 256 + f.val
    omega

variable (m : (ℓ : Loc nD τ sig) → Buf (Elt Ideal) ℓ) (c : Dev nD)

theorem V_v10 : V m c main_v10 = hostQ (m ((c : Thread nD τ).loc main_arg0)) (m ((c : Thread nD τ).loc main_arg3)) := by
  unfold V hostOps0
  after_results
  rfl
theorem V_v15 : V m c main_v15 = hostK (m ((c : Thread nD τ).loc main_arg1)) (m ((c : Thread nD τ).loc main_arg4)) := by
  unfold V hostOps0
  after_results
  rfl
theorem V_v18 : V m c main_v18 = hostV (m ((c : Thread nD τ).loc main_arg2)) (m ((c : Thread nD τ).loc main_arg5)) := by
  unfold V hostOps0
  after_results
  rfl

end Cert.Proof.Gqa

end
-- ==== Proof.Attend.lean ====
/-
  What the kernel's result window holds: for each query, the values weighed by the softmax of its logits.
-/
module

public import proofs.«01_k».proof.Proof.Tiles

@[expose] public section

set_option maxRecDepth 16384

noncomputable section

namespace Cert.Proof.Gqa

open Cert.KernelIdeal Cert.KernelIdeal.Gen
open Idealize.ShloMosaic Idealize.ShloMosaic.TcCoe Idealize.ShloMosaic.Tactic

variable (q : Vec Ideal S1x17x256x256 .f32) (k : Vec Ideal S1x17x1x256x128 .bf16) (v : Vec Ideal S1x17x64x256 .bf16) (O : Vec Ideal S1x17x256x256 .bf16)

/-- The logit of query `i` of part `g` of tile `j` at key `w` of tile `t`: their product over 8. -/
def lgt (j : Fin 17) (g : Fin 4) (i : Fin 256) (t : ℕ) (w : Fin 256) : EReal :=
  (∑ d : Fin 64, kT k t (ix5 0 0 0 w ⟨d, by omega⟩) * q (ix4 0 j (feat g d) i)) * ((1 / 8 : ℝ) : EReal)

theorem fin_kT (hk : ∀ t w l, Fin' (k (ix5 0 t 0 w l))) (t : ℕ) (w : Fin 256) (l : Fin 128) : Fin' (kT k t (ix5 0 0 0 w l)) := by
  by_cases h : t < 17
  · rw [kT_apply k h]; exact hk _ _ _
  · have e : kT k t = kT k 0 := by unfold kT; rw [dif_neg h, dif_pos (by decide)]
    rw [e, kT_apply k (by decide)]; exact hk _ _ _

theorem log2_kap : Real.log 2 * kap = 1 / 8 := by
  have : Real.log 2 ≠ 0 := (Real.log_pos (by norm_num)).ne'
  unfold kap; field_simp

/-- Scores are logits over log 2. -/
theorem sum_kap (K Q : Fin 64 → EReal) (hK : ∀ d, Fin' (K d)) (hQ : ∀ d, Fin' (Q d)) :
    Fin' (∑ d, K d * (Q d * (kap : EReal))) ∧ Fin' ((∑ d, K d * Q d) * ((1 / 8 : ℝ) : EReal)) ∧
      ((∑ d, K d * Q d) * ((1 / 8 : ℝ) : EReal)).toReal = Real.log 2 * (∑ d, K d * (Q d * (kap : EReal))).toReal := by
  choose a ha using hK
  choose b hb using hQ
  simp only [ha, hb, ← EReal.coe_mul, coe_sum']
  refine ⟨⟨_, rfl⟩, ⟨_, rfl⟩, ?_⟩
  rw [EReal.toReal_coe, EReal.toReal_coe, ← log2_kap, Finset.sum_mul, Finset.mul_sum]
  exact Finset.sum_congr rfl fun d _ => by ring

/-- The result at query `i` of part `g` of tile `j`, feature `d`: over the keys the tile sees, the values weighed by the softmax
    of the logits — whatever finite number is taken off the logits first. -/
theorem resO_value (hk : ∀ t w l, Fin' (k (ix5 0 t 0 w l))) (hq : ∀ j f i, Fin' (q (ix4 0 j f i))) (j : Fin 17) (d : Fin 64) (g : Fin 4) (i : Fin 256)
    {M : EReal} (hM : Fin' M) :
    resO q k v O 17 le_rfl (ix4 0 j (feat g d) i)
      = ∑ p ∈ Finset.range (tiles j) ×ˢ (Finset.univ : Finset (Fin 256)), vT v p.1 (ix4 0 0 d p.2)
          * Ideal.div (Ideal.exp (lgt q k j g i p.1 p.2 - M))
              (∑ p ∈ Finset.range (tiles j) ×ˢ (Finset.univ : Finset (Fin 256)), Ideal.exp (lgt q k j g i p.1 p.2 - M)) := by
  have hc : ∀ (d : Fin 64) x, Fin' (layQ q j j.isLt (ix2 d x)) := fun d x => by
    obtain ⟨g, i, rfl⟩ := exists_col x
    rw [layQ_apply]; exact (hq _ _ _).mul ⟨_, rfl⟩
  have ht : tiles j ≤ 17 := by unfold tiles; split <;> decide
  have hS : (Finset.range (tiles j) ×ˢ (Finset.univ : Finset (Fin 256))).Nonempty :=
    ⟨(0, 0), Finset.mk_mem_product (Finset.mem_range.2 (by unfold tiles; split <;> decide)) (Finset.mem_univ _)⟩
  have hs : ∀ t w, scS k (layQ q j j.isLt) t (ix3 0 w (col g i))
      = ∑ d : Fin 64, kT k t (ix5 0 0 0 w ⟨d, by omega⟩) * (q (ix4 0 j (feat g d) i) * (kap : EReal)) := fun t w => by
    unfold scS
    rw [pay4_apply, pay3_apply]
    simp only [layQ_apply]
  have hlg : ∀ t w, Fin' (lgt q k j g i t w) := fun t w => (sum_kap _ _ (fun d => fin_kT k hk t w _) (fun d => hq j (feat g d) i)).2.1
  have h1 : ∀ p : ℕ × Fin 256, aug (vT v p.1) ⟨d, by omega⟩ p.2 = vT v p.1 (ix4 0 0 d p.2) := fun p => dif_pos d.isLt
  have h2 : ∀ p : ℕ × Fin 256, aug (vT v p.1) 64 p.2 = 1 := fun p => dif_neg (by decide)
  rw [show (ix4 0 j (feat g d) i : S1x17x256x256.Idx) = ix4 0 ⟨j.val, j.isLt⟩ (feat g d) i from rfl,
    resO_apply q k v O j j.isLt d g i 17 le_rfl j.isLt, stA_apply k v _ hk hc _ _ _ ht, stA_apply k v _ hk hc _ _ _ ht]
  simp only [h1, h2, exp_sub (hlg _ _) hM]
  exact quotient _ hS _ _ _ _ _ fun p => by
    rw [hs]
    exact (sum_kap _ _ (fun d => fin_kT k hk p.1 p.2 _) (fun d => hq j (feat g d) i)).2.2

end Cert.Proof.Gqa

end
-- ==== Proof.Result.lean ====
/-
  The kernel's result array over extended reals: each query's values weighed by the softmax of its logits.
-/
module

public import proofs.«01_k».proof.Proof.Host
public import proofs.«01_k».proof.Proof.Attend
public import Idealize.ShloMosaic.Lib.Pipeline.ValueKit

@[expose] public section

set_option maxRecDepth 16384

noncomputable section

namespace Cert.Proof.Gqa

open Cert.KernelIdeal Cert.KernelIdeal.Gen
open Idealize.ShloMosaic Idealize.ShloMosaic.TcCoe Idealize.ShloMosaic.Tactic

/-! ## Tokens, logits and the attention they state -/

/-- Entry `d` of group `g` of head `h` of token `T`'s query: the context tokens come first. -/
def qTok (x0 : FVec Ideal S8x4096x4x4x64 .f32) (x3 : FVec Ideal S8x256x4x4x64 .f32) (b : Fin 8) (T : Fin 4352) (h g : Fin 4) (d : Fin 64) : EReal :=
  if hT : T.val < 256 then x3 (ix5 b ⟨T, hT⟩ h g d) else x0 (ix5 b ⟨T - 256, by omega⟩ h g d)
/-- Entry `d` of head `h` of token `T`'s key (or value). -/
def kvTok (x1 : FVec Ideal S8x4096x4x64 .f32) (x4 : FVec Ideal S8x256x4x64 .f32) (b : Fin 8) (T : Fin 4352) (h : Fin 4) (d : Fin 64) : EReal :=
  if hT : T.val < 256 then x4 (ix4 b ⟨T, hT⟩ h d) else x1 (ix4 b ⟨T - 256, by omega⟩ h d)

section Spec

variable (x0 : FVec Ideal S8x4096x4x4x64 .f32) (x1 x2 : FVec Ideal S8x4096x4x64 .f32) (x3 : FVec Ideal S8x256x4x4x64 .f32) (x4 x5 : FVec Ideal S8x256x4x64 .f32)

/-- The logit of token `T`'s query at token `K`'s key. -/
def logit (b : Fin 8) (h g : Fin 4) (T K : Fin 4352) : EReal :=
  (∑ d : Fin 64, kvTok x1 x4 b K h d * qTok x0 x3 b T h g d) * ((1 / 8 : ℝ) : EReal)

/-- Over the first `n` tokens, entry `d` of their values weighed by the softmax of token `T`'s logits less `M`. -/
def attn (n : ℕ) (hn : n ≤ 4352) (M : EReal) (b : Fin 8) (h g : Fin 4) (d : Fin 64) (T : Fin 4352) : EReal :=
  ∑ K : Fin n, kvTok x2 x5 b (K.castLE hn) h d
    * Ideal.div (Ideal.exp (logit x0 x1 x3 x4 b h g T (K.castLE hn) - M)) (∑ K : Fin n, Ideal.exp (logit x0 x1 x3 x4 b h g T (K.castLE hn) - M))

/-- The tokens a query of tile `j` sees. -/
def seen (j : Fin 17) : ℕ := 256 * tiles j
theorem seen_le (j : Fin 17) : seen j ≤ 4352 := by unfold seen tiles; split <;> decide

end Spec

/-- A sum over the first tiles and their tokens is a sum over the first tokens. -/
theorem sum_tokens {n : ℕ} (hn : n ≤ 17) (F : ℕ × Fin 256 → EReal) (f : Fin (256 * n) → EReal)
    (h : ∀ (t : Fin n) (w : Fin 256), F (t.val, w) = f ⟨256 * t.val + w.val, by have := t.isLt; omega⟩) :
    ∑ p ∈ Finset.range n ×ˢ (Finset.univ : Finset (Fin 256)), F p = ∑ K : Fin (256 * n), f K := by
  rw [Finset.sum_product, Finset.sum_range, Fin.sum_univ_tiles n 256 (Nat.mul_comm _ _) f]
  refine Finset.sum_congr rfl fun t _ => Finset.sum_congr rfl fun w _ => (h t w).trans (congrArg f (Fin.ext ?_))
  show 256 * t.val + w.val = t.val * 256 + w.val
  omega

/-! ## The windows' blocks -/

variable (m : (ℓ : Loc nD τ sig) → Buf (Elt Ideal) ℓ) (c : Dev nD)

/-- The batch entry of a grid point -/
def ptB (t : Fin cfg0.N) : Fin 8 := grid0.coords t 0
/-- and its head. -/
def ptH (t : Fin cfg0.N) : Fin 4 := grid0.coords t 1

theorem index_0 : ∀ t : Fin cfg0.N, win0_0.index t = ![(ptB t).val, 0, (ptH t).val, 0] :=
  (by decide +kernel : ∀ t : Fin grid0.N, _)
theorem index_1 : ∀ t : Fin cfg0.N, win0_1.index t = ![(ptB t).val, 0, (ptH t).val, 0, 0] :=
  (by decide +kernel : ∀ t : Fin grid0.N, _)
theorem index_2 : ∀ t : Fin cfg0.N, win0_2.index t = ![(ptB t).val, 0, (ptH t).val, 0] :=
  (by decide +kernel : ∀ t : Fin grid0.N, _)
theorem index_3 : ∀ t : Fin cfg0.N, win0_3.index t = ![(ptB t).val, 0, (ptH t).val, 0] :=
  (by decide +kernel : ∀ t : Fin grid0.N, _)

theorem rd_q (t : Fin cfg0.N) (A : S8x17x1024x256.Idx → Ideal .f32) (j : Fin 17) (f : Fin 256) (i : Fin 256) :
    (((cfg0.win 0).blk t).view.read (Elt Ideal) A : S1x17x256x256.Idx → Ideal .f32) (ix4 0 j f i)
      = A (ix4 (ptB t) j ⟨256 * (ptH t).val + f.val, by have := (ptH t).isLt; omega⟩ i) := by
  rw [View.read_apply]
  refine (cast_eq _ _).trans (congrArg A ?_)
  blk_ext [index_0 t]
theorem rd_k (t : Fin cfg0.N) (A : S8x17x4x256x128.Idx → Ideal .bf16) (j : Fin 17) (w : Fin 256) (l : Fin 128) :
    (((cfg0.win 1).blk t).view.read (Elt Ideal) A : S1x17x1x256x128.Idx → Ideal .bf16) (ix5 0 j 0 w l)
      = A (ix5 (ptB t) j (ptH t) w l) := by
  rw [View.read_apply]
  refine (cast_eq _ _).trans (congrArg A ?_)
  blk_ext [index_1 t]
theorem rd_v (t : Fin cfg0.N) (A : S8x17x256x256.Idx → Ideal .bf16) (j : Fin 17) (d : Fin 64) (w : Fin 256) :
    (((cfg0.win 2).blk t).view.read (Elt Ideal) A : S1x17x64x256.Idx → Ideal .bf16) (ix4 0 j d w)
      = A (ix4 (ptB t) j (feat (ptH t) d) w) := by
  rw [View.read_apply]
  refine (cast_eq _ _).trans (congrArg A ?_)
  unfold feat
  blk_ext [index_2 t]
theorem emb_o (t : Fin cfg0.N) (j : Fin 17) (f : Fin 256) (i : Fin 256) :
    (((cfg0.win 3).blk t).view.emb (ix4 0 j f i : S1x17x256x256.Idx) : S8x17x1024x256.Idx)
      = ix4 (ptB t) j ⟨256 * (ptH t).val + f.val, by have := (ptH t).isLt; omega⟩ i := by
  blk_ext [index_3 t]

theorem covers_3 : win0_3.Covers := by decide +kernel

/-! ## One window's result -/

/-- The window's result from windows that hold the tokens of batch entry `b` and head `h`. -/
theorem window_value (x0 : FVec Ideal S8x4096x4x4x64 .f32) (x1 x2 : FVec Ideal S8x4096x4x64 .f32) (x3 : FVec Ideal S8x256x4x4x64 .f32) (x4 x5 : FVec Ideal S8x256x4x64 .f32)
    (q : Vec Ideal S1x17x256x256 .f32) (k : Vec Ideal S1x17x1x256x128 .bf16) (v : Vec Ideal S1x17x64x256 .bf16) (O : Vec Ideal S1x17x256x256 .bf16) (b : Fin 8) (h : Fin 4)
    (hq : ∀ (j : Fin 17) (g : Fin 4) (d : Fin 64) (i : Fin 256), q (ix4 0 j (feat g d) i) = qTok x0 x3 b ⟨256 * j.val + i.val, by omega⟩ h g d)
    (hk : ∀ (t : Fin 17) (w : Fin 256) (d : Fin 64), k (ix5 0 t 0 w ⟨d, by omega⟩) = kvTok x1 x4 b ⟨256 * t.val + w.val, by omega⟩ h d)
    (hv : ∀ (t : Fin 17) (w : Fin 256) (d : Fin 64), v (ix4 0 t d w) = kvTok x2 x5 b ⟨256 * t.val + w.val, by omega⟩ h d)
    (fk : ∀ t w l, Fin' (k (ix5 0 t 0 w l))) (fq : ∀ j f i, Fin' (q (ix4 0 j f i))) (j : Fin 17) (d : Fin 64) (g : Fin 4) (i : Fin 256)
    {M : EReal} (hM : Fin' M) :
    resO q k v O 17 le_rfl (ix4 0 j (feat g d) i) = attn x0 x1 x2 x3 x4 x5 (seen j) (seen_le j) M b h g d ⟨256 * j.val + i.val, by omega⟩ := by
  have ht : tiles j ≤ 17 := by unfold tiles; split <;> decide
  have hl : ∀ (t : Fin (tiles j)) (w : Fin 256), lgt q k j g i t.val w
      = logit x0 x1 x3 x4 b h g ⟨256 * j.val + i.val, by omega⟩ ⟨256 * t.val + w.val, by have := t.isLt; omega⟩ := fun t w => by
    unfold lgt logit
    refine congrArg (· * _) (Finset.sum_congr rfl fun d _ => ?_)
    rw [kT_apply k (by have := t.isLt; omega), hq]
    exact congrArg (· * _) (hk ⟨t.val, by have := t.isLt; omega⟩ w d)
  have hz := sum_tokens ht (fun p => Ideal.exp (lgt q k j g i p.1 p.2 - M))
    (fun K => Ideal.exp (logit x0 x1 x3 x4 b h g ⟨256 * j.val + i.val, by omega⟩ (K.castLE (seen_le j)) - M)) (fun t w => by
      show Ideal.exp (lgt q k j g i t.val w - M) = _
      rw [hl]; rfl)
  rw [resO_value q k v O fk fq j d g i hM, hz]
  unfold attn
  refine sum_tokens ht _ (fun K : Fin (seen j) => kvTok x2 x5 b (K.castLE (seen_le j)) h d
    * Ideal.div (Ideal.exp (logit x0 x1 x3 x4 b h g ⟨256 * j.val + i.val, by omega⟩ (K.castLE (seen_le j)) - M)) _) fun t w => ?_
  show vT v t.val (ix4 0 0 d w) * Ideal.div (Ideal.exp (lgt q k j g i t.val w - M)) _ = _
  rw [hl, vT_apply v (by have := t.isLt; omega)]
  exact congrArg (· * _) (hv ⟨t.val, by have := t.isLt; omega⟩ w d)

/-! ## The array -/

theorem exists_feat (f : Fin 256) : ∃ g d, f = feat g d :=
  ⟨⟨f.val / 64, by omega⟩, ⟨f.val % 64, by omega⟩, Fin.ext (by simp only [feat]; omega)⟩

/-- The attention as an array, the tiles' queries along the last axis. -/
def attnArr (x0 : FVec Ideal S8x4096x4x4x64 .f32) (x1 x2 : FVec Ideal S8x4096x4x64 .f32) (x3 : FVec Ideal S8x256x4x4x64 .f32) (x4 x5 : FVec Ideal S8x256x4x64 .f32) :
    S8x17x1024x256.Idx → EReal := fun i =>
  attn x0 x1 x2 x3 x4 x5 (seen (i 1)) (seen_le (i 1)) 0 (i 0) ⟨(i 2).val / 256, by have : (i 2).val < 1024 := (i 2).isLt; omega⟩ ⟨(i 2).val / 64 % 4, by omega⟩ ⟨(i 2).val % 64, by omega⟩
    ⟨256 * (i 1).val + (i 3).val, by have : (i 1).val < 17 := (i 1).isLt; have : (i 3).val < 256 := (i 3).isLt; omega⟩

theorem attnArr_apply (x0 : FVec Ideal S8x4096x4x4x64 .f32) (x1 x2 : FVec Ideal S8x4096x4x64 .f32) (x3 : FVec Ideal S8x256x4x4x64 .f32) (x4 x5 : FVec Ideal S8x256x4x64 .f32)
    (b : Fin 8) (j : Fin 17) (h g : Fin 4) (d : Fin 64) (i : Fin 256) :
    attnArr x0 x1 x2 x3 x4 x5 (ix4 b j ⟨256 * h.val + (feat g d).val, by omega⟩ i)
      = attn x0 x1 x2 x3 x4 x5 (seen j) (seen_le j) 0 b h g d ⟨256 * j.val + i.val, by omega⟩ := by
  have e1 : (⟨(256 * h.val + (64 * g.val + d.val)) / 256, by omega⟩ : Fin 4) = h := Fin.ext (by show _ / 256 = _; omega)
  have e2 : (⟨(256 * h.val + (64 * g.val + d.val)) / 64 % 4, by omega⟩ : Fin 4) = g := Fin.ext (by show _ / 64 % 4 = _; omega)
  have e3 : (⟨(256 * h.val + (64 * g.val + d.val)) % 64, by omega⟩ : Fin 64) = d := Fin.ext (by show _ % 64 = _; omega)
  show attn x0 x1 x2 x3 x4 x5 (seen j) (seen_le j) 0 b ⟨(256 * h.val + (64 * g.val + d.val)) / 256, by omega⟩ ⟨(256 * h.val + (64 * g.val + d.val)) / 64 % 4, by omega⟩
    ⟨(256 * h.val + (64 * g.val + d.val)) % 64, by omega⟩ ⟨256 * j.val + i.val, by omega⟩ = _
  rw [e1, e2, e3]

section Array

variable (m : (ℓ : Loc nD τ sig) → Buf (Elt Ideal) ℓ) (c : Dev nD)

abbrev A0 : FVec Ideal S8x4096x4x4x64 .f32 := m ((c : Thread nD τ).loc main_arg0)
abbrev A1 : FVec Ideal S8x4096x4x64 .f32 := m ((c : Thread nD τ).loc main_arg1)
abbrev A2 : FVec Ideal S8x4096x4x64 .f32 := m ((c : Thread nD τ).loc main_arg2)
abbrev A3 : FVec Ideal S8x256x4x4x64 .f32 := m ((c : Thread nD τ).loc main_arg3)
abbrev A4 : FVec Ideal S8x256x4x64 .f32 := m ((c : Thread nD τ).loc main_arg4)
abbrev A5 : FVec Ideal S8x256x4x64 .f32 := m ((c : Thread nD τ).loc main_arg5)

theorem iblk_q (t : Fin cfg0.N) : (iblk m c 0 t : S1x17x256x256.Idx → Ideal .f32) = ((cfg0.win 0).blk t).view.read (Elt Ideal) (hostQ (A0 m c) (A3 m c)) :=
  congrArg (((cfg0.win 0).blk t).view.read (Elt Ideal)) (V_v10 m c)
theorem iblk_k (t : Fin cfg0.N) : (iblk m c 1 t : S1x17x1x256x128.Idx → Ideal .bf16) = ((cfg0.win 1).blk t).view.read (Elt Ideal) (hostK (A1 m c) (A4 m c)) :=
  congrArg (((cfg0.win 1).blk t).view.read (Elt Ideal)) (V_v15 m c)
theorem iblk_v (t : Fin cfg0.N) : (iblk m c 2 t : S1x17x64x256.Idx → Ideal .bf16) = ((cfg0.win 2).blk t).view.read (Elt Ideal) (hostV (A2 m c) (A5 m c)) :=
  congrArg (((cfg0.win 2).blk t).view.read (Elt Ideal)) (V_v18 m c)

/-- What the body leaves at a point, of finite queries and keys. -/
theorem outAt_value (fq : ∀ b T h g d, Fin' (qTok (A0 m c) (A3 m c) b T h g d)) (fk : ∀ b T h d, Fin' (kvTok (A1 m c) (A4 m c) b T h d))
    (t : Fin cfg0.N) (j : Fin 17) (g : Fin 4) (d : Fin 64) (i : Fin 256) {M : EReal} (hM : Fin' M) :
    outAt m c t (ix4 0 j (feat g d) i)
      = attn (A0 m c) (A1 m c) (A2 m c) (A3 m c) (A4 m c) (A5 m c) (seen j) (seen_le j) M (ptB t) (ptH t) g d ⟨256 * j.val + i.val, by omega⟩ := by
  have hq : ∀ (j : Fin 17) (g : Fin 4) (d : Fin 64) (i : Fin 256),
      (iblk m c 0 t : S1x17x256x256.Idx → Ideal .f32) (ix4 0 j (feat g d) i) = qTok (A0 m c) (A3 m c) (ptB t) ⟨256 * j.val + i.val, by omega⟩ (ptH t) g d := fun j g d i => by
    rw [iblk_q, rd_q, hostQ_apply]
    refine Eq.trans (congrArg (fun f => hostQs (A0 m c) (A3 m c) (ix3 (ptB t) _ f)) (Fin.ext ?_)) (hostQs_apply (A0 m c) (A3 m c) (ptB t) _ (ptH t) g d)
    show 256 * (ptH t).val + (64 * g.val + d.val) = 256 * (ptH t).val + 64 * g.val + d.val
    omega
  have hk : ∀ (t' : Fin 17) (w : Fin 256) (d : Fin 64),
      (iblk m c 1 t : S1x17x1x256x128.Idx → Ideal .bf16) (ix5 0 t' 0 w ⟨d, by omega⟩) = kvTok (A1 m c) (A4 m c) (ptB t) ⟨256 * t'.val + w.val, by omega⟩ (ptH t) d := fun t' w d => by
    rw [iblk_k, rd_k, hostK_apply, hostKV_apply]; rfl
  refine window_value (A0 m c) (A1 m c) (A2 m c) (A3 m c) (A4 m c) (A5 m c) (iblk m c 0 t) (iblk m c 1 t) (iblk m c 2 t) _ (ptB t) (ptH t) hq hk
    (fun t' w d => ?_) (fun t' w l => ?_) (fun j f i => ?_) j d g i hM
  · rw [iblk_v, rd_v, hostV_apply, hostKV_apply]; rfl
  · by_cases hl : l.val < 64
    · exact (hk t' w ⟨l.val, hl⟩) ▸ fk _ _ _ _
    · rw [iblk_k, rd_k, hostK_pad _ _ _ _ _ _ _ (by omega)]; exact ⟨0, rfl⟩
  · obtain ⟨g, d, rfl⟩ := exists_feat f
    rw [hq]; exact fq _ _ _ _ _

theorem point_of (b : Fin 8) (h : Fin 4) : ∃ t : Fin cfg0.N, ptB t = b ∧ ptH t = h :=
  (by decide +kernel : ∀ (b : Fin 8) (h : Fin 4), ∃ t : Fin grid0.N, ptB t = b ∧ ptH t = h) b h

/-- The softmax does not depend on the number taken off the logits. -/
theorem attn_shift (fq : ∀ b T h g d, Fin' (qTok (A0 m c) (A3 m c) b T h g d)) (fk : ∀ b T h d, Fin' (kvTok (A1 m c) (A4 m c) b T h d))
    (b : Fin 8) (h : Fin 4) (j : Fin 17) (g : Fin 4) (d : Fin 64) (i : Fin 256) {M : EReal} (hM : Fin' M) :
    attn (A0 m c) (A1 m c) (A2 m c) (A3 m c) (A4 m c) (A5 m c) (seen j) (seen_le j) M b h g d ⟨256 * j.val + i.val, by omega⟩
      = attn (A0 m c) (A1 m c) (A2 m c) (A3 m c) (A4 m c) (A5 m c) (seen j) (seen_le j) 0 b h g d ⟨256 * j.val + i.val, by omega⟩ := by
  obtain ⟨t, rfl, rfl⟩ := point_of b h
  exact (outAt_value m c fq fk t j g d i hM).symm.trans (outAt_value m c fq fk t j g d i (M := 0) ⟨0, rfl⟩)

/-- The result array. -/
theorem final_o (fq : ∀ b T h g d, Fin' (qTok (A0 m c) (A3 m c) b T h g d)) (fk : ∀ b T h d, Fin' (kvTok (A1 m c) (A4 m c) b T h d)) :
    (dats m 0 c).arrAt 3 cfg0.N = attnArr (A0 m c) (A1 m c) (A2 m c) (A3 m c) (A4 m c) (A5 m c) := by
  refine (dats m 0 c).arrAt_eq_of_covers 3 _ covers_3 fun t _ y => ?_
  obtain ⟨j, g, d, i, rfl⟩ : ∃ (j : Fin 17) (g : Fin 4) (d : Fin 64) (i : Fin 256), y = (ix4 0 j (feat g d) i : S1x17x256x256.Idx) := by
    obtain ⟨g, d, hf⟩ := exists_feat (y 2)
    refine ⟨y 1, g, d, y 3, ?_⟩
    rw [← hf]
    exact funext fun a => match a with
      | ⟨0, _⟩ => Fin.ext (by have : (y 0).val < 1 := (y 0).isLt; show (y 0).val = 0; omega)
      | ⟨1, _⟩ => rfl
      | ⟨2, _⟩ => rfl
      | ⟨3, _⟩ => rfl
  refine (cast_eq _ _).trans ?_
  rw [after0_3]
  refine (outAt_value m c fq fk t j g d i ⟨0, rfl⟩).trans ?_
  rw [emb_o]
  exact (attnArr_apply _ _ _ _ _ _ _ _ _ _ _ _).symm

end Array

end Cert.Proof.Gqa

end
-- ==== Proof.Pre.lean ====
/-
  What the precondition says: every entry of the queries and of the keys is a finite number.
-/
module

public import proofs.«01_k».proof.Proof.Result
public import proofs.«01_k».proof.Pre_finite_scores

@[expose] public section

set_option maxRecDepth 16384

noncomputable section

namespace Cert.Proof.Gqa

open Cert.Pre_finite_scores
open Idealize.ShloMosaic Idealize.ShloMosaic.TcCoe Idealize.ShloMosaic.Tactic

/-- The shapes the precondition's operations take fit. -/
instance preFacts : Cert.Pre_finite_scores.Facts where
  bcast_S_S8x256x4x4x64 := by decide
  bcast_S_S8x256x4x64 := by decide
  bcast_S8x256x4x64_S8x256x4x1x64_0_1_2_4 := by decide
  bcast_S8x256x4x1x64_S8x256x4x4x64_0_1_2_3_4 := by decide
  bcast_S_S8x4096x4x4x64 := by decide
  bcast_S_S8x4096x4x64 := by decide
  bcast_S8x4096x4x64_S8x4096x4x1x64_0_1_2_4 := by decide
  bcast_S8x4096x4x1x64_S8x4096x4x4x64_0_1_2_3_4 := by decide
  concatenates_S8x256x4x4x64_S8x4096x4x4x64_S8x4352x4x4x64_d1 := by decide

/-- Of two bits whose conjunction is one, each is one. -/
theorem andi_one : ∀ p q : Bool, IntOp.andi (BitVec.ofBool p) (BitVec.ofBool q) = 1#1 → p = true ∧ q = true := by decide

/-- A number whose absolute value lies below infinity is finite. -/
theorem fin_of_abs {a : EReal} (h : max a (-a) < Ideal.ofBits .f32 0x7F800000#32) : Fin' a := by
  rw [ofBits_inf] at h
  induction a with
  | bot => simp at h
  | coe r => exact ⟨r, rfl⟩
  | top => simp at h

section

variable (x0 : FVec Ideal S8x4096x4x4x64 .f32) (x1 x2 : FVec Ideal S8x4096x4x64 .f32) (x3 : FVec Ideal S8x256x4x4x64 .f32) (x4 x5 : FVec Ideal S8x256x4x64 .f32)

/-- The precondition at an index: the query's entry and the key's are finite. -/
theorem pre_apply (b : Fin 8) (T : Fin 4352) (h g : Fin 4) (d : Fin 64)
    (hp : fn (F := Ideal) x0 x1 x2 x3 x4 x5 (ix5 b T h g d) = 1#1) : Fin' (qTok x0 x3 b T h g d) ∧ Fin' (kvTok x1 x4 b T h d) := by
  have e : fn (F := Ideal) x0 x1 x2 x3 x4 x5 (ix5 b T h g d)
      = IntOp.andi (BitVec.ofBool (decide (max (qTok x0 x3 b T h g d) (-(qTok x0 x3 b T h g d)) < Ideal.ofBits .f32 0x7F800000#32)))
        (BitVec.ofBool (decide (max (kvTok x1 x4 b T h d) (-(kvTok x1 x4 b T h d)) < Ideal.ofBits .f32 0x7F800000#32))) := by
    unfold fn
    pointwise
    unfold qTok kvTok
    by_cases hT : T.val < 256
    · rw [dif_pos hT, dif_pos hT, dif_pos hT]; rfl
    · rw [dif_neg hT, dif_neg hT, dif_neg hT]; rfl
  obtain ⟨hq, hk⟩ := andi_one _ _ (e.symm.trans hp)
  exact ⟨fin_of_abs (of_decide_eq_true hq), fin_of_abs (of_decide_eq_true hk)⟩

/-- So the precondition gives finite queries and keys. -/
theorem pre_q (hp : fn (F := Ideal) x0 x1 x2 x3 x4 x5 = fun _ => 1#1) (b : Fin 8) (T : Fin 4352) (h g : Fin 4) (d : Fin 64) : Fin' (qTok x0 x3 b T h g d) :=
  (pre_apply x0 x1 x2 x3 x4 x5 b T h g d (congrFun hp _)).1
theorem pre_k (hp : fn (F := Ideal) x0 x1 x2 x3 x4 x5 = fun _ => 1#1) (b : Fin 8) (T : Fin 4352) (h : Fin 4) (d : Fin 64) : Fin' (kvTok x1 x4 b T h d) :=
  (pre_apply x0 x1 x2 x3 x4 x5 b T h 0 d (congrFun hp _)).2

end

end Cert.Proof.Gqa

end
-- ==== Proof.RefValue.lean ====
/-
  The reference's result over extended reals, read at an index: the same weighed sums, the logits' largest value taken off first.
-/
module

public import proofs.«01_k».proof.Proof.Result
public import proofs.«01_k».proof.Proof.Gen.ReferenceIdeal.Read

@[expose] public section

set_option maxRecDepth 16384

noncomputable section

namespace Cert.Proof.Gqa.Ref

open Cert.ReferenceIdeal Cert.ReferenceIdeal.Read
open Idealize.ShloMosaic Idealize.ShloMosaic.TcCoe Idealize.ShloMosaic.Tactic

variable (x0 : FVec Ideal S8x4096x4x4x64 .f32) (x1 x2 : FVec Ideal S8x4096x4x64 .f32) (x3 : FVec Ideal S8x256x4x4x64 .f32) (x4 x5 : FVec Ideal S8x256x4x64 .f32)

theorem val_idx {s : Shape} {α : Type} (f : s.Idx → α) {i j : s.Idx} (h : ∀ a, (i a).val = (j a).val) : f i = f j :=
  congrArg f (funext fun a => Fin.ext (h a))

/-- Keys of both kinds of token, -/
theorem v0_apply (b : Fin 8) (K : Fin 4352) (h : Fin 4) (d : Fin 64) : val_main_v0 (F := Ideal) x1 x4 (ix4 b K h d) = kvTok x1 x4 b K h d := by
  unfold val_main_v0 kvTok
  pointwise
/-- and their values. -/
theorem v1_apply (b : Fin 8) (K : Fin 4352) (h : Fin 4) (d : Fin 64) : val_main_v1 (F := Ideal) x2 x5 (ix4 b K h d) = kvTok x2 x5 b K h d := by
  unfold val_main_v1 kvTok
  pointwise

/-- The logits of the latent tokens. -/
theorem v5_apply (b : Fin 8) (h g : Fin 4) (q : Fin 4096) (K : Fin 4352) :
    val_main_v5 (F := Ideal) x0 x1 x4 (ix5 b h g q K) = logit x0 x1 x3 x4 b h g ⟨q.val + 256, by omega⟩ K := by
  rw [val_main_v5_apply, val_main_v4_apply, val_main_v3_apply, val_main_v2_apply]
  show (∑ k : Fin 64, _) * Ideal.ofBits .f32 0x3E000000#32 = _
  rw [ofBits_eighth]
  refine congrArg (· * _) (Finset.sum_congr rfl fun k _ => ?_)
  have e : qTok x0 x3 b ⟨q.val + 256, by omega⟩ h g k = x0 (ix5 b q h g k) := by
    unfold qTok; rw [dif_neg (by show ¬ q.val + 256 < 256; omega)]; rfl
  rw [e]
  refine congrArg₂ (· * ·) ((congrArg (val_main_v0 (F := Ideal) x1 x4) ?_).trans (v0_apply x1 x4 b K h k)) (congrArg x0 ?_)
  · exact funext fun a => by fin_cases a <;> rfl
  · exact funext fun a => by fin_cases a <;> rfl

/-- The number taken off a latent token's logits is finite, -/
theorem v8_fin (fl : ∀ b h g T K, Fin' (logit x0 x1 x3 x4 b h g T K)) (b : Fin 8) (h g : Fin 4) (q : Fin 4096) : Fin' (val_main_v8 (F := Ideal) x0 x1 x4 (ix4 b h g q)) := by
  have h6 : Fin' (val_main_v6 (F := Ideal) x0 x1 x4 (ix4 b h g q)) := by
    have e : ∀ K : Fin 4352, Fin' (val_main_v5 (F := Ideal) x0 x1 x4 (ix5 b h g q K)) := fun K => by rw [v5_apply x0 x1 x3 x4]; exact fl _ _ _ _ _
    unfold val_main_v6
    generalize val_main_v5 (F := Ideal) x0 x1 x4 = y at e ⊢
    pointwise
    show Fin' (Finset.fold max (Ideal.ofBits .f32 0xFF800000#32) (fun x => y (ix5 b h g q x)) Finset.univ)
    rw [ofBits_neg_inf]
    exact Fin'.fold _ ⟨⟨0, by decide⟩, Finset.mem_univ _⟩ e
  rw [val_main_v8_apply, val_main_v7_apply]
  show Fin' (max (Ideal.ofBits .f32 0xFF800000#32) _)
  rw [ofBits_neg_inf, max_eq_right bot_le]
  exact h6

/-- the weights before their division, -/
theorem v12_apply (b : Fin 8) (h g : Fin 4) (q : Fin 4096) (K : Fin 4352) :
    val_main_v12 (F := Ideal) x0 x1 x4 (ix5 b h g q K) = Ideal.exp (logit x0 x1 x3 x4 b h g ⟨q.val + 256, by omega⟩ K - val_main_v8 (F := Ideal) x0 x1 x4 (ix4 b h g q)) := by
  rw [val_main_v12_apply, val_main_v11_apply, v5_apply x0 x1 x3 x4, val_main_v10_apply, val_main_v9_apply]
  have hM : val_main_v8 (F := Ideal) x0 x1 x4 (idx_main_v9 (idx_main_v10 (ix5 b h g q K))) = val_main_v8 (F := Ideal) x0 x1 x4 (ix4 b h g q) :=
    val_idx (val_main_v8 (F := Ideal) x0 x1 x4) fun a => by fin_cases a <;> rfl
  rw [hM]
  generalize logit x0 x1 x3 x4 b h g ⟨q.val + 256, by omega⟩ K = l
  generalize val_main_v8 (F := Ideal) x0 x1 x4 (ix4 b h g q) = M
  rfl

/-- their sum, -/
theorem v13_apply (b : Fin 8) (h g : Fin 4) (q : Fin 4096) :
    val_main_v13 (F := Ideal) x0 x1 x4 (ix4 b h g q) = ∑ K : Fin 4352, Ideal.exp (logit x0 x1 x3 x4 b h g ⟨q.val + 256, by omega⟩ K - val_main_v8 (F := Ideal) x0 x1 x4 (ix4 b h g q)) := by
  rw [val_main_v13_apply]
  show Ideal.ofBits .f32 0x00000000#32 + _ = _
  rw [ofBits_zero, zero_add]
  refine Finset.sum_congr rfl fun K _ => ?_
  rw [← v12_apply x0 x1 x3 x4]
  exact val_idx (val_main_v12 (F := Ideal) x0 x1 x4) fun a => by fin_cases a <;> rfl

/-- and the softmax. -/
theorem v16_apply (b : Fin 8) (h g : Fin 4) (q : Fin 4096) (K : Fin 4352) :
    val_main_v16 (F := Ideal) x0 x1 x4 (ix5 b h g q K) = Ideal.div (Ideal.exp (logit x0 x1 x3 x4 b h g ⟨q.val + 256, by omega⟩ K - val_main_v8 (F := Ideal) x0 x1 x4 (ix4 b h g q)))
      (∑ K : Fin 4352, Ideal.exp (logit x0 x1 x3 x4 b h g ⟨q.val + 256, by omega⟩ K - val_main_v8 (F := Ideal) x0 x1 x4 (ix4 b h g q))) := by
  rw [val_main_v16_apply, v12_apply x0 x1 x3 x4, val_main_v15_apply, val_main_v14_apply, ← v13_apply x0 x1 x3 x4]
  have hZ : val_main_v13 (F := Ideal) x0 x1 x4 (idx_main_v14 (idx_main_v15 (ix5 b h g q K))) = val_main_v13 (F := Ideal) x0 x1 x4 (ix4 b h g q) :=
    val_idx (val_main_v13 (F := Ideal) x0 x1 x4) fun a => by fin_cases a <;> rfl
  rw [hZ]
  generalize val_main_v13 (F := Ideal) x0 x1 x4 (ix4 b h g q) = Z
  rfl

/-- The latent tokens' attention. -/
theorem v18_apply (b : Fin 8) (q : Fin 4096) (h g : Fin 4) (d : Fin 64) :
    val_main_v18 (F := Ideal) x0 x1 x2 x4 x5 (ix5 b q h g d)
      = attn x0 x1 x2 x3 x4 x5 4352 (by decide) (val_main_v8 (F := Ideal) x0 x1 x4 (ix4 b h g q)) b h g d ⟨q.val + 256, by omega⟩ := by
  rw [val_main_v18_apply, val_main_v17_apply]
  unfold attn
  refine Finset.sum_congr rfl fun K _ => ?_
  have hw : val_main_v16 (F := Ideal) x0 x1 x4 (ridx_main_v17 (idx_main_v18 (ix5 b q h g d)) K) = val_main_v16 (F := Ideal) x0 x1 x4 (ix5 b h g q K) :=
    val_idx (val_main_v16 (F := Ideal) x0 x1 x4) fun a => by fin_cases a <;> rfl
  have hv : (val_main_v1 (F := Ideal) x2 x5) (lidx_main_v17 (idx_main_v18 (ix5 b q h g d)) K) = (val_main_v1 (F := Ideal) x2 x5) (ix4 b K h d) :=
    val_idx (val_main_v1 (F := Ideal) x2 x5) fun a => by fin_cases a <;> rfl
  rw [hw, hv, v16_apply x0 x1 x3 x4]
  exact congrArg (· * _) (v1_apply x2 x5 b K h d)

/-- A context token's entries. -/
theorem ctx_q (b : Fin 8) (q : Fin 256) (h g : Fin 4) (d : Fin 64) : qTok x0 x3 b ⟨q.val, by omega⟩ h g d = x3 (ix5 b q h g d) := by
  unfold qTok; rw [dif_pos (show q.val < 256 from q.isLt)]
theorem ctx_kv (b : Fin 8) (K : Fin 256) (h : Fin 4) (d : Fin 64) : kvTok x1 x4 b ⟨K.val, by omega⟩ h d = x4 (ix4 b K h d) := by
  unfold kvTok; rw [dif_pos (show K.val < 256 from K.isLt)]

/-- The logits of the context tokens. -/
theorem v22_apply (b : Fin 8) (h g : Fin 4) (q K : Fin 256) :
    val_main_v22 (F := Ideal) x3 x4 (ix5 b h g q K) = logit x0 x1 x3 x4 b h g ⟨q.val, by omega⟩ ⟨K.val, by omega⟩ := by
  rw [val_main_v22_apply, val_main_v21_apply, val_main_v20_apply, val_main_v19_apply]
  show (∑ k : Fin 64, _) * Ideal.ofBits .f32 0x3E000000#32 = _
  rw [ofBits_eighth]
  refine congrArg (· * _) (Finset.sum_congr rfl fun k _ => ?_)
  rw [ctx_q, ctx_kv]
  refine congrArg₂ (· * ·) (congrArg x4 ?_) (congrArg x3 ?_)
  · exact funext fun a => by fin_cases a <;> rfl
  · exact funext fun a => by fin_cases a <;> rfl

/-- The number taken off a context token's logits is finite, -/
theorem v25_fin (fl : ∀ b h g T K, Fin' (logit x0 x1 x3 x4 b h g T K)) (b : Fin 8) (h g : Fin 4) (q : Fin 256) : Fin' (val_main_v25 (F := Ideal) x3 x4 (ix4 b h g q)) := by
  have h6 : Fin' (val_main_v23 (F := Ideal) x3 x4 (ix4 b h g q)) := by
    have e : ∀ K : Fin 256, Fin' (val_main_v22 (F := Ideal) x3 x4 (ix5 b h g q K)) := fun K => by rw [v22_apply x0 x1 x3 x4]; exact fl _ _ _ _ _
    unfold val_main_v23
    generalize val_main_v22 (F := Ideal) x3 x4 = y at e ⊢
    pointwise
    show Fin' (Finset.fold max (Ideal.ofBits .f32 0xFF800000#32) (fun x => y (ix5 b h g q x)) Finset.univ)
    rw [ofBits_neg_inf]
    exact Fin'.fold _ ⟨⟨0, by decide⟩, Finset.mem_univ _⟩ e
  rw [val_main_v25_apply, val_main_v24_apply]
  show Fin' (max (Ideal.ofBits .f32 0xFF800000#32) _)
  rw [ofBits_neg_inf, max_eq_right bot_le]
  exact h6

/-- the weights before their division, -/
theorem v29_apply (b : Fin 8) (h g : Fin 4) (q : Fin 256) (K : Fin 256) :
    val_main_v29 (F := Ideal) x3 x4 (ix5 b h g q K) = Ideal.exp (logit x0 x1 x3 x4 b h g ⟨q.val, by omega⟩ ⟨K.val, by omega⟩ - val_main_v25 (F := Ideal) x3 x4 (ix4 b h g q)) := by
  rw [val_main_v29_apply, val_main_v28_apply, v22_apply x0 x1 x3 x4, val_main_v27_apply, val_main_v26_apply]
  have hM : val_main_v25 (F := Ideal) x3 x4 (idx_main_v26 (idx_main_v27 (ix5 b h g q K))) = val_main_v25 (F := Ideal) x3 x4 (ix4 b h g q) :=
    val_idx (val_main_v25 (F := Ideal) x3 x4) fun a => by fin_cases a <;> rfl
  rw [hM]
  generalize logit x0 x1 x3 x4 b h g ⟨q.val, by omega⟩ ⟨K.val, by omega⟩ = l
  generalize val_main_v25 (F := Ideal) x3 x4 (ix4 b h g q) = M
  rfl

/-- their sum, -/
theorem v30_apply (b : Fin 8) (h g : Fin 4) (q : Fin 256) :
    val_main_v30 (F := Ideal) x3 x4 (ix4 b h g q) = ∑ K : Fin 256, Ideal.exp (logit x0 x1 x3 x4 b h g ⟨q.val, by omega⟩ ⟨K.val, by omega⟩ - val_main_v25 (F := Ideal) x3 x4 (ix4 b h g q)) := by
  rw [val_main_v30_apply]
  show Ideal.ofBits .f32 0x00000000#32 + _ = _
  rw [ofBits_zero, zero_add]
  refine Finset.sum_congr rfl fun K _ => ?_
  rw [← v29_apply x0 x1 x3 x4]
  exact val_idx (val_main_v29 (F := Ideal) x3 x4) fun a => by fin_cases a <;> rfl

/-- and the softmax. -/
theorem v33_apply (b : Fin 8) (h g : Fin 4) (q : Fin 256) (K : Fin 256) :
    val_main_v33 (F := Ideal) x3 x4 (ix5 b h g q K) = Ideal.div (Ideal.exp (logit x0 x1 x3 x4 b h g ⟨q.val, by omega⟩ ⟨K.val, by omega⟩ - val_main_v25 (F := Ideal) x3 x4 (ix4 b h g q)))
      (∑ K : Fin 256, Ideal.exp (logit x0 x1 x3 x4 b h g ⟨q.val, by omega⟩ ⟨K.val, by omega⟩ - val_main_v25 (F := Ideal) x3 x4 (ix4 b h g q))) := by
  rw [val_main_v33_apply, v29_apply x0 x1 x3 x4, val_main_v32_apply, val_main_v31_apply, ← v30_apply x0 x1 x3 x4]
  have hZ : val_main_v30 (F := Ideal) x3 x4 (idx_main_v31 (idx_main_v32 (ix5 b h g q K))) = val_main_v30 (F := Ideal) x3 x4 (ix4 b h g q) :=
    val_idx (val_main_v30 (F := Ideal) x3 x4) fun a => by fin_cases a <;> rfl
  rw [hZ]
  generalize val_main_v30 (F := Ideal) x3 x4 (ix4 b h g q) = Z
  rfl

/-- The context tokens' attention. -/
theorem v35_apply (b : Fin 8) (q : Fin 256) (h g : Fin 4) (d : Fin 64) :
    val_main_v35 (F := Ideal) x3 x4 x5 (ix5 b q h g d)
      = attn x0 x1 x2 x3 x4 x5 256 (by decide) (val_main_v25 (F := Ideal) x3 x4 (ix4 b h g q)) b h g d ⟨q.val, by omega⟩ := by
  rw [val_main_v35_apply, val_main_v34_apply]
  unfold attn
  refine Finset.sum_congr rfl fun K _ => ?_
  have hw : val_main_v33 (F := Ideal) x3 x4 (ridx_main_v34 (idx_main_v35 (ix5 b q h g d)) K) = val_main_v33 (F := Ideal) x3 x4 (ix5 b h g q K) :=
    val_idx (val_main_v33 (F := Ideal) x3 x4) fun a => by fin_cases a <;> rfl
  have hv : (x5) (lidx_main_v34 (idx_main_v35 (ix5 b q h g d)) K) = (x5) (ix4 b K h d) :=
    val_idx (x5) fun a => by fin_cases a <;> rfl
  rw [hw, hv, v33_apply x0 x1 x3 x4]
  exact congrArg (· * _) (ctx_kv x2 x5 b K h d).symm

end Cert.Proof.Gqa.Ref

end
-- ==== Proof.RefEnd.lean ====
/-
  The reference's result array is the attention's: its context tokens first, in tiles of 256.
-/
module

public import proofs.«01_k».proof.Proof.RefValue

@[expose] public section

set_option maxRecDepth 16384

noncomputable section

namespace Cert.Proof.Gqa.Ref

open Cert.ReferenceIdeal Cert.ReferenceIdeal.Read
open Idealize.ShloMosaic Idealize.ShloMosaic.TcCoe Idealize.ShloMosaic.Tactic

section

variable (x0 : FVec Ideal S8x4096x4x4x64 .f32) (x1 x2 : FVec Ideal S8x4096x4x64 .f32) (x3 : FVec Ideal S8x256x4x4x64 .f32) (x4 x5 : FVec Ideal S8x256x4x64 .f32)

/-- Both kinds of token, the context's first. -/
theorem v38_apply (b : Fin 8) (T : Fin 4352) (h g : Fin 4) (d : Fin 64) :
    val_main_v38 (F := Ideal) x0 x1 x2 x3 x4 x5 (ix3 b T ⟨256 * h.val + 64 * g.val + d.val, by omega⟩)
      = if hT : T.val < 256 then val_main_v35 (F := Ideal) x3 x4 x5 (ix5 b ⟨T, hT⟩ h g d) else val_main_v18 (F := Ideal) x0 x1 x2 x4 x5 (ix5 b ⟨T - 256, by omega⟩ h g d) := by
  unfold val_main_v38 val_main_v36 val_main_v37
  generalize val_main_v35 (F := Ideal) x3 x4 x5 = y
  generalize val_main_v18 (F := Ideal) x0 x1 x2 x4 x5 = z
  pointwise

/-- The result, its tiles' tokens along the last axis. -/
theorem v41_apply (b : Fin 8) (j : Fin 17) (f : Fin 1024) (i : Fin 256) :
    val_main_v41 (F := Ideal) x0 x1 x2 x3 x4 x5 (ix4 b j f i) = val_main_v38 (F := Ideal) x0 x1 x2 x3 x4 x5 (ix3 b ⟨256 * j.val + i.val, by omega⟩ f) := by
  unfold val_main_v41 val_main_v40 val_main_v39
  rw [truncf_val]
  generalize val_main_v38 (F := Ideal) x0 x1 x2 x3 x4 x5 = y
  refine (transpose_apply _ _ _ (ix4 b j f i) (ix4 b j i f) fun a => ?_).trans ?_
  · fin_cases a <;> rfl
  · refine shapeCast_apply _ _ _ _ ?_
    rw [Shape.rowMajor_val_three, Shape.rowMajor_val_four]
    show (b.val * 4352 + (256 * j.val + i.val)) * 1024 + f.val = ((b.val * 17 + j.val) * 256 + i.val) * 1024 + f.val
    omega

/-- The attention over equally many tokens. -/
theorem attn_congr {n n' : ℕ} (hn : n ≤ 4352) (hn' : n' ≤ 4352) (e : n = n') (M : EReal) (b : Fin 8) (h g : Fin 4) (d : Fin 64) {T T' : Fin 4352} (hT : T = T') :
    attn x0 x1 x2 x3 x4 x5 n hn M b h g d T = attn x0 x1 x2 x3 x4 x5 n' hn' M b h g d T' := by
  subst e; subst hT; rfl

/-- Finite queries and keys have finite logits. -/
theorem logit_fin (fq : ∀ b T h g d, Fin' (qTok x0 x3 b T h g d)) (fk : ∀ b T h d, Fin' (kvTok x1 x4 b T h d)) (b : Fin 8) (h g : Fin 4) (T K : Fin 4352) :
    Fin' (logit x0 x1 x3 x4 b h g T K) :=
  (Fin'.sum _ fun d => (fk b K h d).mul (fq b T h g d)).mul ⟨_, rfl⟩

end

variable (m : (ℓ : Loc Cert.KernelIdeal.nD Cert.KernelIdeal.τ Cert.KernelIdeal.sig) → Buf (Elt Ideal) ℓ) (c : Dev Cert.KernelIdeal.nD)

/-- The reference's result is the attention's array. -/
theorem result (fq : ∀ b T h g d, Fin' (qTok (A0 m c) (A3 m c) b T h g d)) (fk : ∀ b T h d, Fin' (kvTok (A1 m c) (A4 m c) b T h d)) :
    val_main_v41 (F := Ideal) (A0 m c) (A1 m c) (A2 m c) (A3 m c) (A4 m c) (A5 m c) = attnArr (A0 m c) (A1 m c) (A2 m c) (A3 m c) (A4 m c) (A5 m c) := by
  have fl := logit_fin (A0 m c) (A1 m c) (A3 m c) (A4 m c) fq fk
  refine funext fun y => ?_
  obtain ⟨b, j, h, g, d, i, rfl⟩ : ∃ (b : Fin 8) (j : Fin 17) (h g : Fin 4) (d : Fin 64) (i : Fin 256),
      y = (ix4 b j ⟨256 * h.val + (feat g d).val, by omega⟩ i : S8x17x1024x256.Idx) := by
    have h2 : (y 2).val < 1024 := (y 2).isLt
    refine ⟨y 0, y 1, ⟨(y 2).val / 256, by omega⟩, ⟨(y 2).val / 64 % 4, by omega⟩, ⟨(y 2).val % 64, by omega⟩, y 3, ?_⟩
    exact funext fun a => match a with
      | ⟨0, _⟩ => rfl
      | ⟨1, _⟩ => rfl
      | ⟨2, _⟩ => Fin.ext (by show (y 2).val = 256 * ((y 2).val / 256) + (64 * ((y 2).val / 64 % 4) + (y 2).val % 64); omega)
      | ⟨3, _⟩ => rfl
  rw [attnArr_apply, v41_apply]
  have ef : (⟨256 * h.val + (feat g d).val, by omega⟩ : Fin 1024) = ⟨256 * h.val + 64 * g.val + d.val, by omega⟩ :=
    Fin.ext (by show 256 * h.val + (64 * g.val + d.val) = 256 * h.val + 64 * g.val + d.val; omega)
  rw [ef, v38_apply]
  by_cases hT : 256 * j.val + i.val < 256
  · have hj : j.val = 0 := by omega
    have hs : (256 : ℕ) = seen j := by unfold seen tiles; rw [if_pos hj]
    rw [dif_pos hT, v35_apply (A0 m c) (A1 m c) (A2 m c)]
    exact (attn_congr _ _ _ _ _ _ _ (seen_le j) hs _ _ _ _ _ rfl).trans
      (attn_shift m c fq fk b h j g d i (v25_fin (A0 m c) (A1 m c) (A3 m c) (A4 m c) fl _ _ _ _))
  · have hj : j.val ≠ 0 := by omega
    have hs : (4352 : ℕ) = seen j := by unfold seen tiles; rw [if_neg hj]
    rw [dif_neg hT, v18_apply (A0 m c) (A1 m c) (A2 m c) (A3 m c)]
    exact (attn_congr _ _ _ _ _ _ _ (seen_le j) hs _ _ _ _ _ (Fin.ext (by show 256 * j.val + i.val - 256 + 256 = 256 * j.val + i.val; omega))).trans
      (attn_shift m c fq fk b h j g d i (v8_fin (A0 m c) (A1 m c) (A3 m c) (A4 m c) fl _ _ _ _))

end Cert.Proof.Gqa.Ref

end
-- ==== Proof.Algebraic.lean ====
/-
  The idealized kernel and the reference end with equal results, of finite queries and keys.
-/
module

public import proofs.«01_k».proof.Defs
public import proofs.«01_k».proof.Proof.Frames
public import proofs.«01_k».proof.Proof.Pre
public import proofs.«01_k».proof.Proof.RefEnd
public import proofs.«01_k».proof.Proof.Gen.ReferenceIdeal.Run

@[expose] public section

noncomputable section

namespace Cert.Proof.Gqa

open Idealize.ShloMosaic Idealize.ShloMosaic.TcCoe
open Idealize.SL.Sem

theorem frame_KernelIdeal_pre : Cert.quiescent_KernelIdeal_pre_finite_scores := fun m g _ => frame_KernelIdeal m g trivial

theorem frame_ReferenceIdeal_pre : Cert.quiescent_ReferenceIdeal_pre_finite_scores := fun m g _ => frame_ReferenceIdeal m g trivial

theorem algebraic : Cert.algebraic_KernelIdeal_ReferenceIdeal_pre_finite_scores := by
  intro m g m' g' hp hm
  have fq := fun c => pre_q (A0 m c) (A1 m c) (A2 m c) (A3 m c) (A4 m c) (A5 m c) (hp c)
  have fk := fun c => pre_k (A0 m c) (A1 m c) (A2 m c) (A3 m c) (A4 m c) (A5 m c) (hp c)
  refine ⟨fun c => attnArr (A0 m c) (A1 m c) (A2 m c) (A3 m c) (A4 m c) (A5 m c), ?_, ?_⟩
  · exact (θ_run _ _ _).mono (fun r h c => ⟨((h.1 c).1 3).trans (final_o m c (fq c) (fk c)), h.2.1 c⟩)
      (θ_run_and (run_main m g) (frame m g))
  · refine (θ_run _ _ _).mono (fun r h c => ⟨((h c).1.trans (Cert.ReferenceIdeal.Read.val_main_v41_eq m' c)).trans ?_, (h c).2⟩)
      (Cert.ReferenceIdeal.Value.run m' g')
    obtain ⟨h0, h1, h2, h3, h4, h5⟩ := hm c
    rw [h0, h1, h2, h3, h4, h5]
    exact Ref.result m c (fq c) (fk c)

end Cert.Proof.Gqa

end
-- ==== Proof.Last.lean ====
/-
  The last projection over extended reals: a token's new entry is its old one plus its gain times the
  product of its gated attention with the output weights.
-/
module

public import proofs.«01_k».proof.Defs
public import proofs.«01_k».proof.Proof.Gen.Kernel2
public import proofs.«01_k».proof.Proof.Gen.Kernel2Ideal.Value
public import proofs.«01_k».proof.Proof.Gen.Reference2Ideal.Read
public import Idealize.ShloMosaic.Lib.Claim
public import Idealize.ShloMosaic.Lib.Pointwise
public import Idealize.ShloMosaic.Lib.Pipeline.ValueKit

@[expose] public section

set_option maxRecDepth 16384

noncomputable section

namespace Cert.Proof.Last

open Cert.Kernel2Ideal Cert.Kernel2Ideal.Gen
open Idealize.ShloMosaic Idealize.ShloMosaic.TcCoe Idealize.ShloMosaic.Tactic
open Idealize.SL.Sem

/-! ## One window -/

/-- The lanes of a column that holds one value per row, as the window keeps it. -/
theorem lanes {n : ℕ} (f : Fin 128 → EReal) (v : EReal) (h : ∀ l, f l = v) (i : Fin 256) :
    (if h : i.val < 128 then f ⟨i.val, h⟩ else f ⟨i.val - 128, by omega⟩) = v := by
  split <;> exact h _

theorem pay_apply (o : Vec Ideal S1x1x1024x256 .bf16) (g : Vec Ideal S1x1024x256 .bf16) (w : Vec Ideal S1024x1024 .bf16) (x : Vec Ideal S1x1024x256 .f32)
    (c : Vec Ideal S1x1024x128 .f32) (i : Fin 256) (f : Fin 1024) (v : EReal) (hc : ∀ l, c (ix3 0 f l) = v) :
    k0_pay1 o g w x c (ix3 0 i f) = x (ix3 0 f i) + v * ∑ k : Fin 1024, w (ix2 f k) * (o (ix4 0 0 k i) * g (ix3 0 k i)) := by
  unfold k0_pay1
  pointwise
  exact congrArg (fun a => _ + a * _) (lanes (n := 0) (fun l => c (ix3 0 f l)) v hc i)

theorem out_apply (o : Vec Ideal S1x1x1024x256 .bf16) (g : Vec Ideal S1x1024x256 .bf16) (w : Vec Ideal S1024x1024 .bf16)
    (c : Vec Ideal S1x1024x128 .f32) (x : Vec Ideal S1x1024x256 .f32) (i : Fin 256) (f : Fin 1024) (v : EReal) (hc : ∀ l, c (ix3 0 f l) = v) :
    out0_5 o g w c x (ix3 0 i f) = x (ix3 0 f i) + v * ∑ k : Fin 1024, w (ix2 f k) * (o (ix4 0 0 k i) * g (ix3 0 k i)) := by
  unfold out0_5
  rw [View.canon_cons_unit_lit _ _ _ (by decide), View.ld_unit_lit _ o (by decide), View.ld_unit_lit _ g (by decide), View.ld_unit_lit _ w (by decide),
    View.ld_unit_lit _ x (by decide), View.ld_unit_lit _ c (by decide)]
  exact pay_apply o g w x c i f v hc

/-! ## The arrays the windows read -/

def hostO (x0 : FVec Ideal S8x4352x1024 .f32) : FVec Ideal S8x17x1024x256 .bf16 :=
  truncf .bf16 (transpose S8x17x1024x256 [0, 1, 3, 2] (shapeCast S8x17x256x1024 x0 shapeCasts_S8x4352x1024_S8x17x256x1024)
    transposes_S8x17x256x1024_S8x17x1024x256_0_1_3_2) bitsLt_bf16_f32
def hostT (x1 : FVec Ideal S8x4352x1024 .f32) : FVec Ideal S8x1024x4352 .f32 :=
  transpose S8x1024x4352 [0, 2, 1] x1 transposes_S8x4352x1024_S8x1024x4352_0_2_1
def hostG (x1 : FVec Ideal S8x4352x1024 .f32) : FVec Ideal S8x1024x4352 .bf16 := truncf .bf16 (hostT x1) bitsLt_bf16_f32
def hostW (x4 : FVec Ideal S1024x1024 .f32) : FVec Ideal S1024x1024 .bf16 :=
  truncf .bf16 (transpose S1024x1024 [1, 0] x4 transposes_S1024x1024_S1024x1024_1_0) bitsLt_bf16_f32
def hostC (x3 : FVec Ideal S8x1024 .f32) : FVec Ideal S8x1024x128 .f32 :=
  broadcastInDim S8x1024x128 ![0, 1, 2] bcast_S8x1024x1_S8x1024x128_0_1_2 (broadcastInDim S8x1024x1 ![0, 1] bcast_S8x1024_S8x1024x1_0_1 x3)

theorem truncf_val {s : Shape} (x : FVec Ideal s .f32) (h : FTy.bf16.bits < FTy.f32.bits) (i : s.Idx) : truncf (F := Ideal) .bf16 x h i = x i := rfl

theorem hostO_apply (x0 : FVec Ideal S8x4352x1024 .f32) (b : Fin 8) (t : Fin 17) (f : Fin 1024) (i : Fin 256) :
    hostO x0 (ix4 b t f i) = x0 (ix3 b ⟨256 * t.val + i.val, by omega⟩ f) := by
  unfold hostO
  rw [truncf_val]
  refine (transpose_apply _ _ _ (ix4 b t f i) (ix4 b t i f) fun a => ?_).trans ?_
  · fin_cases a <;> rfl
  · refine shapeCast_apply _ _ _ _ ?_
    rw [Shape.rowMajor_val_three, Shape.rowMajor_val_four]
    show (b.val * 4352 + (256 * t.val + i.val)) * 1024 + f.val = ((b.val * 17 + t.val) * 256 + i.val) * 1024 + f.val
    omega
theorem hostT_apply (x1 : FVec Ideal S8x4352x1024 .f32) (b : Fin 8) (f : Fin 1024) (T : Fin 4352) : hostT x1 (ix3 b f T) = x1 (ix3 b T f) := by
  unfold hostT
  exact transpose_apply _ _ _ (ix3 b f T) (ix3 b T f) fun a => by fin_cases a <;> rfl
theorem hostG_apply (x1 : FVec Ideal S8x4352x1024 .f32) (b : Fin 8) (f : Fin 1024) (T : Fin 4352) : hostG x1 (ix3 b f T) = x1 (ix3 b T f) :=
  hostT_apply x1 b f T
theorem hostW_apply (x4 : FVec Ideal S1024x1024 .f32) (f k : Fin 1024) : hostW x4 (ix2 f k) = x4 (ix2 k f) := by
  unfold hostW
  exact transpose_apply _ _ _ (ix2 f k) (ix2 k f) fun a => by fin_cases a <;> rfl
theorem hostC_apply (x3 : FVec Ideal S8x1024 .f32) (b : Fin 8) (f : Fin 1024) (l : Fin 128) : hostC x3 (ix3 b f l) = x3 (ix2 b f) := by
  unfold hostC
  pointwise

variable (m : (ℓ : Loc nD τ sig) → Buf (Elt Ideal) ℓ) (c : Dev nD)

theorem V_v4 : V m c main_v4 = hostO (m ((c : Thread nD τ).loc main_arg0)) := by
  unfold V hostOps0
  after_results
  rfl
theorem V_v6 : V m c main_v6 = hostG (m ((c : Thread nD τ).loc main_arg1)) := by
  unfold V hostOps0
  after_results
  rfl
theorem V_v8 : V m c main_v8 = hostW (m ((c : Thread nD τ).loc main_arg4)) := by
  unfold V hostOps0
  after_results
  rfl
theorem V_v1 : V m c main_v1 = hostC (m ((c : Thread nD τ).loc main_arg3)) := by
  unfold V hostOps0
  after_results
  rfl
theorem V_v9 : V m c main_v9 = hostT (m ((c : Thread nD τ).loc main_arg2)) := by
  unfold V hostOps0
  after_results
  rfl

/-! ## The windows' blocks -/

/-- The batch entry of a grid point -/
def ptB (t : Fin cfg0.N) : Fin 8 := grid0.coords t 0
/-- and its tile of tokens, the context's tile left out. -/
def ptJ (t : Fin cfg0.N) : Fin 16 := grid0.coords t 1

theorem index_0 : ∀ t : Fin cfg0.N, win0_0.index t = ![(ptB t).val, (ptJ t).val + 1, 0, 0] := (by decide +kernel : ∀ t : Fin grid0.N, _)
theorem index_1 : ∀ t : Fin cfg0.N, win0_1.index t = ![(ptB t).val, 0, (ptJ t).val + 1] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![(ptB t).val, 0, 0] := (by decide +kernel : ∀ t : Fin grid0.N, _)
theorem index_4 : ∀ t : Fin cfg0.N, win0_4.index t = ![(ptB t).val, 0, (ptJ t).val + 1] := (by decide +kernel : ∀ t : Fin grid0.N, _)
theorem index_5 : ∀ t : Fin cfg0.N, win0_5.index t = ![(ptB t).val, (ptJ t).val, 0] := (by decide +kernel : ∀ t : Fin grid0.N, _)

theorem rd_o (t : Fin cfg0.N) (A : S8x17x1024x256.Idx → Ideal .bf16) (f : Fin 1024) (i : Fin 256) :
    (((cfg0.win 0).blk t).view.read (Elt Ideal) A : S1x1x1024x256.Idx → Ideal .bf16) (ix4 0 0 f i)
      = A (ix4 (ptB t) ⟨(ptJ t).val + 1, by omega⟩ f i) := by
  rw [View.read_apply]
  refine (cast_eq _ _).trans (congrArg A ?_)
  blk_ext [index_0 t]
theorem rd_g (t : Fin cfg0.N) (A : S8x1024x4352.Idx → Ideal .bf16) (f : Fin 1024) (i : Fin 256) :
    (((cfg0.win 1).blk t).view.read (Elt Ideal) A : S1x1024x256.Idx → Ideal .bf16) (ix3 0 f i)
      = A (ix3 (ptB t) f ⟨256 * ((ptJ t).val + 1) + i.val, by have := (ptJ t).isLt; omega⟩) := by
  rw [View.read_apply]
  refine (cast_eq _ _).trans (congrArg A ?_)
  blk_ext [index_1 t]
theorem rd_w (t : Fin cfg0.N) (A : S1024x1024.Idx → Ideal .bf16) (f k : Fin 1024) :
    (((cfg0.win 2).blk t).view.read (Elt Ideal) A : S1024x1024.Idx → Ideal .bf16) (ix2 f k) = A (ix2 f k) := by
  rw [View.read_apply]
  refine (cast_eq _ _).trans (congrArg A ?_)
  blk_ext [index_2 t]
theorem rd_c (t : Fin cfg0.N) (A : S8x1024x128.Idx → Ideal .f32) (f : Fin 1024) (l : Fin 128) :
    (((cfg0.win 3).blk t).view.read (Elt Ideal) A : S1x1024x128.Idx → Ideal .f32) (ix3 0 f l) = A (ix3 (ptB t) f l) := by
  rw [View.read_apply]
  refine (cast_eq _ _).trans (congrArg A ?_)
  blk_ext [index_3 t]
theorem rd_x (t : Fin cfg0.N) (A : S8x1024x4352.Idx → Ideal .f32) (f : Fin 1024) (i : Fin 256) :
    (((cfg0.win 4).blk t).view.read (Elt Ideal) A : S1x1024x256.Idx → Ideal .f32) (ix3 0 f i)
      = A (ix3 (ptB t) f ⟨256 * ((ptJ t).val + 1) + i.val, by have := (ptJ t).isLt; omega⟩) := by
  rw [View.read_apply]
  refine (cast_eq _ _).trans (congrArg A ?_)
  blk_ext [index_4 t]
theorem emb_out (t : Fin cfg0.N) (i : Fin 256) (f : Fin 1024) :
    (((cfg0.win 5).blk t).view.emb (ix3 0 i f : S1x256x1024.Idx) : S8x4096x1024.Idx)
      = ix3 (ptB t) ⟨256 * (ptJ t).val + i.val, by have := (ptJ t).isLt; omega⟩ f := by
  blk_ext [index_5 t]
theorem covers_5 : win0_5.Covers := by decide +kernel

/-! ## The reference at an index -/

theorem ref_apply (x0 x1 x2 : FVec Ideal S8x4352x1024 .f32) (x3 : FVec Ideal S8x1024 .f32) (x4 : FVec Ideal S1024x1024 .f32) (b : Fin 8) (T : Fin 4096) (f : Fin 1024) :
    Cert.Reference2Ideal.Read.val_main_v8 (F := Ideal) x0 x1 x2 x3 x4 (ix3 b T f)
      = x2 (ix3 b ⟨256 + T.val, by omega⟩ f) + x3 (ix2 b f) * ∑ k : Fin 1024, x0 (ix3 b ⟨256 + T.val, by omega⟩ k) * x1 (ix3 b ⟨256 + T.val, by omega⟩ k) * x4 (ix2 k f) := by
  unfold Cert.Reference2Ideal.Read.val_main_v8 Cert.Reference2Ideal.Read.val_main_v7 Cert.Reference2Ideal.Read.val_main_v6 Cert.Reference2Ideal.Read.val_main_v5
    Cert.Reference2Ideal.Read.val_main_v4 Cert.Reference2Ideal.Read.val_main_v3 Cert.Reference2Ideal.Read.val_main_v2 Cert.Reference2Ideal.Read.val_main_v1 Cert.Reference2Ideal.Read.val_main_v0
  pointwise

/-! ## The array -/

abbrev A0 : FVec Ideal S8x4352x1024 .f32 := m ((c : Thread nD τ).loc main_arg0)
abbrev A1 : FVec Ideal S8x4352x1024 .f32 := m ((c : Thread nD τ).loc main_arg1)
abbrev A2 : FVec Ideal S8x4352x1024 .f32 := m ((c : Thread nD τ).loc main_arg2)
abbrev A3 : FVec Ideal S8x1024 .f32 := m ((c : Thread nD τ).loc main_arg3)
abbrev A4 : FVec Ideal S1024x1024 .f32 := m ((c : Thread nD τ).loc main_arg4)

theorem iblk_o (t : Fin cfg0.N) : (iblk m c 0 t : S1x1x1024x256.Idx → Ideal .bf16) = ((cfg0.win 0).blk t).view.read (Elt Ideal) (hostO (A0 m c)) :=
  congrArg (((cfg0.win 0).blk t).view.read (Elt Ideal)) (V_v4 m c)
theorem iblk_g (t : Fin cfg0.N) : (iblk m c 1 t : S1x1024x256.Idx → Ideal .bf16) = ((cfg0.win 1).blk t).view.read (Elt Ideal) (hostG (A1 m c)) :=
  congrArg (((cfg0.win 1).blk t).view.read (Elt Ideal)) (V_v6 m c)
theorem iblk_w (t : Fin cfg0.N) : (iblk m c 2 t : S1024x1024.Idx → Ideal .bf16) = ((cfg0.win 2).blk t).view.read (Elt Ideal) (hostW (A4 m c)) :=
  congrArg (((cfg0.win 2).blk t).view.read (Elt Ideal)) (V_v8 m c)
theorem iblk_c (t : Fin cfg0.N) : (iblk m c 3 t : S1x1024x128.Idx → Ideal .f32) = ((cfg0.win 3).blk t).view.read (Elt Ideal) (hostC (A3 m c)) :=
  congrArg (((cfg0.win 3).blk t).view.read (Elt Ideal)) (V_v1 m c)
theorem iblk_x (t : Fin cfg0.N) : (iblk m c 4 t : S1x1024x256.Idx → Ideal .f32) = ((cfg0.win 4).blk t).view.read (Elt Ideal) (hostT (A2 m c)) :=
  congrArg (((cfg0.win 4).blk t).view.read (Elt Ideal)) (V_v9 m c)

theorem final : (dats m 0 c).arrAt 5 cfg0.N = Cert.Reference2Ideal.Read.val_main_v8 (F := Ideal) (A0 m c) (A1 m c) (A2 m c) (A3 m c) (A4 m c) := by
  refine (dats m 0 c).arrAt_eq_of_covers 5 _ covers_5 fun t _ y => ?_
  obtain ⟨i, f, rfl⟩ : ∃ (i : Fin 256) (f : Fin 1024), y = (ix3 0 i f : S1x256x1024.Idx) := by
    refine ⟨y 1, y 2, ?_⟩
    exact funext fun a => match a with
      | ⟨0, _⟩ => Fin.ext (by have : (y 0).val < 1 := (y 0).isLt; show (y 0).val = 0; omega)
      | ⟨1, _⟩ => rfl
      | ⟨2, _⟩ => rfl
  refine (cast_eq _ _).trans ?_
  rw [after0_5, emb_out, ref_apply]
  have hT : (⟨256 * ((ptJ t).val + 1) + i.val, by have := (ptJ t).isLt; omega⟩ : Fin 4352) = ⟨256 + (256 * (ptJ t).val + i.val), by have := (ptJ t).isLt; omega⟩ :=
    Fin.ext (by show 256 * ((ptJ t).val + 1) + i.val = 256 + (256 * (ptJ t).val + i.val); omega)
  refine (out_apply (iblk m c 0 t) (iblk m c 1 t) (iblk m c 2 t) (iblk m c 3 t) (iblk m c 4 t) i f (A3 m c (ix2 (ptB t) f)) fun l => ?_).trans ?_
  · rw [iblk_c, rd_c, hostC_apply]
  · rw [iblk_x, rd_x, hostT_apply, hT]
    refine congrArg (fun s => _ + _ * s) (Finset.sum_congr rfl fun k _ => ?_)
    rw [iblk_o, iblk_g, iblk_w, rd_o, rd_g, rd_w, hostO_apply, hostG_apply, hostW_apply, hT, mul_comm]

/-! ## The claims -/

theorem frame_KernelIdeal : Cert.quiescent_Kernel2Ideal := fun m ρ _ => frame (F := Ideal) m ρ

/-- The frame of the text over values `F`. -/
def FrameAt (F : FTy → Type) [FloatOps F] : Prop :=
  ∀ (m : (ℓ : Loc Cert.Kernel2Ideal.nD Cert.Kernel2Ideal.τ Cert.Kernel2Ideal.sig) → Buf (Elt F) ℓ)
    (g : Dev Cert.Kernel2Ideal.nD → PrngReg), True →
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

theorem frameAt (F : FTy → Type) [FloatOps F] : FrameAt F := fun m ρ _ => frame (F := F) m ρ

/-- Both programs are the same text. -/
theorem frameAt_bits : FrameAt Bits = Cert.quiescent_Kernel2 := by chain_rfl

theorem frame_Kernel : Cert.quiescent_Kernel2 := frameAt_bits.mp (frameAt Bits)

theorem preserves : Cert.preserves_Kernel2_Kernel2Ideal := trivial

theorem frame_ReferenceIdeal : Cert.quiescent_Reference2Ideal := fun m ρ _ =>
  (θ_run _ _ _).mono (fun _ h => ⟨fun c => (h c).2, Idealize.ShloMosaic.sem_eq_zero_of_no_sems (by decide) _⟩) (Cert.Reference2Ideal.Value.run m ρ)

theorem algebraic : Cert.algebraic_Kernel2Ideal_Reference2Ideal := by
  intro m g m' g' _ hm
  refine ⟨fun c => Cert.Reference2Ideal.Read.val_main_v8 (F := Ideal) (A0 m c) (A1 m c) (A2 m c) (A3 m c) (A4 m c), ?_, ?_⟩
  · exact (θ_run _ _ _).mono (fun r h c => ⟨(h c).1.trans (final m c), (h c).2⟩) (Cert.Kernel2Ideal.Value.run_blocks m g)
  · refine (θ_run _ _ _).mono (fun r h c => ⟨((h c).1.trans (Cert.Reference2Ideal.Read.val_main_v8_eq _ _ _ _ _)).trans ?_, (h c).2⟩)
      (Cert.Reference2Ideal.Value.run m' g')
    obtain ⟨h0, h1, h2, h3, h4⟩ := hm c
    rw [h0, h1, h2, h3, h4]

end Cert.Proof.Last

end
-- ==== Proof.ProjBody.lean ====
/-
  The output and input projections' kernel at one token: the new residual entry, its norm, the projection and the
  heads' norms, read from the window's arrays.
-/
module

public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Proof.Proj

open Cert.Kernel3Ideal Cert.Kernel3Ideal.Gen
open Idealize.ShloMosaic Idealize.ShloMosaic.TcCoe Idealize.ShloMosaic.Tactic

/-! ## One token -/

/-- The constants a sum of squares is multiplied by, and the one added below the root. -/
abbrev c1024 : EReal := Ideal.ofBits .f32 0x3A800000#32
abbrev c64 : EReal := Ideal.ofBits .f32 0x3C800000#32
abbrev eps : EReal := Ideal.ofBits .f32 0x358637BD#32

/-- Feature `d` of head `h`. -/
abbrev ft (h : Fin 16) (d : Fin 64) : Fin 1024 := ⟨64 * h.val + d.val, by omega⟩

/-- The new residual entry: the old one plus its gain times the gated attention's product with the weights. -/
def newx (o g : Fin 1024 → EReal) (w : Fin 1024 → Fin 1024 → EReal) (gt x : Fin 1024 → EReal) (e : Fin 1024) : EReal :=
  x e + gt e * ∑ k, o k * g k * w k e
/-- The normed entry, times its gain, plus its shift. -/
def hid (X a s : Fin 1024 → EReal) (e : Fin 1024) : EReal :=
  X e * Ideal.rsqrt ((∑ k, X k * X k) * c1024 + eps) * a e + s e
/-- The projection. -/
def up (H : Fin 1024 → EReal) (W : Fin 1024 → Fin 4096 → EReal) (n : Fin 4096) : EReal := ∑ e, H e * W e n
/-- A head's normed entry, times its gain. -/
def headn (u : Fin 1024 → EReal) (g : Fin 64 → EReal) (h : Fin 16) (d : Fin 64) : EReal :=
  u (ft h d) * Ideal.rsqrt ((∑ k, u (ft h k) * u (ft h k)) * c64 + eps) * g d

/-! ## The stores' values -/

/-- The lanes of a column that holds one value per row, as the window keeps it. -/
theorem lanes (f : Fin 128 → EReal) (v : EReal) (h : ∀ l, f l = v) (i : Fin 256) :
    (if h : i.val < 128 then f ⟨i.val, h⟩ else f ⟨i.val - 128, by omega⟩) = v := by
  split <;> exact h _

theorem q0 (g : Vec Ideal S64x128 .f32) (v : FVec Ideal S1024x256 .f32) (a b : Vec Ideal S1x1024x128 .f32) (w : Vec Ideal S1024x1024 .bf16) (i : Fin 256) (d : Fin 64) :
    k0_pay9 v a b g w (ix4 0 0 d i) = headn (fun f => (k0_pay8 v a b w) (ix2 f i)) (fun d => (k0_pay6 g) (ix2 d i)) 0 d := by
  unfold k0_pay9 headn
  generalize k0_pay6 g = g
  generalize k0_pay8 v a b w = u
  have h0 : ft 0 = fun d => ⟨d.val, by omega⟩ := funext fun d => Fin.ext (by show 64 * 0 + d.val = d.val; omega)
  rw [h0]
  pointwise
theorem q1 (g : FVec Ideal S64x256 .f32) (v : FVec Ideal S1024x256 .f32) (a b : Vec Ideal S1x1024x128 .f32) (w : Vec Ideal S1024x1024 .bf16) (i : Fin 256) (d : Fin 64) :
    k0_pay12 g (k0_pay10 v a b w) (k0_pay11 v a b w) (Scalar.ofBits (F := Ideal) .f32 0x358637BD#32) (ix4 0 0 d i) = headn (fun f => (k0_pay8 v a b w) (ix2 f i)) (fun d => (g) (ix2 d i)) 1 d := by
  unfold k0_pay11 k0_pay10 k0_pay12 headn
  generalize k0_pay8 v a b w = u
  pointwise
  rfl
theorem q2 (g : FVec Ideal S64x256 .f32) (u : FVec Ideal S1024x256 .f32) (i : Fin 256) (d : Fin 64) :
    k0_pay13 g u (ix4 0 0 d i) = headn (fun f => (u) (ix2 f i)) (fun d => (g) (ix2 d i)) 2 d := by
  unfold k0_pay13 headn
  pointwise
  rfl
theorem q3 (g : FVec Ideal S64x256 .f32) (u : FVec Ideal S1024x256 .f32) (i : Fin 256) (d : Fin 64) :
    k0_pay15 (k0_pay14 g u) (ix4 0 0 d i) = headn (fun f => (u) (ix2 f i)) (fun d => (g) (ix2 d i)) 3 d := by
  unfold k0_pay14 k0_pay15 headn
  pointwise
  rfl
theorem q4 (g : FVec Ideal S64x256 .f32) (u : FVec Ideal S1024x256 .f32) (i : Fin 256) (d : Fin 64) :
    k0_pay16 g u (ix4 0 0 d i) = headn (fun f => (u) (ix2 f i)) (fun d => (g) (ix2 d i)) 4 d := by
  unfold k0_pay16 headn
  pointwise
  rfl
theorem q5 (g : FVec Ideal S64x256 .f32) (u : FVec Ideal S1024x256 .f32) (i : Fin 256) (d : Fin 64) :
    k0_pay17 g u (ix4 0 0 d i) = headn (fun f => (u) (ix2 f i)) (fun d => (g) (ix2 d i)) 5 d := by
  unfold k0_pay17 headn
  pointwise
  rfl
theorem q6 (g : FVec Ideal S64x256 .f32) (u : FVec Ideal S1024x256 .f32) (i : Fin 256) (d : Fin 64) :
    k0_pay20 g (k0_pay18 u) (k0_pay19 u) (Scalar.ofBits (F := Ideal) .f32 0x358637BD#32) (ix4 0 0 d i) = headn (fun f => (u) (ix2 f i)) (fun d => (g) (ix2 d i)) 6 d := by
  unfold k0_pay19 k0_pay18 k0_pay20 headn
  pointwise
  rfl
theorem q7 (g : FVec Ideal S64x256 .f32) (u : FVec Ideal S1024x256 .f32) (i : Fin 256) (d : Fin 64) :
    k0_pay21 g u (ix4 0 0 d i) = headn (fun f => (u) (ix2 f i)) (fun d => (g) (ix2 d i)) 7 d := by
  unfold k0_pay21 headn
  pointwise
  rfl
theorem q8 (g : FVec Ideal S64x256 .f32) (u : FVec Ideal S1024x256 .f32) (i : Fin 256) (d : Fin 64) :
    k0_pay23 (k0_pay22 g u) (ix4 0 0 d i) = headn (fun f => (u) (ix2 f i)) (fun d => (g) (ix2 d i)) 8 d := by
  unfold k0_pay22 k0_pay23 headn
  pointwise
  rfl
theorem q9 (g : FVec Ideal S64x256 .f32) (u : FVec Ideal S1024x256 .f32) (i : Fin 256) (d : Fin 64) :
    k0_pay24 g u (ix4 0 0 d i) = headn (fun f => (u) (ix2 f i)) (fun d => (g) (ix2 d i)) 9 d := by
  unfold k0_pay24 headn
  pointwise
  rfl
theorem q10 (g : FVec Ideal S64x256 .f32) (u : FVec Ideal S1024x256 .f32) (i : Fin 256) (d : Fin 64) :
    k0_pay25 g u (ix4 0 0 d i) = headn (fun f => (u) (ix2 f i)) (fun d => (g) (ix2 d i)) 10 d := by
  unfold k0_pay25 headn
  pointwise
  rfl
theorem q11 (g : FVec Ideal S64x256 .f32) (u : FVec Ideal S1024x256 .f32) (i : Fin 256) (d : Fin 64) :
    k0_pay28 g (k0_pay26 u) (k0_pay27 u) (Scalar.ofBits (F := Ideal) .f32 0x358637BD#32) (ix4 0 0 d i) = headn (fun f => (u) (ix2 f i)) (fun d => (g) (ix2 d i)) 11 d := by
  unfold k0_pay27 k0_pay26 k0_pay28 headn
  pointwise
  rfl
theorem q12 (g : FVec Ideal S64x256 .f32) (u : FVec Ideal S1024x256 .f32) (i : Fin 256) (d : Fin 64) :
    k0_pay29 g u (ix4 0 0 d i) = headn (fun f => (u) (ix2 f i)) (fun d => (g) (ix2 d i)) 12 d := by
  unfold k0_pay29 headn
  pointwise
  rfl
theorem q13 (g : FVec Ideal S64x256 .f32) (u : FVec Ideal S1024x256 .f32) (i : Fin 256) (d : Fin 64) :
    k0_pay31 (k0_pay30 g u) (ix4 0 0 d i) = headn (fun f => (u) (ix2 f i)) (fun d => (g) (ix2 d i)) 13 d := by
  unfold k0_pay30 k0_pay31 headn
  pointwise
  rfl
theorem q14 (g : FVec Ideal S64x256 .f32) (u : FVec Ideal S1024x256 .f32) (i : Fin 256) (d : Fin 64) :
    k0_pay32 g u (ix4 0 0 d i) = headn (fun f => (u) (ix2 f i)) (fun d => (g) (ix2 d i)) 14 d := by
  unfold k0_pay32 headn
  pointwise
  rfl
theorem q15 (g : FVec Ideal S64x256 .f32) (u : FVec Ideal S1024x256 .f32) (i : Fin 256) (d : Fin 64) :
    k0_pay33 g u (ix4 0 0 d i) = headn (fun f => (u) (ix2 f i)) (fun d => (g) (ix2 d i)) 15 d := by
  unfold k0_pay33 headn
  pointwise
  rfl
theorem k0 (g : FVec Ideal S64x256 .f32) (H : FVec Ideal S1024x256 .bf16) (w : Vec Ideal S1024x1024 .bf16) (i : Fin 256) (l : Fin 128) :
    k0_pay37 g (k0_pay35 H w) (k0_pay36 H w) (ix5 0 0 0 i l) = if h : l.val < 64 then headn (fun f => (k0_pay34 H w) (ix2 f i)) (fun d => (g) (ix2 d i)) 0 ⟨l.val, h⟩ else 0 := by
  unfold k0_pay36 k0_pay35 k0_pay37 headn
  generalize k0_pay34 H w = u
  have h0 : ft 0 = fun d => ⟨d.val, by omega⟩ := funext fun d => Fin.ext (by show 64 * 0 + d.val = d.val; omega)
  rw [h0]
  pointwise
theorem k1 (g : FVec Ideal S64x256 .f32) (u : FVec Ideal S1024x256 .f32) (i : Fin 256) (l : Fin 128) :
    k0_pay38 g u (ix5 0 0 0 i l) = if h : l.val < 64 then headn (fun f => (u) (ix2 f i)) (fun d => (g) (ix2 d i)) 1 ⟨l.val, h⟩ else 0 := by
  unfold k0_pay38 headn
  pointwise
  rfl
theorem k2 (g : FVec Ideal S64x256 .f32) (u : FVec Ideal S1024x256 .f32) (i : Fin 256) (l : Fin 128) :
    k0_pay41 g (k0_pay39 u) (k0_pay40 u) (ix5 0 0 0 i l) = if h : l.val < 64 then headn (fun f => (u) (ix2 f i)) (fun d => (g) (ix2 d i)) 2 ⟨l.val, h⟩ else 0 := by
  unfold k0_pay40 k0_pay39 k0_pay41 headn
  pointwise
  rfl
theorem k3 (g : FVec Ideal S64x256 .f32) (u : FVec Ideal S1024x256 .f32) (i : Fin 256) (l : Fin 128) :
    k0_pay42 g u (ix5 0 0 0 i l) = if h : l.val < 64 then headn (fun f => (u) (ix2 f i)) (fun d => (g) (ix2 d i)) 3 ⟨l.val, h⟩ else 0 := by
  unfold k0_pay42 headn
  pointwise
  rfl
theorem k4 (g : FVec Ideal S64x256 .f32) (u : FVec Ideal S1024x256 .f32) (i : Fin 256) (l : Fin 128) :
    k0_pay46 g (k0_pay43 u) (k0_pay44 u) (k0_pay45 (F := Ideal)) (ix5 0 0 0 i l) = if h : l.val < 64 then headn (fun f => (u) (ix2 f i)) (fun d => (g) (ix2 d i)) 4 ⟨l.val, h⟩ else 0 := by
  unfold k0_pay45 k0_pay44 k0_pay43 k0_pay46 headn
  pointwise
  rfl
theorem k5 (g : FVec Ideal S64x256 .f32) (u : FVec Ideal S1024x256 .f32) (i : Fin 256) (l : Fin 128) :
    k0_pay47 g u (ix5 0 0 0 i l) = if h : l.val < 64 then headn (fun f => (u) (ix2 f i)) (fun d => (g) (ix2 d i)) 5 ⟨l.val, h⟩ else 0 := by
  unfold k0_pay47 headn
  pointwise
  rfl
theorem k6 (g : FVec Ideal S64x256 .f32) (u : FVec Ideal S1024x256 .f32) (i : Fin 256) (l : Fin 128) :
    k0_pay50 g (k0_pay48 u) (k0_pay49 u) (Scalar.ofBits (F := Ideal) .f32 0x358637BD#32) (ix5 0 0 0 i l) = if h : l.val < 64 then headn (fun f => (u) (ix2 f i)) (fun d => (g) (ix2 d i)) 6 ⟨l.val, h⟩ else 0 := by
  unfold k0_pay49 k0_pay48 k0_pay50 headn
  pointwise
  rfl
theorem k7 (g : FVec Ideal S64x256 .f32) (u : FVec Ideal S1024x256 .f32) (i : Fin 256) (l : Fin 128) :
    k0_pay51 g u (ix5 0 0 0 i l) = if h : l.val < 64 then headn (fun f => (u) (ix2 f i)) (fun d => (g) (ix2 d i)) 7 ⟨l.val, h⟩ else 0 := by
  unfold k0_pay51 headn
  pointwise
  rfl
theorem k8 (g : FVec Ideal S64x256 .f32) (u : FVec Ideal S1024x256 .f32) (i : Fin 256) (l : Fin 128) :
    k0_pay54 g (k0_pay52 u) (k0_pay53 u) (ix5 0 0 0 i l) = if h : l.val < 64 then headn (fun f => (u) (ix2 f i)) (fun d => (g) (ix2 d i)) 8 ⟨l.val, h⟩ else 0 := by
  unfold k0_pay53 k0_pay52 k0_pay54 headn
  pointwise
  rfl
theorem k9 (g : FVec Ideal S64x256 .f32) (u : FVec Ideal S1024x256 .f32) (i : Fin 256) (l : Fin 128) :
    k0_pay55 g u (ix5 0 0 0 i l) = if h : l.val < 64 then headn (fun f => (u) (ix2 f i)) (fun d => (g) (ix2 d i)) 9 ⟨l.val, h⟩ else 0 := by
  unfold k0_pay55 headn
  pointwise
  rfl
theorem k10 (g : FVec Ideal S64x256 .f32) (u : FVec Ideal S1024x256 .f32) (i : Fin 256) (l : Fin 128) :
    k0_pay58 g (k0_pay56 u) (k0_pay57 u) (ix5 0 0 0 i l) = if h : l.val < 64 then headn (fun f => (u) (ix2 f i)) (fun d => (g) (ix2 d i)) 10 ⟨l.val, h⟩ else 0 := by
  unfold k0_pay57 k0_pay56 k0_pay58 headn
  pointwise
  rfl
theorem k11 (g : FVec Ideal S64x256 .f32) (u : FVec Ideal S1024x256 .f32) (i : Fin 256) (l : Fin 128) :
    k0_pay59 g u (ix5 0 0 0 i l) = if h : l.val < 64 then headn (fun f => (u) (ix2 f i)) (fun d => (g) (ix2 d i)) 11 ⟨l.val, h⟩ else 0 := by
  unfold k0_pay59 headn
  pointwise
  rfl
theorem k12 (g : FVec Ideal S64x256 .f32) (u : FVec Ideal S1024x256 .f32) (i : Fin 256) (l : Fin 128) :
    k0_pay61 (k0_pay60 g u) (ix5 0 0 0 i l) = if h : l.val < 64 then headn (fun f => (u) (ix2 f i)) (fun d => (g) (ix2 d i)) 12 ⟨l.val, h⟩ else 0 := by
  unfold k0_pay60 k0_pay61 headn
  pointwise
  rfl
theorem k13 (g : FVec Ideal S64x256 .f32) (u : FVec Ideal S1024x256 .f32) (i : Fin 256) (l : Fin 128) :
    k0_pay62 g u (ix5 0 0 0 i l) = if h : l.val < 64 then headn (fun f => (u) (ix2 f i)) (fun d => (g) (ix2 d i)) 13 ⟨l.val, h⟩ else 0 := by
  unfold k0_pay62 headn
  pointwise
  rfl
theorem k14 (g : FVec Ideal S64x256 .f32) (u : FVec Ideal S1024x256 .f32) (i : Fin 256) (l : Fin 128) :
    k0_pay65 (k0_pay63 g u) (k0_pay64 (F := Ideal)) (ix5 0 0 0 i l) = if h : l.val < 64 then headn (fun f => (u) (ix2 f i)) (fun d => (g) (ix2 d i)) 14 ⟨l.val, h⟩ else 0 := by
  unfold k0_pay64 k0_pay63 k0_pay65 headn
  pointwise
  rfl
theorem k15 (g : FVec Ideal S64x256 .f32) (u : FVec Ideal S1024x256 .f32) (i : Fin 256) (l : Fin 128) :
    k0_pay66 g u (ix5 0 0 0 i l) = if h : l.val < 64 then headn (fun f => (u) (ix2 f i)) (fun d => (g) (ix2 d i)) 15 ⟨l.val, h⟩ else 0 := by
  unfold k0_pay66 headn
  pointwise
  rfl

theorem pay2_apply (o : Vec Ideal S1x1x1024x256 .bf16) (g : Vec Ideal S1x1024x256 .bf16) (w : Vec Ideal S1024x1024 .bf16) (x : Vec Ideal S1x1024x256 .f32)
    (t : Vec Ideal S1x1024x128 .f32) (gt : Fin 1024 → EReal) (ht : ∀ e l, t (ix3 0 e l) = gt e) (e : Fin 1024) (i : Fin 256) :
    k0_pay2 o g w x t (ix2 e i) = newx (fun k => o (ix4 0 0 k i)) (fun k => g (ix3 0 k i)) (fun k e => w (ix2 e k)) gt (fun e => x (ix3 0 e i)) e := by
  unfold k0_pay2 newx
  pointwise
  refine congrArg₂ (fun a s => x (ix3 0 e i) + a * s) (lanes (fun l => t (ix3 0 e l)) _ (ht e) i) (Finset.sum_congr rfl fun k _ => mul_comm _ _)
theorem pay3_apply (o : Vec Ideal S1x1x1024x256 .bf16) (g : Vec Ideal S1x1024x256 .bf16) (w : Vec Ideal S1024x1024 .bf16) (x : Vec Ideal S1x1024x256 .f32)
    (t : Vec Ideal S1x1024x128 .f32) (e : Fin 1024) (i : Fin 256) : k0_pay3 o g w x t (ix3 0 e i) = k0_pay2 o g w x t (ix2 e i) := by
  unfold k0_pay3
  generalize k0_pay2 o g w x t = X
  pointwise
theorem pay4_apply (o : Vec Ideal S1x1x1024x256 .bf16) (g : Vec Ideal S1x1024x256 .bf16) (w : Vec Ideal S1024x1024 .bf16) (x : Vec Ideal S1x1024x256 .f32)
    (t : Vec Ideal S1x1024x128 .f32) (e : Fin 1024) (i : Fin 256) : k0_pay4 o g w x t (ix2 e i)
      = k0_pay2 o g w x t (ix2 e i) * Ideal.rsqrt ((∑ k, k0_pay2 o g w x t (ix2 k i) * k0_pay2 o g w x t (ix2 k i)) * c1024 + eps) := by
  unfold k0_pay4
  generalize k0_pay2 o g w x t = X
  pointwise
theorem pay5_apply (v : FVec Ideal S1024x256 .f32) (a b : Vec Ideal S1x1024x128 .f32) (p q : Fin 1024 → EReal) (hp : ∀ e l, a (ix3 0 e l) = p e)
    (hq : ∀ e l, b (ix3 0 e l) = q e) (e : Fin 1024) (i : Fin 256) : k0_pay5 v a b (ix2 e i) = v (ix2 e i) * p e + q e := by
  unfold k0_pay5
  pointwise
  exact congrArg₂ (fun a b => v (ix2 e i) * a + b) (lanes (fun l => a (ix3 0 e l)) _ (hp e) i) (lanes (fun l => b (ix3 0 e l)) _ (hq e) i)
theorem pay6_apply (g : Vec Ideal S64x128 .f32) (p : Fin 64 → EReal) (hp : ∀ d l, g (ix2 d l) = p d) (d : Fin 64) (i : Fin 256) :
    k0_pay6 g (ix2 d i) = p d := by
  unfold k0_pay6
  pointwise
  exact lanes (fun l => g (ix2 d l)) _ (hp d) i
theorem pay7_apply (g : Vec Ideal S64x128 .f32) (p : Fin 64 → EReal) (hp : ∀ d l, g (ix2 d l) = p d) (d : Fin 64) (i : Fin 256) :
    k0_pay7 g (ix2 d i) = p d := by
  unfold k0_pay7
  pointwise
  exact lanes (fun l => g (ix2 d l)) _ (hp d) i
theorem pay8_apply (v : FVec Ideal S1024x256 .f32) (a b : Vec Ideal S1x1024x128 .f32) (w : Vec Ideal S1024x1024 .bf16) (f : Fin 1024) (i : Fin 256) :
    k0_pay8 v a b w (ix2 f i) = ∑ e, k0_pay5 v a b (ix2 e i) * w (ix2 f e) := by
  unfold k0_pay8
  generalize k0_pay5 v a b = H
  pointwise
  exact Finset.sum_congr rfl fun k _ => mul_comm _ _
theorem pay34_apply (H : FVec Ideal S1024x256 .bf16) (w : Vec Ideal S1024x1024 .bf16) (f : Fin 1024) (i : Fin 256) :
    k0_pay34 H w (ix2 f i) = ∑ e, H (ix2 e i) * w (ix2 f e) := by
  unfold k0_pay34
  pointwise
  exact Finset.sum_congr rfl fun k _ => mul_comm _ _
theorem pay67_apply (H : FVec Ideal S1024x256 .bf16) (w : Vec Ideal S1024x1024 .bf16) (f : Fin 1024) (i : Fin 256) :
    k0_pay67 H w (ix4 0 0 f i) = ∑ e, H (ix2 e i) * w (ix2 f e) := by
  unfold k0_pay67
  pointwise
  exact Finset.sum_congr rfl fun k _ => mul_comm _ _
theorem pay1_apply (H : FVec Ideal S1024x256 .bf16) (w : Vec Ideal S1024x1024 .bf16) (f : Fin 1024) (i : Fin 256) :
    k0_pay1 H (k0_pay68 w) (ix3 0 f i) = (∑ e, H (ix2 e i) * w (ix2 f e)) * Ideal.logistic (∑ e, H (ix2 e i) * w (ix2 f e)) := by
  unfold k0_pay1 k0_pay68
  rw [show (∑ e, H (ix2 e i) * w (ix2 f e)) = ∑ e, w (ix2 f e) * H (ix2 e i) from Finset.sum_congr rfl fun k _ => mul_comm _ _]
  pointwise

/-! ## The stores together -/

/-- The queries' store as one function, -/
def storeQ (g : FVec Ideal S64x256 .f32) (u : FVec Ideal S1024x256 .f32) : S1x1x1024x256.Idx → EReal := fun y =>
  headn (fun f => u (ix2 f (y 3))) (fun d => g (ix2 d (y 3))) ⟨(y 2).val / 64, by have : (y 2).val < 1024 := (y 2).isLt; omega⟩ ⟨(y 2).val % 64, by omega⟩
/-- and the keys'. -/
def storeK (g : FVec Ideal S64x256 .f32) (u : FVec Ideal S1024x256 .f32) : S1x1x16x256x128.Idx → EReal := fun y =>
  if h : (y 4).val < 64 then headn (fun f => u (ix2 f (y 3))) (fun d => g (ix2 d (y 3))) (y 2) ⟨(y 4).val, h⟩ else 0

theorem storeQ_head (g : FVec Ideal S64x256 .f32) (u : FVec Ideal S1024x256 .f32) (h : Fin 16) (d : Fin 64) (i : Fin 256) :
    storeQ g u (ix4 0 0 (ft h d) i) = headn (fun f => u (ix2 f i)) (fun d => g (ix2 d i)) h d := by
  have h1 : (⟨(64 * h.val + d.val) / 64, by omega⟩ : Fin 16) = h := Fin.ext (by show (64 * h.val + d.val) / 64 = h.val; omega)
  have h2 : (⟨(64 * h.val + d.val) % 64, by omega⟩ : Fin 64) = d := Fin.ext (by show (64 * h.val + d.val) % 64 = d.val; omega)
  exact congrArg₂ (headn (fun f => u (ix2 f i)) (fun d => g (ix2 d i))) h1 h2

theorem pieceQ (g : FVec Ideal S64x256 .f32) (u : FVec Ideal S1024x256 .f32) (h : Fin 16) (n : ℕ) (hn : n = 64 * h.val)
    (inb : ∀ a, (![0, 0, n, 0] : Fin 4 → ℕ) a + S1x1x64x256.size a ≤ S1x1x1024x256.size a) (P : Vec Ideal S1x1x64x256 .bf16)
    (hP : ∀ (i : Fin 256) (d : Fin 64), P (ix4 0 0 d i) = headn (fun f => u (ix2 f i)) (fun d => g (ix2 d i)) h d) (x : S1x1x64x256.Idx) :
    P x = storeQ g u ((Rect.unit (s := S1x1x1024x256) ![0, 0, n, 0] S1x1x64x256.size inb).emb x) := by
  subst hn
  obtain ⟨d, i, rfl⟩ : ∃ (d : Fin 64) (i : Fin 256), x = (ix4 0 0 d i : S1x1x64x256.Idx) :=
    ⟨x 2, x 3, funext fun a => match a with
      | ⟨0, _⟩ => Fin.ext (by have : (x 0).val < 1 := (x 0).isLt; show (x 0).val = 0; omega)
      | ⟨1, _⟩ => Fin.ext (by have : (x 1).val < 1 := (x 1).isLt; show (x 1).val = 0; omega)
      | ⟨2, _⟩ => rfl
      | ⟨3, _⟩ => rfl⟩
  rw [hP, ← storeQ_head]
  refine congrArg (storeQ g u) (funext fun a => Fin.ext ?_)
  match a with
  | ⟨0, _⟩ => rfl
  | ⟨1, _⟩ => rfl
  | ⟨2, _⟩ => show 64 * h.val + d.val = 64 * h.val + 1 * d.val; omega
  | ⟨3, _⟩ => show i.val = 0 + 1 * i.val; omega

theorem pieceK (g : FVec Ideal S64x256 .f32) (u : FVec Ideal S1024x256 .f32) (h : Fin 16) (n : ℕ) (hn : n = h.val)
    (inb : ∀ a, (![0, 0, n, 0, 0] : Fin 5 → ℕ) a + S1x1x1x256x128.size a ≤ S1x1x16x256x128.size a) (P : Vec Ideal S1x1x1x256x128 .bf16)
    (hP : ∀ (i : Fin 256) (l : Fin 128), P (ix5 0 0 0 i l) = if hl : l.val < 64 then headn (fun f => u (ix2 f i)) (fun d => g (ix2 d i)) h ⟨l.val, hl⟩ else 0)
    (x : S1x1x1x256x128.Idx) : P x = storeK g u ((Rect.unit (s := S1x1x16x256x128) ![0, 0, n, 0, 0] S1x1x1x256x128.size inb).emb x) := by
  subst hn
  obtain ⟨i, l, rfl⟩ : ∃ (i : Fin 256) (l : Fin 128), x = (ix5 0 0 0 i l : S1x1x1x256x128.Idx) :=
    ⟨x 3, x 4, funext fun a => match a with
      | ⟨0, _⟩ => Fin.ext (by have : (x 0).val < 1 := (x 0).isLt; show (x 0).val = 0; omega)
      | ⟨1, _⟩ => Fin.ext (by have : (x 1).val < 1 := (x 1).isLt; show (x 1).val = 0; omega)
      | ⟨2, _⟩ => Fin.ext (by have : (x 2).val < 1 := (x 2).isLt; show (x 2).val = 0; omega)
      | ⟨3, _⟩ => rfl
      | ⟨4, _⟩ => rfl⟩
  rw [hP]
  refine (show _ = storeK g u (ix5 0 0 h i l) from rfl).trans (congrArg (storeK g u) (funext fun a => Fin.ext ?_))
  match a with
  | ⟨0, _⟩ => rfl
  | ⟨1, _⟩ => rfl
  | ⟨2, _⟩ => show h.val = h.val + 1 * 0; omega
  | ⟨3, _⟩ => show i.val = 0 + 1 * i.val; omega
  | ⟨4, _⟩ => show l.val = 0 + 1 * l.val; omega

variable (x0 : Vec Ideal S1x1x1024x256 .bf16) (x1 : Vec Ideal S1x1024x256 .bf16) (x2 : Vec Ideal S1024x1024 .bf16) (x3 : Vec Ideal S1x1024x128 .f32)
  (x4 : Vec Ideal S1x1024x256 .f32) (x5 : Vec Ideal S1x1024x128 .f32) (x6 : Vec Ideal S1x1024x128 .f32) (x7 : Vec Ideal S4096x1024 .bf16)
  (x8 x9 : Vec Ideal S32x256 .f32) (x10 x11 : Vec Ideal S64x128 .f32)

theorem out13_eq (y : S1x1x1024x256.Idx) : out0_13 x0 x1 x2 x3 x4 x5 x6 x7 x8 x9 x10 x11 y = storeQ (k0_pay71 x0 x1 x2 x3 x4 x5 x6 x7 x8 x9 x10 x11) (k0_pay73 x0 x1 x2 x3 x4 x5 x6 x7 x8 x9 x10 x11) y := by
  unfold out0_13
  refine View.canon_apply_of_pieces (Val := Elt Ideal) (e := .bf16) (storeQ (k0_pay71 x0 x1 x2 x3 x4 x5 x6 x7 x8 x9 x10 x11) (k0_pay73 x0 x1 x2 x3 x4 x5 x6 x7 x8 x9 x10 x11)) _ ?_ y (cover0_13 _ _ _ _ _ _ _ _ _ _ _ _ _ _ _ _ y)
  intro pc hpc
  rcases List.mem_cons.mp hpc with rfl | hpc
  · exact pieceQ _ _ 15 960 rfl inb_S1x1x1024x256_S1x1x64x256_0_0_960_0 _ (q15 _ _)
  rcases List.mem_cons.mp hpc with rfl | hpc
  · exact pieceQ _ _ 14 896 rfl inb_S1x1x1024x256_S1x1x64x256_0_0_896_0 _ (q14 _ _)
  rcases List.mem_cons.mp hpc with rfl | hpc
  · exact pieceQ _ _ 13 832 rfl inb_S1x1x1024x256_S1x1x64x256_0_0_832_0 _ (q13 _ _)
  rcases List.mem_cons.mp hpc with rfl | hpc
  · exact pieceQ _ _ 12 768 rfl inb_S1x1x1024x256_S1x1x64x256_0_0_768_0 _ (q12 _ _)
  rcases List.mem_cons.mp hpc with rfl | hpc
  · exact pieceQ _ _ 11 704 rfl inb_S1x1x1024x256_S1x1x64x256_0_0_704_0 _ (q11 _ _)
  rcases List.mem_cons.mp hpc with rfl | hpc
  · exact pieceQ _ _ 10 640 rfl inb_S1x1x1024x256_S1x1x64x256_0_0_640_0 _ (q10 _ _)
  rcases List.mem_cons.mp hpc with rfl | hpc
  · exact pieceQ _ _ 9 576 rfl inb_S1x1x1024x256_S1x1x64x256_0_0_576_0 _ (q9 _ _)
  rcases List.mem_cons.mp hpc with rfl | hpc
  · exact pieceQ _ _ 8 512 rfl inb_S1x1x1024x256_S1x1x64x256_0_0_512_0 _ (q8 _ _)
  rcases List.mem_cons.mp hpc with rfl | hpc
  · exact pieceQ _ _ 7 448 rfl inb_S1x1x1024x256_S1x1x64x256_0_0_448_0 _ (q7 _ _)
  rcases List.mem_cons.mp hpc with rfl | hpc
  · exact pieceQ _ _ 6 384 rfl inb_S1x1x1024x256_S1x1x64x256_0_0_384_0 _ (q6 _ _)
  rcases List.mem_cons.mp hpc with rfl | hpc
  · exact pieceQ _ _ 5 320 rfl inb_S1x1x1024x256_S1x1x64x256_0_0_320_0 _ (q5 _ _)
  rcases List.mem_cons.mp hpc with rfl | hpc
  · exact pieceQ _ _ 4 256 rfl inb_S1x1x1024x256_S1x1x64x256_0_0_256_0 _ (q4 _ _)
  rcases List.mem_cons.mp hpc with rfl | hpc
  · exact pieceQ _ _ 3 192 rfl inb_S1x1x1024x256_S1x1x64x256_0_0_192_0 _ (q3 _ _)
  rcases List.mem_cons.mp hpc with rfl | hpc
  · exact pieceQ _ _ 2 128 rfl inb_S1x1x1024x256_S1x1x64x256_0_0_128_0 _ (q2 _ _)
  rcases List.mem_cons.mp hpc with rfl | hpc
  · exact pieceQ _ _ 1 64 rfl inb_S1x1x1024x256_S1x1x64x256_0_0_64_0 _ (q1 _ _ _ _ _)
  rcases List.mem_cons.mp hpc with rfl | hpc
  · exact pieceQ _ _ 0 0 rfl inb_S1x1x1024x256_S1x1x64x256_0_0_0_0 _ (q0 _ _ _ _ _)
  nomatch hpc
theorem out14_eq (y : S1x1x16x256x128.Idx) : out0_14 x0 x1 x2 x3 x4 x5 x6 x7 x8 x9 x10 x11 y = storeK (k0_pay72 x0 x1 x2 x3 x4 x5 x6 x7 x8 x9 x10 x11) (k0_pay74 x0 x1 x2 x3 x4 x5 x6 x7 x8 x9 x10 x11) y := by
  unfold out0_14
  refine View.canon_apply_of_pieces (Val := Elt Ideal) (e := .bf16) (storeK (k0_pay72 x0 x1 x2 x3 x4 x5 x6 x7 x8 x9 x10 x11) (k0_pay74 x0 x1 x2 x3 x4 x5 x6 x7 x8 x9 x10 x11)) _ ?_ y (cover0_14 _ _ _ _ _ _ _ _ _ _ _ _ _ _ _ _ y)
  intro pc hpc
  rcases List.mem_cons.mp hpc with rfl | hpc
  · exact pieceK _ _ 15 15 rfl inb_S1x1x16x256x128_S1x1x1x256x128_0_0_15_0_0 _ (k15 _ _)
  rcases List.mem_cons.mp hpc with rfl | hpc
  · exact pieceK _ _ 14 14 rfl inb_S1x1x16x256x128_S1x1x1x256x128_0_0_14_0_0 _ (k14 _ _)
  rcases List.mem_cons.mp hpc with rfl | hpc
  · exact pieceK _ _ 13 13 rfl inb_S1x1x16x256x128_S1x1x1x256x128_0_0_13_0_0 _ (k13 _ _)
  rcases List.mem_cons.mp hpc with rfl | hpc
  · exact pieceK _ _ 12 12 rfl inb_S1x1x16x256x128_S1x1x1x256x128_0_0_12_0_0 _ (k12 _ _)
  rcases List.mem_cons.mp hpc with rfl | hpc
  · exact pieceK _ _ 11 11 rfl inb_S1x1x16x256x128_S1x1x1x256x128_0_0_11_0_0 _ (k11 _ _)
  rcases List.mem_cons.mp hpc with rfl | hpc
  · exact pieceK _ _ 10 10 rfl inb_S1x1x16x256x128_S1x1x1x256x128_0_0_10_0_0 _ (k10 _ _)
  rcases List.mem_cons.mp hpc with rfl | hpc
  · exact pieceK _ _ 9 9 rfl inb_S1x1x16x256x128_S1x1x1x256x128_0_0_9_0_0 _ (k9 _ _)
  rcases List.mem_cons.mp hpc with rfl | hpc
  · exact pieceK _ _ 8 8 rfl inb_S1x1x16x256x128_S1x1x1x256x128_0_0_8_0_0 _ (k8 _ _)
  rcases List.mem_cons.mp hpc with rfl | hpc
  · exact pieceK _ _ 7 7 rfl inb_S1x1x16x256x128_S1x1x1x256x128_0_0_7_0_0 _ (k7 _ _)
  rcases List.mem_cons.mp hpc with rfl | hpc
  · exact pieceK _ _ 6 6 rfl inb_S1x1x16x256x128_S1x1x1x256x128_0_0_6_0_0 _ (k6 _ _)
  rcases List.mem_cons.mp hpc with rfl | hpc
  · exact pieceK _ _ 5 5 rfl inb_S1x1x16x256x128_S1x1x1x256x128_0_0_5_0_0 _ (k5 _ _)
  rcases List.mem_cons.mp hpc with rfl | hpc
  · exact pieceK _ _ 4 4 rfl inb_S1x1x16x256x128_S1x1x1x256x128_0_0_4_0_0 _ (k4 _ _)
  rcases List.mem_cons.mp hpc with rfl | hpc
  · exact pieceK _ _ 3 3 rfl inb_S1x1x16x256x128_S1x1x1x256x128_0_0_3_0_0 _ (k3 _ _)
  rcases List.mem_cons.mp hpc with rfl | hpc
  · exact pieceK _ _ 2 2 rfl inb_S1x1x16x256x128_S1x1x1x256x128_0_0_2_0_0 _ (k2 _ _)
  rcases List.mem_cons.mp hpc with rfl | hpc
  · exact pieceK _ _ 1 1 rfl inb_S1x1x16x256x128_S1x1x1x256x128_0_0_1_0_0 _ (k1 _ _)
  rcases List.mem_cons.mp hpc with rfl | hpc
  · exact pieceK _ _ 0 0 rfl inb_S1x1x16x256x128_S1x1x1x256x128_0_0_0_0_0 _ (k0 _ _ _)
  nomatch hpc

/-! ## The blocks at one token -/

/-- What the window's columns hold. -/
structure Cols (gt a b : Fin 1024 → EReal) (gq gk : Fin 64 → EReal) : Prop where
  ht : ∀ e l, x3 (ix3 0 e l) = gt e
  ha : ∀ e l, x5 (ix3 0 e l) = a e
  hb : ∀ e l, x6 (ix3 0 e l) = b e
  hq : ∀ d l, x10 (ix2 d l) = gq d
  hk : ∀ d l, x11 (ix2 d l) = gk d

/-- The new residual of a token of the window, -/
def newX (gt : Fin 1024 → EReal) (i : Fin 256) (e : Fin 1024) : EReal :=
  newx (fun k => x0 (ix4 0 0 k i)) (fun k => x1 (ix3 0 k i)) (fun k e => x2 (ix2 e k)) gt (fun e => x4 (ix3 0 e i)) e
/-- and its projection. -/
def newU (gt a b : Fin 1024 → EReal) (i : Fin 256) (n : Fin 4096) : EReal :=
  up (hid (newX x0 x1 x2 x4 gt i) a b) (fun e n => x7 (ix2 n e)) n

theorem ld_0 (f e : Fin 1024) : View.ld x7 r0_5 (ix2 f e) = x7 (ix2 ⟨f.val, by omega⟩ e) :=
  View.ld_unit_apply_of x7 _ _ _ _ _ fun a => by fin_cases a <;> [(show f.val = 0 + f.val); (show e.val = 0 + e.val)] <;> omega
theorem ld_1 (f e : Fin 1024) : View.ld x7 r0_22 (ix2 f e) = x7 (ix2 ⟨1024 + f.val, by omega⟩ e) :=
  View.ld_unit_apply_of x7 _ _ _ _ _ fun a => by fin_cases a <;> [(show 1024 + f.val = 1024 + f.val); (show e.val = 0 + e.val)] <;> omega
theorem ld_2 (f e : Fin 1024) : View.ld x7 r0_39 (ix2 f e) = x7 (ix2 ⟨2048 + f.val, by omega⟩ e) :=
  View.ld_unit_apply_of x7 _ _ _ _ _ fun a => by fin_cases a <;> [(show 2048 + f.val = 2048 + f.val); (show e.val = 0 + e.val)] <;> omega
theorem ld_3 (f e : Fin 1024) : View.ld x7 r0_40 (ix2 f e) = x7 (ix2 ⟨3072 + f.val, by omega⟩ e) :=
  View.ld_unit_apply_of x7 _ _ _ _ _ fun a => by fin_cases a <;> [(show 3072 + f.val = 3072 + f.val); (show e.val = 0 + e.val)] <;> omega

variable {x0 x1 x2 x3 x4 x5 x6 x7 x8 x9 x10 x11} {gt a b : Fin 1024 → EReal} {gq gk : Fin 64 → EReal} (H : Cols x3 x5 x6 x10 x11 gt a b gq gk)
include H

theorem pay69_apply (e : Fin 1024) (i : Fin 256) : k0_pay69 x0 x1 x2 x3 x4 x5 x6 x7 x8 x9 x10 x11 (ix2 e i)
    = newX x0 x1 x2 x4 gt i e * Ideal.rsqrt ((∑ k, newX x0 x1 x2 x4 gt i k * newX x0 x1 x2 x4 gt i k) * c1024 + eps) := by
  unfold k0_pay69
  rw [View.ld_unit_lit _ x0 (by decide), View.ld_unit_lit _ x1 (by decide), View.ld_unit_lit _ x2 (by decide), View.ld_unit_lit _ x3 (by decide),
    View.ld_unit_lit _ x4 (by decide), pay4_apply]
  simp only [pay2_apply x0 x1 x2 x4 x3 gt H.ht]
  rfl
theorem pay70_apply (e : Fin 1024) (i : Fin 256) : k0_pay70 x0 x1 x2 x3 x4 x5 x6 x7 x8 x9 x10 x11 (ix2 e i) = hid (newX x0 x1 x2 x4 gt i) a b e := by
  unfold k0_pay70
  rw [View.ld_unit_lit _ x5 (by decide), View.ld_unit_lit _ x6 (by decide), pay5_apply _ _ _ a b H.ha H.hb, pay69_apply H]
  rfl
theorem pay73_apply (f : Fin 1024) (i : Fin 256) : k0_pay73 x0 x1 x2 x3 x4 x5 x6 x7 x8 x9 x10 x11 (ix2 f i) = newU x0 x1 x2 x4 x7 gt a b i ⟨f.val, by omega⟩ := by
  unfold k0_pay73
  rw [pay8_apply]
  refine Finset.sum_congr rfl fun e _ => congrArg₂ (· * ·) (pay70_apply H e i) (ld_0 x7 f e)
theorem pay74_apply (f : Fin 1024) (i : Fin 256) : k0_pay74 x0 x1 x2 x3 x4 x5 x6 x7 x8 x9 x10 x11 (ix2 f i) = newU x0 x1 x2 x4 x7 gt a b i ⟨1024 + f.val, by omega⟩ := by
  unfold k0_pay74
  rw [pay34_apply]
  refine Finset.sum_congr rfl fun e _ => congrArg₂ (· * ·) (pay70_apply H e i) (ld_1 x7 f e)

theorem out12_apply (e : Fin 1024) (i : Fin 256) : out0_12 x0 x1 x2 x3 x4 x5 x6 x7 x8 x9 x10 x11 (ix3 0 e i) = newX x0 x1 x2 x4 gt i e := by
  unfold out0_12
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide)]
  exact (pay3_apply _ _ _ _ _ e i).trans (pay2_apply x0 x1 x2 x4 x3 gt H.ht e i)
theorem out13_apply (h : Fin 16) (d : Fin 64) (i : Fin 256) : out0_13 x0 x1 x2 x3 x4 x5 x6 x7 x8 x9 x10 x11 (ix4 0 0 (ft h d) i)
    = headn (fun f => newU x0 x1 x2 x4 x7 gt a b i ⟨f.val, by omega⟩) gq h d := by
  rw [out13_eq, storeQ_head]
  refine congrArg₂ (fun u g => headn u g h d) (funext fun f => pay73_apply H f i) (funext fun d => ?_)
  unfold k0_pay71
  rw [View.ld_unit_lit _ x10 (by decide)]
  exact pay6_apply x10 gq H.hq d i
theorem out14_apply (h : Fin 16) (l : Fin 128) (i : Fin 256) : out0_14 x0 x1 x2 x3 x4 x5 x6 x7 x8 x9 x10 x11 (ix5 0 0 h i l)
    = if hl : l.val < 64 then headn (fun f => newU x0 x1 x2 x4 x7 gt a b i ⟨1024 + f.val, by omega⟩) gk h ⟨l.val, hl⟩ else 0 := by
  have hg : ∀ d, k0_pay72 x0 x1 x2 x3 x4 x5 x6 x7 x8 x9 x10 x11 (ix2 d i) = gk d := fun d => by
    unfold k0_pay72
    rw [View.ld_unit_lit _ x11 (by decide)]
    exact pay7_apply x11 gk H.hk d i
  rw [out14_eq]
  show (if hl : l.val < 64 then headn (fun f => k0_pay74 x0 x1 x2 x3 x4 x5 x6 x7 x8 x9 x10 x11 (ix2 f i)) (fun d => k0_pay72 x0 x1 x2 x3 x4 x5 x6 x7 x8 x9 x10 x11 (ix2 d i)) h ⟨l.val, hl⟩ else 0) = _
  simp only [pay74_apply H, hg]
theorem out15_apply (f : Fin 1024) (i : Fin 256) : out0_15 x0 x1 x2 x3 x4 x5 x6 x7 x8 x9 x10 x11 (ix4 0 0 f i) = newU x0 x1 x2 x4 x7 gt a b i ⟨2048 + f.val, by omega⟩ := by
  unfold out0_15
  rw [View.canon_cons_unit_lit _ _ _ (by decide), pay67_apply]
  refine Finset.sum_congr rfl fun e _ => congrArg₂ (· * ·) (pay70_apply H e i) (ld_2 x7 f e)
theorem out16_apply (f : Fin 1024) (i : Fin 256) : out0_16 x0 x1 x2 x3 x4 x5 x6 x7 x8 x9 x10 x11 (ix3 0 f i)
    = newU x0 x1 x2 x4 x7 gt a b i ⟨3072 + f.val, by omega⟩ * Ideal.logistic (newU x0 x1 x2 x4 x7 gt a b i ⟨3072 + f.val, by omega⟩) := by
  unfold out0_16
  rw [View.canon_cons_unit_lit _ _ _ (by decide), pay1_apply]
  have h : (∑ e, k0_pay70 x0 x1 x2 x3 x4 x5 x6 x7 x8 x9 x10 x11 (ix2 e i) * View.ld x7 r0_40 (ix2 f e)) = newU x0 x1 x2 x4 x7 gt a b i ⟨3072 + f.val, by omega⟩ :=
    Finset.sum_congr rfl fun e _ => congrArg₂ (· * ·) (pay70_apply H e i) (ld_3 x7 f e)
  rw [h]

end Cert.Proof.Proj
end
-- ==== Proof.ProjRef.lean ====
/-
  The output and input projections' reference at one token, in the terms the kernel's values are stated in.
-/
module

public import proofs.«01_k».proof.Proof.ProjBody
public import proofs.«01_k».proof.Proof.Gen.Reference3Ideal.Read

@[expose] public section

set_option maxRecDepth 16384

noncomputable section

namespace Cert.Proof.Proj

open Cert.Reference3Ideal Cert.Reference3Ideal.Gen Cert.Reference3Ideal.Read
open Idealize.ShloMosaic Idealize.ShloMosaic.TcCoe Idealize.ShloMosaic.Tactic

/-! ## The quotients -/

theorem div_1024 (x : EReal) : Ideal.div x (Ideal.ofBits .f32 0x44800000#32) = x * c1024 := by
  have h1 : Ideal.ofBits .f32 0x44800000#32 = ((1024 : ℝ) : EReal) := by simp [Ideal.ofBits, Ideal.ieee]; rw [← EReal.coe_mul]; norm_num
  have h2 : c1024 = (((1024 : ℝ)⁻¹ : ℝ) : EReal) := by simp [c1024, Ideal.ofBits, Ideal.ieee]; rw [← EReal.coe_mul]; norm_num
  rw [h1, h2, Ideal.div, if_neg (by norm_num), EReal.coe_inv]
theorem div_64 (x : EReal) : Ideal.div x (Ideal.ofBits .f32 0x42800000#32) = x * c64 := by
  have h1 : Ideal.ofBits .f32 0x42800000#32 = ((64 : ℝ) : EReal) := by simp [Ideal.ofBits, Ideal.ieee]; rw [← EReal.coe_mul]; norm_num
  have h2 : c64 = (((64 : ℝ)⁻¹ : ℝ) : EReal) := by simp [c64, Ideal.ofBits, Ideal.ieee]; rw [← EReal.coe_mul]; norm_num
  rw [h1, h2, Ideal.div, if_neg (by norm_num), EReal.coe_inv]
theorem bits_zero : Ideal.ofBits .f32 0x00000000#32 = 0 := by simp [Ideal.ofBits, Ideal.ieee]
theorem bits_one : Ideal.ofBits .f32 0x3F800000#32 = 1 := by simp [Ideal.ofBits, Ideal.ieee]; rw [← EReal.coe_mul]; norm_num

/-! ## The stages -/

/-- A vector of the token's: the context's for the first 256 tokens, the batch entry's for the others. -/
def sel (xb : FVec Ideal S8x1024 .f32) (xc : FVec Ideal S1024 .f32) (b : Fin 8) (T : Fin 4352) (e : Fin 1024) : EReal :=
  if T.val < 256 then xc (ix1 e) else xb (ix2 b e)

variable (x0 x1 x2 : FVec Ideal S8x4352x1024 .f32) (x3 : FVec Ideal S8x1024 .f32) (x4 : FVec Ideal S1024 .f32) (x5 : FVec Ideal S1024x1024 .f32)
  (x6 : FVec Ideal S1024 .f32) (x7 : FVec Ideal S8x1024 .f32) (x8 : FVec Ideal S1024 .f32) (x9 : FVec Ideal S8x1024 .f32) (x10 : FVec Ideal S1024 .f32)
  (x11 : FVec Ideal S1024x4096 .f32) (x12 x13 : FVec Ideal S64 .f32)

/-- The new residual of a token, -/
def refX (b : Fin 8) (T : Fin 4352) (e : Fin 1024) : EReal :=
  newx (fun k => x0 (ix3 b T k)) (fun k => x1 (ix3 b T k)) (fun k e => x5 (ix2 k e)) (sel x3 x4 b T) (fun e => x2 (ix3 b T e)) e
/-- its norm's gain, -/
def refA (b : Fin 8) (T : Fin 4352) (e : Fin 1024) : EReal := x6 (ix1 e) * (1 + sel x7 x8 b T e)
/-- and its projection. -/
def refU (b : Fin 8) (T : Fin 4352) (n : Fin 4096) : EReal :=
  up (hid (refX x0 x1 x2 x3 x4 x5 b T) (refA x6 x7 x8 b T) (sel x9 x10 b T)) (fun e n => x11 (ix2 e n)) n

theorem v3_apply (b : Fin 8) (T : Fin 4352) (e : Fin 1024) : val_main_v3 (F := Ideal) x3 x4 (ix3 b T e) = sel x3 x4 b T e := by
  unfold val_main_v3 val_main_v2 val_main_v1 val_main_v0 sel
  pointwise
  rfl
theorem v24_apply (b : Fin 8) (T : Fin 4352) (e : Fin 1024) : val_main_v24 (F := Ideal) x7 x8 (ix3 b T e) = sel x7 x8 b T e := by
  unfold val_main_v24 val_main_v23 val_main_v22 val_main_v21 sel
  pointwise
  rfl
theorem v31_apply (b : Fin 8) (T : Fin 4352) (e : Fin 1024) : val_main_v31 (F := Ideal) x9 x10 (ix3 b T e) = sel x9 x10 b T e := by
  unfold val_main_v31 val_main_v30 val_main_v29 val_main_v28 sel
  pointwise
  rfl
theorem v7_apply (b : Fin 8) (T : Fin 4352) (e : Fin 1024) : val_main_v7 (F := Ideal) x0 x1 x2 x3 x4 x5 (ix3 b T e) = refX x0 x1 x2 x3 x4 x5 b T e := by
  unfold refX newx
  rw [← v3_apply]
  unfold val_main_v7 val_main_v6 val_main_v5 val_main_v4
  generalize val_main_v3 (F := Ideal) x3 x4 = G
  pointwise
theorem v15_apply (b : Fin 8) (T : Fin 4352) : val_main_v15 (F := Ideal) x0 x1 x2 x3 x4 x5 (ix3 b T 0)
    = Ideal.rsqrt ((∑ k, refX x0 x1 x2 x3 x4 x5 b T k * refX x0 x1 x2 x3 x4 x5 b T k) * c1024 + eps) := by
  have h := v7_apply x0 x1 x2 x3 x4 x5 b T
  simp only [← h]
  rw [← div_1024]
  unfold val_main_v15 val_main_v14 val_main_v13 val_main_cst_1 val_main_v12 val_main_v11 val_main_cst_0 val_main_v10 val_main_v9 val_main_cst val_main_v8
  generalize val_main_v7 (F := Ideal) x0 x1 x2 x3 x4 x5 = X
  pointwise
theorem v32_apply (b : Fin 8) (T : Fin 4352) (e : Fin 1024) : val_main_v32 (F := Ideal) x0 x1 x2 x3 x4 x5 x6 x7 x8 x9 x10 (ix3 b T e)
    = hid (refX x0 x1 x2 x3 x4 x5 b T) (refA x6 x7 x8 b T) (sel x9 x10 b T) e := by
  unfold hid refA
  rw [← v15_apply, ← v7_apply, ← v31_apply x9 x10, ← v24_apply x7 x8, ← mul_assoc, ← bits_one]
  unfold val_main_v32 val_main_v27 val_main_v26 val_main_v25 val_main_cst_2 val_main_v20 val_main_v19 val_main_v18 val_main_v17 val_main_v16
  generalize val_main_v7 (F := Ideal) x0 x1 x2 x3 x4 x5 = X
  generalize val_main_v15 (F := Ideal) x0 x1 x2 x3 x4 x5 = Y
  generalize val_main_v24 (F := Ideal) x7 x8 = Z
  generalize val_main_v31 (F := Ideal) x9 x10 = W
  pointwise
theorem v33_apply (b : Fin 8) (T : Fin 4352) (n : Fin 4096) : val_main_v33 (F := Ideal) x0 x1 x2 x3 x4 x5 x6 x7 x8 x9 x10 x11 (ix3 b T n) = refU x0 x1 x2 x3 x4 x5 x6 x7 x8 x9 x10 x11 b T n := by
  unfold refU up
  simp only [← v32_apply]
  unfold val_main_v33
  generalize val_main_v32 (F := Ideal) x0 x1 x2 x3 x4 x5 x6 x7 x8 x9 x10 = H
  pointwise

theorem v71_apply (b : Fin 8) (e : Fin 1024) (T : Fin 4352) : val_main_v71 (F := Ideal) x0 x1 x2 x3 x4 x5 (ix3 b e T) = refX x0 x1 x2 x3 x4 x5 b T e := by
  rw [← v7_apply]
  unfold val_main_v71
  generalize val_main_v7 (F := Ideal) x0 x1 x2 x3 x4 x5 = X
  pointwise
theorem v80_apply (b : Fin 8) (e : Fin 1024) (T : Fin 4352) : val_main_v80 (F := Ideal) x0 x1 x2 x3 x4 x5 x6 x7 x8 x9 x10 x11 (ix3 b e T)
    = refU x0 x1 x2 x3 x4 x5 x6 x7 x8 x9 x10 x11 b T ⟨3072 + e.val, by omega⟩ * Ideal.logistic (refU x0 x1 x2 x3 x4 x5 x6 x7 x8 x9 x10 x11 b T ⟨3072 + e.val, by omega⟩) := by
  rw [← v33_apply]
  unfold Ideal.logistic val_main_v80 val_main_v79 val_main_v78 val_main_call0_v5 val_main_call0_v4 val_main_call0_v3 val_main_call0_v2 val_main_call0_v1 val_main_call0_v0
    val_main_call0_cst val_main_call0_cst_0 val_main_v37
  rw [← bits_one]
  generalize val_main_v33 (F := Ideal) x0 x1 x2 x3 x4 x5 x6 x7 x8 x9 x10 x11 = U
  pointwise

theorem v77_apply (b : Fin 8) (t : Fin 17) (e : Fin 1024) (i : Fin 256) : val_main_v77 (F := Ideal) x0 x1 x2 x3 x4 x5 x6 x7 x8 x9 x10 x11 (ix4 b t e i)
    = refU x0 x1 x2 x3 x4 x5 x6 x7 x8 x9 x10 x11 b ⟨256 * t.val + i.val, by omega⟩ ⟨2048 + e.val, by omega⟩ := by
  rw [← v33_apply]
  refine (show val_main_v77 (F := Ideal) x0 x1 x2 x3 x4 x5 x6 x7 x8 x9 x10 x11 (ix4 b t e i) = val_main_v76 (F := Ideal) x0 x1 x2 x3 x4 x5 x6 x7 x8 x9 x10 x11 (ix4 b t e i) from rfl).trans ?_
  unfold val_main_v76
  refine (transpose_apply _ _ _ (ix4 b t e i) (ix4 b t i e) fun a => ?_).trans ?_
  · fin_cases a <;> rfl
  unfold val_main_v75
  refine (shapeCast_apply _ _ _ (ix3 b ⟨256 * t.val + i.val, by omega⟩ e) ?_).trans ?_
  · rw [Shape.rowMajor_val_three, Shape.rowMajor_val_four]
    show (b.val * 4352 + (256 * t.val + i.val)) * 1024 + e.val = ((b.val * 17 + t.val) * 256 + i.val) * 1024 + e.val
    omega
  unfold val_main_v36
  generalize val_main_v33 (F := Ideal) x0 x1 x2 x3 x4 x5 x6 x7 x8 x9 x10 x11 = U
  pointwise

/-- A head's norm of the reference, over the array it norms. -/
theorem v51_apply (b : Fin 8) (T : Fin 4352) (h : Fin 16) (d : Fin 64) : val_main_v51 (F := Ideal) x0 x1 x2 x3 x4 x5 x6 x7 x8 x9 x10 x11 x12 (ix4 b T h d)
    = headn (fun f => refU x0 x1 x2 x3 x4 x5 x6 x7 x8 x9 x10 x11 b T ⟨f.val, by omega⟩) (fun d => x12 (ix1 d)) h d := by
  have hm : ft h = fun d => ⟨h.val * 64 + d.val, by omega⟩ := funext fun d => Fin.ext (by show 64 * h.val + d.val = h.val * 64 + d.val; omega)
  unfold headn
  rw [hm]
  simp only [← v33_apply]
  rw [← div_64]
  unfold val_main_v51 val_main_v50 val_main_v49 val_main_v48 val_main_v47 val_main_v46 val_main_v45 val_main_v44 val_main_cst_5 val_main_v43 val_main_v42 val_main_cst_4
    val_main_v41 val_main_v40 val_main_cst_3 val_main_v39 val_main_v38 val_main_v34
  generalize val_main_v33 (F := Ideal) x0 x1 x2 x3 x4 x5 x6 x7 x8 x9 x10 x11 = U
  pointwise
theorem v65_apply (b : Fin 8) (T : Fin 4352) (h : Fin 16) (d : Fin 64) : val_main_v65 (F := Ideal) x0 x1 x2 x3 x4 x5 x6 x7 x8 x9 x10 x11 x13 (ix4 b T h d)
    = headn (fun f => refU x0 x1 x2 x3 x4 x5 x6 x7 x8 x9 x10 x11 b T ⟨1024 + f.val, by omega⟩) (fun d => x13 (ix1 d)) h d := by
  have hm : ft h = fun d => ⟨h.val * 64 + d.val, by omega⟩ := funext fun d => Fin.ext (by show 64 * h.val + d.val = h.val * 64 + d.val; omega)
  unfold headn
  rw [hm]
  simp only [← v33_apply]
  rw [← div_64]
  unfold val_main_v65 val_main_v64 val_main_v63 val_main_v62 val_main_v61 val_main_v60 val_main_v59 val_main_v58 val_main_cst_8 val_main_v57 val_main_v56 val_main_cst_7
    val_main_v55 val_main_v54 val_main_cst_6 val_main_v53 val_main_v52 val_main_v35
  generalize val_main_v33 (F := Ideal) x0 x1 x2 x3 x4 x5 x6 x7 x8 x9 x10 x11 = U
  pointwise

theorem v74_apply (b : Fin 8) (t : Fin 17) (h : Fin 16) (d : Fin 64) (i : Fin 256) : val_main_v74 (F := Ideal) x0 x1 x2 x3 x4 x5 x6 x7 x8 x9 x10 x11 x12 (ix4 b t (ft h d) i)
    = headn (fun f => refU x0 x1 x2 x3 x4 x5 x6 x7 x8 x9 x10 x11 b ⟨256 * t.val + i.val, by omega⟩ ⟨f.val, by omega⟩) (fun d => x12 (ix1 d)) h d := by
  rw [← v51_apply]
  refine (show val_main_v74 (F := Ideal) x0 x1 x2 x3 x4 x5 x6 x7 x8 x9 x10 x11 x12 (ix4 b t (ft h d) i) = val_main_v73 (F := Ideal) x0 x1 x2 x3 x4 x5 x6 x7 x8 x9 x10 x11 x12 (ix4 b t (ft h d) i) from rfl).trans ?_
  unfold val_main_v73
  refine (transpose_apply _ _ _ (ix4 b t (ft h d) i) (ix4 b t i (ft h d)) fun a => ?_).trans ?_
  · fin_cases a <;> rfl
  unfold val_main_v72
  refine shapeCast_apply _ _ _ (ix4 b ⟨256 * t.val + i.val, by omega⟩ h d) ?_
  rw [Shape.rowMajor_val_four, Shape.rowMajor_val_four]
  show ((b.val * 4352 + (256 * t.val + i.val)) * 16 + h.val) * 64 + d.val = ((b.val * 17 + t.val) * 256 + i.val) * 1024 + (64 * h.val + d.val)
  omega
theorem v67_apply (b : Fin 8) (t : Fin 17) (h : Fin 16) (i : Fin 256) (d : Fin 64) : val_main_v67 (F := Ideal) x0 x1 x2 x3 x4 x5 x6 x7 x8 x9 x10 x11 x13 (ix5 b t h i d)
    = headn (fun f => refU x0 x1 x2 x3 x4 x5 x6 x7 x8 x9 x10 x11 b ⟨256 * t.val + i.val, by omega⟩ ⟨1024 + f.val, by omega⟩) (fun d => x13 (ix1 d)) h d := by
  rw [← v65_apply]
  unfold val_main_v67
  refine (transpose_apply _ _ _ (ix5 b t h i d) (ix5 b t i h d) fun a => ?_).trans ?_
  · fin_cases a <;> rfl
  unfold val_main_v66
  refine shapeCast_apply _ _ _ (ix4 b ⟨256 * t.val + i.val, by omega⟩ h d) ?_
  rw [Shape.rowMajor_val_four, Shape.rowMajor_val_five]
  show ((b.val * 4352 + (256 * t.val + i.val)) * 16 + h.val) * 64 + d.val = (((b.val * 17 + t.val) * 256 + i.val) * 16 + h.val) * 64 + d.val
  omega
theorem v70_apply (b : Fin 8) (t : Fin 17) (h : Fin 16) (i : Fin 256) (l : Fin 128) : val_main_v70 (F := Ideal) x0 x1 x2 x3 x4 x5 x6 x7 x8 x9 x10 x11 x13 (ix5 b t h i l)
    = if hl : l.val < 64 then headn (fun f => refU x0 x1 x2 x3 x4 x5 x6 x7 x8 x9 x10 x11 b ⟨256 * t.val + i.val, by omega⟩ ⟨1024 + f.val, by omega⟩) (fun d => x13 (ix1 d)) h ⟨l.val, hl⟩ else 0 := by
  simp only [← v67_apply]
  unfold val_main_v70 val_main_v69 val_main_v68 val_main_cst_9
  rw [← bits_zero]
  generalize val_main_v67 (F := Ideal) x0 x1 x2 x3 x4 x5 x6 x7 x8 x9 x10 x11 x13 = K
  pointwise

end Cert.Proof.Proj
end
-- ==== Proof.Proj.lean ====
/-
  The output and input projections over extended reals: each token's new residual, and its queries, keys, values and
  gate, are the reference's.
-/
module

public import proofs.«01_k».proof.Defs
public import proofs.«01_k».proof.Proof.ProjRef
public import proofs.«01_k».proof.Proof.Gen.Kernel3
public import Idealize.ShloMosaic.Lib.Claim

@[expose] public section

set_option maxRecDepth 16384

noncomputable section

namespace Cert.Proof.Proj

open Cert.Kernel3Ideal Cert.Kernel3Ideal.Gen
open Idealize.ShloMosaic Idealize.ShloMosaic.TcCoe Idealize.ShloMosaic.Tactic
open Idealize.SL.Sem

/-! ## The arrays the windows read -/

def hostO (x0 : FVec Ideal S8x4352x1024 .f32) : FVec Ideal S8x17x1024x256 .bf16 :=
  truncf .bf16 (transpose S8x17x1024x256 [0, 1, 3, 2] (shapeCast S8x17x256x1024 x0 shapeCasts_S8x4352x1024_S8x17x256x1024)
    transposes_S8x17x256x1024_S8x17x1024x256_0_1_3_2) bitsLt_bf16_f32
def hostT (x1 : FVec Ideal S8x4352x1024 .f32) : FVec Ideal S8x1024x4352 .f32 :=
  transpose S8x1024x4352 [0, 2, 1] x1 transposes_S8x4352x1024_S8x1024x4352_0_2_1
def hostG (x1 : FVec Ideal S8x4352x1024 .f32) : FVec Ideal S8x1024x4352 .bf16 := truncf .bf16 (hostT x1) bitsLt_bf16_f32
def hostW (x5 : FVec Ideal S1024x1024 .f32) : FVec Ideal S1024x1024 .bf16 :=
  truncf .bf16 (transpose S1024x1024 [1, 0] x5 transposes_S1024x1024_S1024x1024_1_0) bitsLt_bf16_f32
def hostV (x11 : FVec Ideal S1024x4096 .f32) : FVec Ideal S4096x1024 .bf16 :=
  truncf .bf16 (transpose S4096x1024 [1, 0] x11 transposes_S1024x4096_S4096x1024_1_0) bitsLt_bf16_f32
/-- The batch entries' rows, and the context's under them -/
def rows9 (xb : FVec Ideal S8x1024 .f32) (xc : FVec Ideal S1024 .f32) : FVec Ideal S9x1024 .f32 :=
  concatenate S9x1024 0 [⟨S8x1024, xb⟩, ⟨S1x1024, broadcastInDim S1x1024 ![1] bcast_S1024_S1x1024_1 xc⟩] concatenates_S8x1024_S1x1024_S9x1024_d0
/-- as columns. -/
def cols9 (x : FVec Ideal S9x1024 .f32) : FVec Ideal S9x1024x128 .f32 :=
  broadcastInDim S9x1024x128 ![0, 1, 2] bcast_S9x1024x1_S9x1024x128_0_1_2 (broadcastInDim S9x1024x1 ![0, 1] bcast_S9x1024_S9x1024x1_0_1 x)
def gain9 (x6 : FVec Ideal S1024 .f32) (xb : FVec Ideal S8x1024 .f32) (xc : FVec Ideal S1024 .f32) : FVec Ideal S9x1024 .f32 :=
  mulf (broadcastInDim S9x1024 ![0, 1] bcast_S1x1024_S9x1024_0_1 (broadcastInDim S1x1024 ![1] bcast_S1024_S1x1024_1 x6))
    (addf (broadcastInDim S9x1024 ![] bcast_S_S9x1024 (constant (F := Ideal) S_ .f32 0x3F800000#32)) (rows9 xb xc))
def hostN (x : FVec Ideal S64 .f32) : FVec Ideal S64x128 .f32 :=
  broadcastInDim S64x128 ![0, 1] bcast_S64x1_S64x128_0_1 (broadcastInDim S64x1 ![0] bcast_S64_S64x1_0 x)

theorem truncf_val {s : Shape} (x : FVec Ideal s .f32) (h : FTy.bf16.bits < FTy.f32.bits) (i : s.Idx) : truncf (F := Ideal) .bf16 x h i = x i := rfl

theorem hostO_apply (x0 : FVec Ideal S8x4352x1024 .f32) (b : Fin 8) (t : Fin 17) (f : Fin 1024) (i : Fin 256) :
    hostO x0 (ix4 b t f i) = x0 (ix3 b ⟨256 * t.val + i.val, by omega⟩ f) := by
  unfold hostO
  rw [truncf_val]
  refine (transpose_apply _ _ _ (ix4 b t f i) (ix4 b t i f) fun a => ?_).trans ?_
  · fin_cases a <;> rfl
  · refine shapeCast_apply _ _ _ _ ?_
    rw [Shape.rowMajor_val_three, Shape.rowMajor_val_four]
    show (b.val * 4352 + (256 * t.val + i.val)) * 1024 + f.val = ((b.val * 17 + t.val) * 256 + i.val) * 1024 + f.val
    omega
theorem hostT_apply (x1 : FVec Ideal S8x4352x1024 .f32) (b : Fin 8) (f : Fin 1024) (T : Fin 4352) : hostT x1 (ix3 b f T) = x1 (ix3 b T f) := by
  unfold hostT
  exact transpose_apply _ _ _ (ix3 b f T) (ix3 b T f) fun a => by fin_cases a <;> rfl
theorem hostG_apply (x1 : FVec Ideal S8x4352x1024 .f32) (b : Fin 8) (f : Fin 1024) (T : Fin 4352) : hostG x1 (ix3 b f T) = x1 (ix3 b T f) :=
  hostT_apply x1 b f T
theorem hostW_apply (x5 : FVec Ideal S1024x1024 .f32) (f k : Fin 1024) : hostW x5 (ix2 f k) = x5 (ix2 k f) := by
  unfold hostW
  exact transpose_apply _ _ _ (ix2 f k) (ix2 k f) fun a => by fin_cases a <;> rfl
theorem hostV_apply (x11 : FVec Ideal S1024x4096 .f32) (n : Fin 4096) (e : Fin 1024) : hostV x11 (ix2 n e) = x11 (ix2 e n) := by
  unfold hostV
  exact transpose_apply _ _ _ (ix2 n e) (ix2 e n) fun a => by fin_cases a <;> rfl
theorem rows9_apply (xb : FVec Ideal S8x1024 .f32) (xc : FVec Ideal S1024 .f32) (r : Fin 9) (e : Fin 1024) :
    rows9 xb xc (ix2 r e) = if h : r.val < 8 then xb (ix2 ⟨r.val, h⟩ e) else xc (ix1 e) := by
  unfold rows9
  pointwise
theorem cols9_apply (x : FVec Ideal S9x1024 .f32) (r : Fin 9) (e : Fin 1024) (l : Fin 128) : cols9 x (ix3 r e l) = x (ix2 r e) := by
  unfold cols9
  pointwise
theorem gain9_apply (x6 : FVec Ideal S1024 .f32) (xb : FVec Ideal S8x1024 .f32) (xc : FVec Ideal S1024 .f32) (r : Fin 9) (e : Fin 1024) :
    gain9 x6 xb xc (ix2 r e) = x6 (ix1 e) * (1 + rows9 xb xc (ix2 r e)) := by
  rw [← bits_one]
  unfold gain9
  generalize rows9 xb xc = R
  pointwise
theorem hostN_apply (x : FVec Ideal S64 .f32) (d : Fin 64) (l : Fin 128) : hostN x (ix2 d l) = x (ix1 d) := by
  unfold hostN
  pointwise

variable (m : (ℓ : Loc nD τ sig) → Buf (Elt Ideal) ℓ) (c : Dev nD)

theorem V_v22 : V m c main_v22 = hostO (m ((c : Thread nD τ).loc main_arg0)) := by
  unfold V hostOps0
  after_results
  rfl
theorem V_v24 : V m c main_v24 = hostG (m ((c : Thread nD τ).loc main_arg1)) := by
  unfold V hostOps0
  after_results
  rfl
theorem V_v26 : V m c main_v26 = hostW (m ((c : Thread nD τ).loc main_arg5)) := by
  unfold V hostOps0
  after_results
  rfl
theorem V_v30 : V m c main_v30 = cols9 (rows9 (m ((c : Thread nD τ).loc main_arg3)) (m ((c : Thread nD τ).loc main_arg4))) := by
  unfold V hostOps0
  after_results
  rfl
theorem V_v31 : V m c main_v31 = hostT (m ((c : Thread nD τ).loc main_arg2)) := by
  unfold V hostOps0
  after_results
  rfl
theorem V_v9 : V m c main_v9 = cols9 (gain9 (m ((c : Thread nD τ).loc main_arg6)) (m ((c : Thread nD τ).loc main_arg7)) (m ((c : Thread nD τ).loc main_arg8))) := by
  unfold V hostOps0
  after_results
  rfl
theorem V_v13 : V m c main_v13 = cols9 (rows9 (m ((c : Thread nD τ).loc main_arg9)) (m ((c : Thread nD τ).loc main_arg10))) := by
  unfold V hostOps0
  after_results
  rfl
theorem V_v15 : V m c main_v15 = hostV (m ((c : Thread nD τ).loc main_arg11)) := by
  unfold V hostOps0
  after_results
  rfl
theorem V_v17 : V m c main_v17 = hostN (m ((c : Thread nD τ).loc main_arg12)) := by
  unfold V hostOps0
  after_results
  rfl
theorem V_v19 : V m c main_v19 = hostN (m ((c : Thread nD τ).loc main_arg13)) := by
  unfold V hostOps0
  after_results
  rfl

/-! ## The windows' blocks -/

/-- The batch entry of a grid point, -/
def ptB (t : Fin cfg0.N) : Fin 8 := grid0.coords t 0
/-- its tile of tokens, -/
def ptJ (t : Fin cfg0.N) : Fin 17 := grid0.coords t 1
/-- the row of its gains: the context's for the first tile. -/
def ptR (t : Fin cfg0.N) : Fin 9 := if (ptJ t).val = 0 then 8 else ⟨(ptB t).val, by omega⟩
/-- The token of a tile's place. -/
def tok (j : Fin 17) (i : Fin 256) : Fin 4352 := ⟨256 * j.val + i.val, by omega⟩

theorem index_0 : ∀ t : Fin cfg0.N, win0_0.index t = ![(ptB t).val, (ptJ t).val, 0, 0] := (by decide +kernel : ∀ t : Fin grid0.N, _)
theorem index_1 : ∀ t : Fin cfg0.N, win0_1.index t = ![(ptB t).val, 0, (ptJ t).val] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![(ptR t).val, 0, 0] := (by decide +kernel : ∀ t : Fin grid0.N, _)
theorem index_4 : ∀ t : Fin cfg0.N, win0_4.index t = ![(ptB t).val, 0, (ptJ t).val] := (by decide +kernel : ∀ t : Fin grid0.N, _)
theorem index_5 : ∀ t : Fin cfg0.N, win0_5.index t = ![(ptR t).val, 0, 0] := (by decide +kernel : ∀ t : Fin grid0.N, _)
theorem index_6 : ∀ t : Fin cfg0.N, win0_6.index t = ![(ptR t).val, 0, 0] := (by decide +kernel : ∀ t : Fin grid0.N, _)
theorem index_7 : ∀ t : Fin cfg0.N, win0_7.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![(ptB t).val, 0, (ptJ t).val] := (by decide +kernel : ∀ t : Fin grid0.N, _)
theorem index_13 : ∀ t : Fin cfg0.N, win0_13.index t = ![(ptB t).val, (ptJ t).val, 0, 0] := (by decide +kernel : ∀ t : Fin grid0.N, _)
theorem index_14 : ∀ t : Fin cfg0.N, win0_14.index t = ![(ptB t).val, (ptJ t).val, 0, 0, 0] := (by decide +kernel : ∀ t : Fin grid0.N, _)
theorem index_15 : ∀ t : Fin cfg0.N, win0_15.index t = ![(ptB t).val, (ptJ t).val, 0, 0] := (by decide +kernel : ∀ t : Fin grid0.N, _)
theorem index_16 : ∀ t : Fin cfg0.N, win0_16.index t = ![(ptB t).val, 0, (ptJ t).val] := (by decide +kernel : ∀ t : Fin grid0.N, _)

theorem rd_0 (t : Fin cfg0.N) (A : S8x17x1024x256.Idx → Ideal .bf16) (f : Fin 1024) (i : Fin 256) :
    (((cfg0.win 0).blk t).view.read (Elt Ideal) A : S1x1x1024x256.Idx → Ideal .bf16) (ix4 0 0 f i) = A (ix4 (ptB t) (ptJ t) f i) := by
  rw [View.read_apply]
  refine (cast_eq _ _).trans (congrArg A ?_)
  blk_ext [index_0 t]
theorem rd_1 (t : Fin cfg0.N) (A : S8x1024x4352.Idx → Ideal .bf16) (f : Fin 1024) (i : Fin 256) :
    (((cfg0.win 1).blk t).view.read (Elt Ideal) A : S1x1024x256.Idx → Ideal .bf16) (ix3 0 f i) = A (ix3 (ptB t) f ⟨256 * (ptJ t).val + i.val, by omega⟩) := by
  rw [View.read_apply]
  refine (cast_eq _ _).trans (congrArg A ?_)
  blk_ext [index_1 t]
theorem rd_2 (t : Fin cfg0.N) (A : S1024x1024.Idx → Ideal .bf16) (f k : Fin 1024) :
    (((cfg0.win 2).blk t).view.read (Elt Ideal) A : S1024x1024.Idx → Ideal .bf16) (ix2 f k) = A (ix2 f k) := by
  rw [View.read_apply]
  refine (cast_eq _ _).trans (congrArg A ?_)
  blk_ext [index_2 t]
theorem rd_3 (t : Fin cfg0.N) (A : S9x1024x128.Idx → Ideal .f32) (f : Fin 1024) (l : Fin 128) :
    (((cfg0.win 3).blk t).view.read (Elt Ideal) A : S1x1024x128.Idx → Ideal .f32) (ix3 0 f l) = A (ix3 (ptR t) f l) := by
  rw [View.read_apply]
  refine (cast_eq _ _).trans (congrArg A ?_)
  blk_ext [index_3 t]
theorem rd_4 (t : Fin cfg0.N) (A : S8x1024x4352.Idx → Ideal .f32) (f : Fin 1024) (i : Fin 256) :
    (((cfg0.win 4).blk t).view.read (Elt Ideal) A : S1x1024x256.Idx → Ideal .f32) (ix3 0 f i) = A (ix3 (ptB t) f ⟨256 * (ptJ t).val + i.val, by omega⟩) := by
  rw [View.read_apply]
  refine (cast_eq _ _).trans (congrArg A ?_)
  blk_ext [index_4 t]
theorem rd_5 (t : Fin cfg0.N) (A : S9x1024x128.Idx → Ideal .f32) (f : Fin 1024) (l : Fin 128) :
    (((cfg0.win 5).blk t).view.read (Elt Ideal) A : S1x1024x128.Idx → Ideal .f32) (ix3 0 f l) = A (ix3 (ptR t) f l) := by
  rw [View.read_apply]
  refine (cast_eq _ _).trans (congrArg A ?_)
  blk_ext [index_5 t]
theorem rd_6 (t : Fin cfg0.N) (A : S9x1024x128.Idx → Ideal .f32) (f : Fin 1024) (l : Fin 128) :
    (((cfg0.win 6).blk t).view.read (Elt Ideal) A : S1x1024x128.Idx → Ideal .f32) (ix3 0 f l) = A (ix3 (ptR t) f l) := by
  rw [View.read_apply]
  refine (cast_eq _ _).trans (congrArg A ?_)
  blk_ext [index_6 t]
theorem rd_7 (t : Fin cfg0.N) (A : S4096x1024.Idx → Ideal .bf16) (n : Fin 4096) (k : Fin 1024) :
    (((cfg0.win 7).blk t).view.read (Elt Ideal) A : S4096x1024.Idx → Ideal .bf16) (ix2 n k) = A (ix2 n k) := by
  rw [View.read_apply]
  refine (cast_eq _ _).trans (congrArg A ?_)
  blk_ext [index_7 t]
theorem rd_10 (t : Fin cfg0.N) (A : S64x128.Idx → Ideal .f32) (d : Fin 64) (l : Fin 128) :
    (((cfg0.win 10).blk t).view.read (Elt Ideal) A : S64x128.Idx → Ideal .f32) (ix2 d l) = A (ix2 d l) := by
  rw [View.read_apply]
  refine (cast_eq _ _).trans (congrArg A ?_)
  blk_ext [index_10 t]
theorem rd_11 (t : Fin cfg0.N) (A : S64x128.Idx → Ideal .f32) (d : Fin 64) (l : Fin 128) :
    (((cfg0.win 11).blk t).view.read (Elt Ideal) A : S64x128.Idx → Ideal .f32) (ix2 d l) = A (ix2 d l) := by
  rw [View.read_apply]
  refine (cast_eq _ _).trans (congrArg A ?_)
  blk_ext [index_11 t]
theorem emb_12 (t : Fin cfg0.N) (f : Fin 1024) (i : Fin 256) :
    (((cfg0.win 12).blk t).view.emb (ix3 0 f i : S1x1024x256.Idx) : S8x1024x4352.Idx) = ix3 (ptB t) f ⟨256 * (ptJ t).val + i.val, by omega⟩ := by
  blk_ext [index_12 t]
theorem covers_12 : win0_12.Covers := by decide +kernel
theorem emb_13 (t : Fin cfg0.N) (f : Fin 1024) (i : Fin 256) :
    (((cfg0.win 13).blk t).view.emb (ix4 0 0 f i : S1x1x1024x256.Idx) : S8x17x1024x256.Idx) = ix4 (ptB t) (ptJ t) f i := by
  blk_ext [index_13 t]
theorem covers_13 : win0_13.Covers := by decide +kernel
theorem emb_14 (t : Fin cfg0.N) (h : Fin 16) (i : Fin 256) (l : Fin 128) :
    (((cfg0.win 14).blk t).view.emb (ix5 0 0 h i l : S1x1x16x256x128.Idx) : S8x17x16x256x128.Idx) = ix5 (ptB t) (ptJ t) h i l := by
  blk_ext [index_14 t]
theorem covers_14 : win0_14.Covers := by decide +kernel
theorem emb_15 (t : Fin cfg0.N) (f : Fin 1024) (i : Fin 256) :
    (((cfg0.win 15).blk t).view.emb (ix4 0 0 f i : S1x1x1024x256.Idx) : S8x17x1024x256.Idx) = ix4 (ptB t) (ptJ t) f i := by
  blk_ext [index_15 t]
theorem covers_15 : win0_15.Covers := by decide +kernel
theorem emb_16 (t : Fin cfg0.N) (f : Fin 1024) (i : Fin 256) :
    (((cfg0.win 16).blk t).view.emb (ix3 0 f i : S1x1024x256.Idx) : S8x1024x4352.Idx) = ix3 (ptB t) f ⟨256 * (ptJ t).val + i.val, by omega⟩ := by
  blk_ext [index_16 t]
theorem covers_16 : win0_16.Covers := by decide +kernel

/-! ## The arguments -/

abbrev A0 : FVec Ideal S8x4352x1024 .f32 := m ((c : Thread nD τ).loc main_arg0)
abbrev A1 : FVec Ideal S8x4352x1024 .f32 := m ((c : Thread nD τ).loc main_arg1)
abbrev A2 : FVec Ideal S8x4352x1024 .f32 := m ((c : Thread nD τ).loc main_arg2)
abbrev A3 : FVec Ideal S8x1024 .f32 := m ((c : Thread nD τ).loc main_arg3)
abbrev A4 : FVec Ideal S1024 .f32 := m ((c : Thread nD τ).loc main_arg4)
abbrev A5 : FVec Ideal S1024x1024 .f32 := m ((c : Thread nD τ).loc main_arg5)
abbrev A6 : FVec Ideal S1024 .f32 := m ((c : Thread nD τ).loc main_arg6)
abbrev A7 : FVec Ideal S8x1024 .f32 := m ((c : Thread nD τ).loc main_arg7)
abbrev A8 : FVec Ideal S1024 .f32 := m ((c : Thread nD τ).loc main_arg8)
abbrev A9 : FVec Ideal S8x1024 .f32 := m ((c : Thread nD τ).loc main_arg9)
abbrev A10 : FVec Ideal S1024 .f32 := m ((c : Thread nD τ).loc main_arg10)
abbrev A11 : FVec Ideal S1024x4096 .f32 := m ((c : Thread nD τ).loc main_arg11)
abbrev A12 : FVec Ideal S64 .f32 := m ((c : Thread nD τ).loc main_arg12)
abbrev A13 : FVec Ideal S64 .f32 := m ((c : Thread nD τ).loc main_arg13)

theorem iblk_0 (t : Fin cfg0.N) : (iblk m c 0 t : S1x1x1024x256.Idx → Ideal .bf16) = ((cfg0.win 0).blk t).view.read (Elt Ideal) (hostO (A0 m c)) :=
  congrArg (((cfg0.win 0).blk t).view.read (Elt Ideal)) (V_v22 m c)
theorem iblk_1 (t : Fin cfg0.N) : (iblk m c 1 t : S1x1024x256.Idx → Ideal .bf16) = ((cfg0.win 1).blk t).view.read (Elt Ideal) (hostG (A1 m c)) :=
  congrArg (((cfg0.win 1).blk t).view.read (Elt Ideal)) (V_v24 m c)
theorem iblk_2 (t : Fin cfg0.N) : (iblk m c 2 t : S1024x1024.Idx → Ideal .bf16) = ((cfg0.win 2).blk t).view.read (Elt Ideal) (hostW (A5 m c)) :=
  congrArg (((cfg0.win 2).blk t).view.read (Elt Ideal)) (V_v26 m c)
theorem iblk_3 (t : Fin cfg0.N) : (iblk m c 3 t : S1x1024x128.Idx → Ideal .f32) = ((cfg0.win 3).blk t).view.read (Elt Ideal) (cols9 (rows9 (A3 m c) (A4 m c))) :=
  congrArg (((cfg0.win 3).blk t).view.read (Elt Ideal)) (V_v30 m c)
theorem iblk_4 (t : Fin cfg0.N) : (iblk m c 4 t : S1x1024x256.Idx → Ideal .f32) = ((cfg0.win 4).blk t).view.read (Elt Ideal) (hostT (A2 m c)) :=
  congrArg (((cfg0.win 4).blk t).view.read (Elt Ideal)) (V_v31 m c)
theorem iblk_5 (t : Fin cfg0.N) : (iblk m c 5 t : S1x1024x128.Idx → Ideal .f32) = ((cfg0.win 5).blk t).view.read (Elt Ideal) (cols9 (gain9 (A6 m c) (A7 m c) (A8 m c))) :=
  congrArg (((cfg0.win 5).blk t).view.read (Elt Ideal)) (V_v9 m c)
theorem iblk_6 (t : Fin cfg0.N) : (iblk m c 6 t : S1x1024x128.Idx → Ideal .f32) = ((cfg0.win 6).blk t).view.read (Elt Ideal) (cols9 (rows9 (A9 m c) (A10 m c))) :=
  congrArg (((cfg0.win 6).blk t).view.read (Elt Ideal)) (V_v13 m c)
theorem iblk_7 (t : Fin cfg0.N) : (iblk m c 7 t : S4096x1024.Idx → Ideal .bf16) = ((cfg0.win 7).blk t).view.read (Elt Ideal) (hostV (A11 m c)) :=
  congrArg (((cfg0.win 7).blk t).view.read (Elt Ideal)) (V_v15 m c)
theorem iblk_10 (t : Fin cfg0.N) : (iblk m c 10 t : S64x128.Idx → Ideal .f32) = ((cfg0.win 10).blk t).view.read (Elt Ideal) (hostN (A12 m c)) :=
  congrArg (((cfg0.win 10).blk t).view.read (Elt Ideal)) (V_v17 m c)
theorem iblk_11 (t : Fin cfg0.N) : (iblk m c 11 t : S64x128.Idx → Ideal .f32) = ((cfg0.win 11).blk t).view.read (Elt Ideal) (hostN (A13 m c)) :=
  congrArg (((cfg0.win 11).blk t).view.read (Elt Ideal)) (V_v19 m c)
theorem blk_0 (t : Fin cfg0.N) (f : Fin 1024) (i : Fin 256) : (iblk m c 0 t : S1x1x1024x256.Idx → Ideal .bf16) (ix4 0 0 f i) = A0 m c (ix3 (ptB t) (tok (ptJ t) i) f) := by
  rw [iblk_0, rd_0, hostO_apply]; rfl
theorem blk_1 (t : Fin cfg0.N) (f : Fin 1024) (i : Fin 256) : (iblk m c 1 t : S1x1024x256.Idx → Ideal .bf16) (ix3 0 f i) = A1 m c (ix3 (ptB t) (tok (ptJ t) i) f) := by
  rw [iblk_1, rd_1, hostG_apply]; rfl
theorem blk_2 (t : Fin cfg0.N) (f k : Fin 1024) : (iblk m c 2 t : S1024x1024.Idx → Ideal .bf16) (ix2 f k) = A5 m c (ix2 k f) := by
  rw [iblk_2, rd_2, hostW_apply]
theorem blk_4 (t : Fin cfg0.N) (f : Fin 1024) (i : Fin 256) : (iblk m c 4 t : S1x1024x256.Idx → Ideal .f32) (ix3 0 f i) = A2 m c (ix3 (ptB t) (tok (ptJ t) i) f) := by
  rw [iblk_4, rd_4, hostT_apply]; rfl
theorem blk_7 (t : Fin cfg0.N) (n : Fin 4096) (e : Fin 1024) : (iblk m c 7 t : S4096x1024.Idx → Ideal .bf16) (ix2 n e) = A11 m c (ix2 e n) := by
  rw [iblk_7, rd_7, hostV_apply]
theorem blk_10 (t : Fin cfg0.N) (d : Fin 64) (l : Fin 128) : (iblk m c 10 t : S64x128.Idx → Ideal .f32) (ix2 d l) = A12 m c (ix1 d) := by
  rw [iblk_10, rd_10, hostN_apply]
theorem blk_11 (t : Fin cfg0.N) (d : Fin 64) (l : Fin 128) : (iblk m c 11 t : S64x128.Idx → Ideal .f32) (ix2 d l) = A13 m c (ix1 d) := by
  rw [iblk_11, rd_11, hostN_apply]

/-- The row of a point is the one its tokens take. -/
theorem rows9_pt (xb : FVec Ideal S8x1024 .f32) (xc : FVec Ideal S1024 .f32) (t : Fin cfg0.N) (i : Fin 256) (e : Fin 1024) :
    rows9 xb xc (ix2 (ptR t) e) = sel xb xc (ptB t) (tok (ptJ t) i) e := by
  rw [rows9_apply]
  unfold sel
  by_cases h : (ptJ t).val = 0
  · rw [if_pos (show (tok (ptJ t) i).val < 256 by show 256 * (ptJ t).val + i.val < 256; omega), dif_neg]
    rw [ptR, if_pos h]; decide
  · rw [if_neg (show ¬ (tok (ptJ t) i).val < 256 by show ¬ 256 * (ptJ t).val + i.val < 256; omega)]
    have hr : (ptR t).val = (ptB t).val := by rw [ptR, if_neg h]
    rw [dif_pos (by omega)]
    exact congrArg (fun r => xb (ix2 r e)) (Fin.ext hr)

theorem cols (t : Fin cfg0.N) (i : Fin 256) : Cols (iblk m c 3 t) (iblk m c 5 t) (iblk m c 6 t) (iblk m c 10 t) (iblk m c 11 t)
    (sel (A3 m c) (A4 m c) (ptB t) (tok (ptJ t) i)) (refA (A6 m c) (A7 m c) (A8 m c) (ptB t) (tok (ptJ t) i)) (sel (A9 m c) (A10 m c) (ptB t) (tok (ptJ t) i))
    (fun d => A12 m c (ix1 d)) (fun d => A13 m c (ix1 d)) where
  ht e l := by rw [iblk_3, rd_3, cols9_apply, rows9_pt _ _ t i]
  ha e l := by rw [iblk_5, rd_5, cols9_apply, gain9_apply, rows9_pt _ _ t i]; rfl
  hb e l := by rw [iblk_6, rd_6, cols9_apply, rows9_pt _ _ t i]
  hq d l := blk_10 m c t d l
  hk d l := blk_11 m c t d l

theorem newx_congr {o o' g g' : Fin 1024 → EReal} {w w' : Fin 1024 → Fin 1024 → EReal} {x x' : Fin 1024 → EReal} (gt : Fin 1024 → EReal)
    (ho : ∀ k, o k = o' k) (hg : ∀ k, g k = g' k) (hw : ∀ k e, w k e = w' k e) (hx : ∀ e, x e = x' e) : newx o g w gt x = newx o' g' w' gt x' := by
  rw [funext ho, funext hg, funext hx, show w = w' from funext fun k => funext fun e => hw k e]

theorem newX_eq (t : Fin cfg0.N) (i : Fin 256) :
    newX (iblk m c 0 t) (iblk m c 1 t) (iblk m c 2 t) (iblk m c 4 t) (sel (A3 m c) (A4 m c) (ptB t) (tok (ptJ t) i)) i
      = refX (A0 m c) (A1 m c) (A2 m c) (A3 m c) (A4 m c) (A5 m c) (ptB t) (tok (ptJ t) i) :=
  newx_congr _ (fun k => blk_0 m c t k i) (fun k => blk_1 m c t k i) (fun k e => blk_2 m c t e k) (fun e => blk_4 m c t e i)
theorem newU_eq (t : Fin cfg0.N) (i : Fin 256) (n : Fin 4096) :
    newU (iblk m c 0 t) (iblk m c 1 t) (iblk m c 2 t) (iblk m c 4 t) (iblk m c 7 t) (sel (A3 m c) (A4 m c) (ptB t) (tok (ptJ t) i))
        (refA (A6 m c) (A7 m c) (A8 m c) (ptB t) (tok (ptJ t) i)) (sel (A9 m c) (A10 m c) (ptB t) (tok (ptJ t) i)) i n
      = refU (A0 m c) (A1 m c) (A2 m c) (A3 m c) (A4 m c) (A5 m c) (A6 m c) (A7 m c) (A8 m c) (A9 m c) (A10 m c) (A11 m c) (ptB t) (tok (ptJ t) i) n := by
  unfold newU refU up
  rw [newX_eq]
  exact Finset.sum_congr rfl fun e _ => congrArg (_ * ·) (blk_7 m c t n e)

/-! ## The arrays after the run -/

theorem final_12 : (dats m 0 c).arrAt 12 cfg0.N = Cert.Reference3Ideal.Read.val_main_v71 (F := Ideal) (A0 m c) (A1 m c) (A2 m c) (A3 m c) (A4 m c) (A5 m c) := by
  refine (dats m 0 c).arrAt_eq_of_covers 12 _ covers_12 fun t _ y => ?_
  obtain ⟨f, i, rfl⟩ : ∃ (f : Fin 1024) (i : Fin 256), y = (ix3 0 f i : S1x1024x256.Idx) :=
    ⟨y 1, y 2, funext fun a => match a with
      | ⟨0, _⟩ => Fin.ext (by have : (y 0).val < 1 := (y 0).isLt; show (y 0).val = 0; omega)
      | ⟨1, _⟩ => rfl
      | ⟨2, _⟩ => rfl⟩
  refine (cast_eq _ _).trans ?_
  rw [after0_12, emb_12]
  rw [v71_apply]
  exact (out12_apply (cols m c t i) f i).trans (congrFun (newX_eq m c t i) f)
theorem final_13 : (dats m 0 c).arrAt 13 cfg0.N = Cert.Reference3Ideal.Read.val_main_v74 (F := Ideal) (A0 m c) (A1 m c) (A2 m c) (A3 m c) (A4 m c) (A5 m c) (A6 m c) (A7 m c) (A8 m c) (A9 m c) (A10 m c) (A11 m c) (A12 m c) := by
  refine (dats m 0 c).arrAt_eq_of_covers 13 _ covers_13 fun t _ y => ?_
  obtain ⟨f, i, rfl⟩ : ∃ (f : Fin 1024) (i : Fin 256), y = (ix4 0 0 f i : S1x1x1024x256.Idx) :=
    ⟨y 2, y 3, funext fun a => match a with
      | ⟨0, _⟩ => Fin.ext (by have : (y 0).val < 1 := (y 0).isLt; show (y 0).val = 0; omega)
      | ⟨1, _⟩ => Fin.ext (by have : (y 1).val < 1 := (y 1).isLt; show (y 1).val = 0; omega)
      | ⟨2, _⟩ => rfl
      | ⟨3, _⟩ => rfl⟩
  obtain ⟨h, d, rfl⟩ : ∃ (h : Fin 16) (d : Fin 64), f = ft h d :=
    ⟨⟨f.val / 64, by omega⟩, ⟨f.val % 64, by omega⟩, Fin.ext (by show f.val = 64 * (f.val / 64) + f.val % 64; omega)⟩
  refine (cast_eq _ _).trans ?_
  rw [after0_13, emb_13]
  rw [v74_apply]
  refine (out13_apply (cols m c t i) h d i).trans ?_
  simp only [newU_eq]
  rfl
theorem final_14 : (dats m 0 c).arrAt 14 cfg0.N = Cert.Reference3Ideal.Read.val_main_v70 (F := Ideal) (A0 m c) (A1 m c) (A2 m c) (A3 m c) (A4 m c) (A5 m c) (A6 m c) (A7 m c) (A8 m c) (A9 m c) (A10 m c) (A11 m c) (A13 m c) := by
  refine (dats m 0 c).arrAt_eq_of_covers 14 _ covers_14 fun t _ y => ?_
  obtain ⟨h, i, l, rfl⟩ : ∃ (h : Fin 16) (i : Fin 256) (l : Fin 128), y = (ix5 0 0 h i l : S1x1x16x256x128.Idx) :=
    ⟨y 2, y 3, y 4, funext fun a => match a with
      | ⟨0, _⟩ => Fin.ext (by have : (y 0).val < 1 := (y 0).isLt; show (y 0).val = 0; omega)
      | ⟨1, _⟩ => Fin.ext (by have : (y 1).val < 1 := (y 1).isLt; show (y 1).val = 0; omega)
      | ⟨2, _⟩ => rfl
      | ⟨3, _⟩ => rfl
      | ⟨4, _⟩ => rfl⟩
  refine (cast_eq _ _).trans ?_
  rw [after0_14, emb_14]
  rw [v70_apply]
  refine (out14_apply (cols m c t i) h l i).trans ?_
  simp only [newU_eq]
  rfl
theorem final_15 : (dats m 0 c).arrAt 15 cfg0.N = Cert.Reference3Ideal.Read.val_main_v77 (F := Ideal) (A0 m c) (A1 m c) (A2 m c) (A3 m c) (A4 m c) (A5 m c) (A6 m c) (A7 m c) (A8 m c) (A9 m c) (A10 m c) (A11 m c) := by
  refine (dats m 0 c).arrAt_eq_of_covers 15 _ covers_15 fun t _ y => ?_
  obtain ⟨f, i, rfl⟩ : ∃ (f : Fin 1024) (i : Fin 256), y = (ix4 0 0 f i : S1x1x1024x256.Idx) :=
    ⟨y 2, y 3, funext fun a => match a with
      | ⟨0, _⟩ => Fin.ext (by have : (y 0).val < 1 := (y 0).isLt; show (y 0).val = 0; omega)
      | ⟨1, _⟩ => Fin.ext (by have : (y 1).val < 1 := (y 1).isLt; show (y 1).val = 0; omega)
      | ⟨2, _⟩ => rfl
      | ⟨3, _⟩ => rfl⟩
  refine (cast_eq _ _).trans ?_
  rw [after0_15, emb_15]
  rw [v77_apply]
  exact (out15_apply (cols m c t i) f i).trans (newU_eq m c t i _)
theorem final_16 : (dats m 0 c).arrAt 16 cfg0.N = Cert.Reference3Ideal.Read.val_main_v80 (F := Ideal) (A0 m c) (A1 m c) (A2 m c) (A3 m c) (A4 m c) (A5 m c) (A6 m c) (A7 m c) (A8 m c) (A9 m c) (A10 m c) (A11 m c) := by
  refine (dats m 0 c).arrAt_eq_of_covers 16 _ covers_16 fun t _ y => ?_
  obtain ⟨f, i, rfl⟩ : ∃ (f : Fin 1024) (i : Fin 256), y = (ix3 0 f i : S1x1024x256.Idx) :=
    ⟨y 1, y 2, funext fun a => match a with
      | ⟨0, _⟩ => Fin.ext (by have : (y 0).val < 1 := (y 0).isLt; show (y 0).val = 0; omega)
      | ⟨1, _⟩ => rfl
      | ⟨2, _⟩ => rfl⟩
  refine (cast_eq _ _).trans ?_
  rw [after0_16, emb_16]
  rw [v80_apply]
  refine (out16_apply (cols m c t i) f i).trans ?_
  rw [newU_eq]
  rfl

/-! ## The claims -/

theorem frame_KernelIdeal : Cert.quiescent_Kernel3Ideal := fun m ρ _ => frame (F := Ideal) m ρ

/-- The frame of the text over values `F`. -/
def FrameAt (F : FTy → Type) [FloatOps F] : Prop :=
  ∀ (m : (ℓ : Loc Cert.Kernel3Ideal.nD Cert.Kernel3Ideal.τ Cert.Kernel3Ideal.sig) → Buf (Elt F) ℓ)
    (g : Dev Cert.Kernel3Ideal.nD → PrngReg), True →
    θ_run (Cert.Kernel3Ideal.defs (F := F)) (onTc (τ := Cert.Kernel3Ideal.τ) (Cert.Kernel3Ideal.main (F := F))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

theorem frameAt (F : FTy → Type) [FloatOps F] : FrameAt F := fun m ρ _ => frame (F := F) m ρ

/-- Both programs are the same text. -/
theorem frameAt_bits : FrameAt Bits = Cert.quiescent_Kernel3 := by chain_rfl

theorem frame_Kernel : Cert.quiescent_Kernel3 := frameAt_bits.mp (frameAt Bits)

theorem preserves : Cert.preserves_Kernel3_Kernel3Ideal := trivial

theorem frame_ReferenceIdeal : Cert.quiescent_Reference3Ideal := fun m ρ _ =>
  (θ_run _ _ _).mono (fun _ h => ⟨fun c => (h c).2.2.2.2.2, Idealize.ShloMosaic.sem_eq_zero_of_no_sems (by decide) _⟩) (Cert.Reference3Ideal.Value.run m ρ)

theorem algebraic : Cert.algebraic_Kernel3Ideal_Reference3Ideal := by
  intro m g m' g' _ hm
  refine ⟨fun c => Cert.Reference3Ideal.Read.val_main_v71 (F := Ideal) (A0 m c) (A1 m c) (A2 m c) (A3 m c) (A4 m c) (A5 m c),
    fun c => Cert.Reference3Ideal.Read.val_main_v74 (F := Ideal) (A0 m c) (A1 m c) (A2 m c) (A3 m c) (A4 m c) (A5 m c) (A6 m c) (A7 m c) (A8 m c) (A9 m c) (A10 m c) (A11 m c) (A12 m c),
    fun c => Cert.Reference3Ideal.Read.val_main_v70 (F := Ideal) (A0 m c) (A1 m c) (A2 m c) (A3 m c) (A4 m c) (A5 m c) (A6 m c) (A7 m c) (A8 m c) (A9 m c) (A10 m c) (A11 m c) (A13 m c),
    fun c => Cert.Reference3Ideal.Read.val_main_v77 (F := Ideal) (A0 m c) (A1 m c) (A2 m c) (A3 m c) (A4 m c) (A5 m c) (A6 m c) (A7 m c) (A8 m c) (A9 m c) (A10 m c) (A11 m c),
    fun c => Cert.Reference3Ideal.Read.val_main_v80 (F := Ideal) (A0 m c) (A1 m c) (A2 m c) (A3 m c) (A4 m c) (A5 m c) (A6 m c) (A7 m c) (A8 m c) (A9 m c) (A10 m c) (A11 m c), ?_, ?_⟩
  · exact (θ_run _ _ _).mono (fun r h c => ⟨(h c).1.trans (final_12 m c), (h c).2.1.trans (final_13 m c), (h c).2.2.1.trans (final_14 m c),
      (h c).2.2.2.1.trans (final_15 m c), (h c).2.2.2.2.1.trans (final_16 m c), (h c).2.2.2.2.2⟩) (Cert.Kernel3Ideal.Value.run_blocks m g)
  · refine (θ_run _ _ _).mono (fun r h c => ⟨((h c).1.trans (Cert.Reference3Ideal.Read.val_main_v71_eq _ _ _ _ _ _)).trans ?_,
      ((h c).2.1.trans (Cert.Reference3Ideal.Read.val_main_v74_eq m' c)).trans ?_, ((h c).2.2.1.trans (Cert.Reference3Ideal.Read.val_main_v70_eq m' c)).trans ?_,
      ((h c).2.2.2.1.trans (Cert.Reference3Ideal.Read.val_main_v77_eq _ _ _ _ _ _ _ _ _ _ _ _)).trans ?_,
      ((h c).2.2.2.2.1.trans (Cert.Reference3Ideal.Read.val_main_v80_eq m' c)).trans ?_, (h c).2.2.2.2.2⟩) (Cert.Reference3Ideal.Value.run m' g')
    all_goals
      obtain ⟨h0, h1, h2, h3, h4, h5, h6, h7, h8, h9, h10, h11, h12, h13⟩ := hm c
      simp only [h0, h1, h2, h3, h4, h5, h6, h7, h8, h9, h10, h11, h12, h13]

end Cert.Proof.Proj

end
-- ==== Proof.RopeBody.lean ====
/-
  What one grid step of the projection kernel with rotary embedding stores: the new residual of the step's tokens, and the
  rotated queries and keys, the values and the gate of their modulated norms.
-/
module

public import proofs.«01_k».proof.Proof.ProjBody
public import proofs.«01_k».proof.Proof.Gen.Kernel4Ideal.Value

@[expose] public section

set_option maxRecDepth 16384

noncomputable section

namespace Cert.Proof.Rope

open Cert.Kernel4Ideal Cert.Kernel4Ideal.Gen
open Cert.Proof.Proj (c1024 c64 eps ft newx hid up headn lanes Cols newX newU)
open Idealize.ShloMosaic Idealize.ShloMosaic.TcCoe Idealize.ShloMosaic.Tactic

/-- The rotation of a head's entries: two groups of sixteen pairs, each group by its own sixteen angles. -/
def rot (y : Fin 64 → EReal) (c s : Fin 32 → EReal) (d : Fin 64) : EReal :=
  if h : d.val < 16 then y d * c ⟨d.val, by omega⟩ - y ⟨16 + d.val, by omega⟩ * s ⟨d.val, by omega⟩
  else if h : d.val - 16 < 16 then y ⟨16 + (d.val - 16), by omega⟩ * c ⟨d.val - 16, by omega⟩ + y ⟨d.val - 16, by omega⟩ * s ⟨d.val - 16, by omega⟩
  else if h : d.val - 16 - 16 < 16 then y ⟨32 + (d.val - 16 - 16), by omega⟩ * c ⟨16 + (d.val - 16 - 16), by omega⟩ - y ⟨48 + (d.val - 16 - 16), by omega⟩ * s ⟨16 + (d.val - 16 - 16), by omega⟩
  else y ⟨48 + (d.val - 16 - 16 - 16), by omega⟩ * c ⟨16 + (d.val - 16 - 16 - 16), by omega⟩ + y ⟨32 + (d.val - 16 - 16 - 16), by omega⟩ * s ⟨16 + (d.val - 16 - 16 - 16), by omega⟩

/-- The rotation by two groups of angles, as the reference nests its cases. -/
theorem rot_pairs (y : Fin 64 → EReal) (p q : Fin 16 → EReal) (d : Fin 64) :
    (if h2 : d.val < 32 then
        if h3 : d.val < 16 then y d * Ideal.cos (p ⟨d.val, h3⟩) - y ⟨16 + d.val, by omega⟩ * Ideal.sin (p ⟨d.val, h3⟩)
        else y ⟨16 + (d.val - 16), by omega⟩ * Ideal.cos (p ⟨d.val - 16, by omega⟩) + y ⟨d.val - 16, by omega⟩ * Ideal.sin (p ⟨d.val - 16, by omega⟩)
      else
        if h3 : d.val - 32 < 16 then y ⟨32 + (d.val - 32), by omega⟩ * Ideal.cos (q ⟨d.val - 32, h3⟩) - y ⟨32 + (16 + (d.val - 32)), by omega⟩ * Ideal.sin (q ⟨d.val - 32, h3⟩)
        else y ⟨32 + (16 + (d.val - 32 - 16)), by omega⟩ * Ideal.cos (q ⟨d.val - 32 - 16, by omega⟩) + y ⟨32 + (d.val - 32 - 16), by omega⟩ * Ideal.sin (q ⟨d.val - 32 - 16, by omega⟩))
      = rot y (fun f => Ideal.cos (if h : f.val < 16 then p ⟨f.val, h⟩ else q ⟨f.val - 16, by omega⟩))
          (fun f => Ideal.sin (if h : f.val < 16 then p ⟨f.val, h⟩ else q ⟨f.val - 16, by omega⟩)) d := by
  have hy : ∀ a b : Fin 64, a.val = b.val → y a = y b := fun a b h => congrArg y (Fin.ext h)
  have hq : ∀ a b : Fin 16, a.val = b.val → q a = q b := fun a b h => congrArg q (Fin.ext h)
  unfold rot
  by_cases h1 : d.val < 16
  · rw [dif_pos (by omega), dif_pos h1, dif_pos h1]
    simp only [dif_pos h1]
  · by_cases h2 : d.val < 32
    · rw [dif_pos h2, dif_neg h1, dif_neg h1, dif_pos (by omega)]
      simp only [dif_pos (show d.val - 16 < 16 by omega)]
    · rw [dif_neg h2, dif_neg h1, dif_neg (show ¬ d.val - 16 < 16 by omega)]
      by_cases h3 : d.val - 32 < 16
      · rw [dif_pos h3, dif_pos (show d.val - 16 - 16 < 16 by omega)]
        simp only [dif_neg (show ¬ 16 + (d.val - 16 - 16) < 16 by omega)]
        rw [hq ⟨16 + (d.val - 16 - 16) - 16, by omega⟩ ⟨d.val - 32, h3⟩ (by show 16 + (d.val - 16 - 16) - 16 = d.val - 32; omega),
          hy ⟨32 + (d.val - 16 - 16), by omega⟩ ⟨32 + (d.val - 32), by omega⟩ (by show 32 + (d.val - 16 - 16) = 32 + (d.val - 32); omega),
          hy ⟨48 + (d.val - 16 - 16), by omega⟩ ⟨32 + (16 + (d.val - 32)), by omega⟩ (by show 48 + (d.val - 16 - 16) = 32 + (16 + (d.val - 32)); omega)]
      · rw [dif_neg h3, dif_neg (show ¬ d.val - 16 - 16 < 16 by omega)]
        simp only [dif_neg (show ¬ 16 + (d.val - 16 - 16 - 16) < 16 by omega)]
        rw [hq ⟨16 + (d.val - 16 - 16 - 16) - 16, by omega⟩ ⟨d.val - 32 - 16, by omega⟩ (by show 16 + (d.val - 16 - 16 - 16) - 16 = d.val - 32 - 16; omega),
          hy ⟨32 + (d.val - 16 - 16 - 16), by omega⟩ ⟨32 + (d.val - 32 - 16), by omega⟩ (by show 32 + (d.val - 16 - 16 - 16) = 32 + (d.val - 32 - 16); omega),
          hy ⟨48 + (d.val - 16 - 16 - 16), by omega⟩ ⟨32 + (16 + (d.val - 32 - 16)), by omega⟩ (by show 48 + (d.val - 16 - 16 - 16) = 32 + (16 + (d.val - 32 - 16)); omega)]

/-! ## The heads' values -/

theorem q0 (c s : Vec Ideal S32x256 .f32) (g : Vec Ideal S64x128 .f32) (v : FVec Ideal S1024x256 .f32) (a b : Vec Ideal S1x1024x128 .f32) (w : Vec Ideal S1024x1024 .bf16) (i : Fin 256) (d : Fin 64) :
    k0_pay23 (k0_pay13 v a b g w) (k0_pay14 v a b g w) (k0_pay15 v a b g w) (k0_pay16 v a b g w) (k0_pay17 c) (k0_pay18 c) (k0_pay19 s) (k0_pay20 s) (k0_pay21 v a b c g w) (k0_pay22 v a b s g w) (ix4 0 0 d i) = rot (headn (fun f => (k0_pay11 v a b w) (ix2 f i)) (fun d => (k0_pay9 g) (ix2 d i)) 0) (fun f => (k0_pay7 c) (ix2 f i)) (fun f => (k0_pay8 s) (ix2 f i)) d := by
  unfold k0_pay23 k0_pay22 k0_pay21 k0_pay20 k0_pay19 k0_pay18 k0_pay17 k0_pay16 k0_pay15 k0_pay14 k0_pay13 k0_pay12 rot headn
  generalize k0_pay7 c = c
  generalize k0_pay8 s = s
  generalize k0_pay9 g = g
  generalize k0_pay11 v a b w = u
  have h0 : ft 0 = fun d => ⟨d.val, by omega⟩ := funext fun d => Fin.ext (by show 64 * 0 + d.val = d.val; omega)
  rw [h0]
  pointwise
theorem q1 (c s : FVec Ideal S32x256 .f32) (g : FVec Ideal S64x256 .f32) (u : FVec Ideal S1024x256 .f32) (i : Fin 256) (d : Fin 64) :
    k0_pay25 (k0_pay24 c s g u) (ix4 0 0 d i) = rot (headn (fun f => (u) (ix2 f i)) (fun d => (g) (ix2 d i)) 1) (fun f => (c) (ix2 f i)) (fun f => (s) (ix2 f i)) d := by
  unfold k0_pay25 k0_pay24 rot headn
  pointwise
  rfl
theorem q2 (c s : FVec Ideal S32x256 .f32) (g : FVec Ideal S64x256 .f32) (u : FVec Ideal S1024x256 .f32) (i : Fin 256) (d : Fin 64) :
    k0_pay26 c s g u (ix4 0 0 d i) = rot (headn (fun f => (u) (ix2 f i)) (fun d => (g) (ix2 d i)) 2) (fun f => (c) (ix2 f i)) (fun f => (s) (ix2 f i)) d := by
  unfold k0_pay26 rot headn
  pointwise
  rfl
theorem q3 (c s : FVec Ideal S32x256 .f32) (g : FVec Ideal S64x256 .f32) (u : FVec Ideal S1024x256 .f32) (i : Fin 256) (d : Fin 64) :
    k0_pay30 c s g (k0_pay27 u) (k0_pay28 u) (k0_pay29 (F := Ideal)) (ix4 0 0 d i) = rot (headn (fun f => (u) (ix2 f i)) (fun d => (g) (ix2 d i)) 3) (fun f => (c) (ix2 f i)) (fun f => (s) (ix2 f i)) d := by
  unfold k0_pay30 k0_pay29 k0_pay28 k0_pay27 rot headn
  pointwise
  rfl
theorem q4 (c s : FVec Ideal S32x256 .f32) (g : FVec Ideal S64x256 .f32) (u : FVec Ideal S1024x256 .f32) (i : Fin 256) (d : Fin 64) :
    k0_pay42 (k0_pay32 g u) (k0_pay33 g u) (k0_pay34 g u) (k0_pay35 g u) (k0_pay36 c) (k0_pay37 c) (k0_pay38 s) (k0_pay39 s) (k0_pay40 c g u) (k0_pay41 s g u) (ix4 0 0 d i) = rot (headn (fun f => (u) (ix2 f i)) (fun d => (g) (ix2 d i)) 4) (fun f => (c) (ix2 f i)) (fun f => (s) (ix2 f i)) d := by
  unfold k0_pay42 k0_pay41 k0_pay40 k0_pay39 k0_pay38 k0_pay37 k0_pay36 k0_pay35 k0_pay34 k0_pay33 k0_pay32 k0_pay31 rot headn
  pointwise
  rfl
theorem q5 (c s : FVec Ideal S32x256 .f32) (g : FVec Ideal S64x256 .f32) (u : FVec Ideal S1024x256 .f32) (i : Fin 256) (d : Fin 64) :
    k0_pay44 (k0_pay43 c s g u) (ix4 0 0 d i) = rot (headn (fun f => (u) (ix2 f i)) (fun d => (g) (ix2 d i)) 5) (fun f => (c) (ix2 f i)) (fun f => (s) (ix2 f i)) d := by
  unfold k0_pay44 k0_pay43 rot headn
  pointwise
  rfl
theorem q6 (c s : FVec Ideal S32x256 .f32) (g : FVec Ideal S64x256 .f32) (u : FVec Ideal S1024x256 .f32) (i : Fin 256) (d : Fin 64) :
    k0_pay45 c s g u (ix4 0 0 d i) = rot (headn (fun f => (u) (ix2 f i)) (fun d => (g) (ix2 d i)) 6) (fun f => (c) (ix2 f i)) (fun f => (s) (ix2 f i)) d := by
  unfold k0_pay45 rot headn
  pointwise
  rfl
theorem q7 (c s : FVec Ideal S32x256 .f32) (g : FVec Ideal S64x256 .f32) (u : FVec Ideal S1024x256 .f32) (i : Fin 256) (d : Fin 64) :
    k0_pay49 c s g (k0_pay46 u) (k0_pay47 u) (k0_pay48 (F := Ideal)) (ix4 0 0 d i) = rot (headn (fun f => (u) (ix2 f i)) (fun d => (g) (ix2 d i)) 7) (fun f => (c) (ix2 f i)) (fun f => (s) (ix2 f i)) d := by
  unfold k0_pay49 k0_pay48 k0_pay47 k0_pay46 rot headn
  pointwise
  rfl
theorem q8 (c s : FVec Ideal S32x256 .f32) (g : FVec Ideal S64x256 .f32) (u : FVec Ideal S1024x256 .f32) (i : Fin 256) (d : Fin 64) :
    k0_pay61 (k0_pay51 g u) (k0_pay52 g u) (k0_pay53 g u) (k0_pay54 g u) (k0_pay55 c) (k0_pay56 c) (k0_pay57 s) (k0_pay58 s) (k0_pay59 c g u) (k0_pay60 s g u) (ix4 0 0 d i) = rot (headn (fun f => (u) (ix2 f i)) (fun d => (g) (ix2 d i)) 8) (fun f => (c) (ix2 f i)) (fun f => (s) (ix2 f i)) d := by
  unfold k0_pay61 k0_pay60 k0_pay59 k0_pay58 k0_pay57 k0_pay56 k0_pay55 k0_pay54 k0_pay53 k0_pay52 k0_pay51 k0_pay50 rot headn
  pointwise
  rfl
theorem q9 (c s : FVec Ideal S32x256 .f32) (g : FVec Ideal S64x256 .f32) (u : FVec Ideal S1024x256 .f32) (i : Fin 256) (d : Fin 64) :
    k0_pay63 (k0_pay62 c s g u) (ix4 0 0 d i) = rot (headn (fun f => (u) (ix2 f i)) (fun d => (g) (ix2 d i)) 9) (fun f => (c) (ix2 f i)) (fun f => (s) (ix2 f i)) d := by
  unfold k0_pay63 k0_pay62 rot headn
  pointwise
  rfl
theorem q10 (c s : FVec Ideal S32x256 .f32) (g : FVec Ideal S64x256 .f32) (u : FVec Ideal S1024x256 .f32) (i : Fin 256) (d : Fin 64) :
    k0_pay64 c s g u (ix4 0 0 d i) = rot (headn (fun f => (u) (ix2 f i)) (fun d => (g) (ix2 d i)) 10) (fun f => (c) (ix2 f i)) (fun f => (s) (ix2 f i)) d := by
  unfold k0_pay64 rot headn
  pointwise
  rfl
theorem q11 (c s : FVec Ideal S32x256 .f32) (g : FVec Ideal S64x256 .f32) (u : FVec Ideal S1024x256 .f32) (i : Fin 256) (d : Fin 64) :
    k0_pay68 c s g (k0_pay65 u) (k0_pay66 u) (k0_pay67 (F := Ideal)) (ix4 0 0 d i) = rot (headn (fun f => (u) (ix2 f i)) (fun d => (g) (ix2 d i)) 11) (fun f => (c) (ix2 f i)) (fun f => (s) (ix2 f i)) d := by
  unfold k0_pay68 k0_pay67 k0_pay66 k0_pay65 rot headn
  pointwise
  rfl
theorem q12 (c s : FVec Ideal S32x256 .f32) (g : FVec Ideal S64x256 .f32) (u : FVec Ideal S1024x256 .f32) (i : Fin 256) (d : Fin 64) :
    k0_pay80 (k0_pay70 g u) (k0_pay71 g u) (k0_pay72 g u) (k0_pay73 g u) (k0_pay74 c) (k0_pay75 c) (k0_pay76 s) (k0_pay77 s) (k0_pay78 c g u) (k0_pay79 s g u) (ix4 0 0 d i) = rot (headn (fun f => (u) (ix2 f i)) (fun d => (g) (ix2 d i)) 12) (fun f => (c) (ix2 f i)) (fun f => (s) (ix2 f i)) d := by
  unfold k0_pay80 k0_pay79 k0_pay78 k0_pay77 k0_pay76 k0_pay75 k0_pay74 k0_pay73 k0_pay72 k0_pay71 k0_pay70 k0_pay69 rot headn
  pointwise
  rfl
theorem q13 (c s : FVec Ideal S32x256 .f32) (g : FVec Ideal S64x256 .f32) (u : FVec Ideal S1024x256 .f32) (i : Fin 256) (d : Fin 64) :
    k0_pay82 (k0_pay81 c s g u) (ix4 0 0 d i) = rot (headn (fun f => (u) (ix2 f i)) (fun d => (g) (ix2 d i)) 13) (fun f => (c) (ix2 f i)) (fun f => (s) (ix2 f i)) d := by
  unfold k0_pay82 k0_pay81 rot headn
  pointwise
  rfl
theorem q14 (c s : FVec Ideal S32x256 .f32) (g : FVec Ideal S64x256 .f32) (u : FVec Ideal S1024x256 .f32) (i : Fin 256) (d : Fin 64) :
    k0_pay83 c s g u (ix4 0 0 d i) = rot (headn (fun f => (u) (ix2 f i)) (fun d => (g) (ix2 d i)) 14) (fun f => (c) (ix2 f i)) (fun f => (s) (ix2 f i)) d := by
  unfold k0_pay83 rot headn
  pointwise
  rfl
theorem q15 (c s : FVec Ideal S32x256 .f32) (g : FVec Ideal S64x256 .f32) (u : FVec Ideal S1024x256 .f32) (i : Fin 256) (d : Fin 64) :
    k0_pay87 c s g (k0_pay84 u) (k0_pay85 u) (k0_pay86 (F := Ideal)) (ix4 0 0 d i) = rot (headn (fun f => (u) (ix2 f i)) (fun d => (g) (ix2 d i)) 15) (fun f => (c) (ix2 f i)) (fun f => (s) (ix2 f i)) d := by
  unfold k0_pay87 k0_pay86 k0_pay85 k0_pay84 rot headn
  pointwise
  rfl
theorem k0 (c s : FVec Ideal S32x256 .f32) (g : FVec Ideal S64x256 .f32) (H : FVec Ideal S1024x256 .bf16) (w : Vec Ideal S1024x1024 .bf16) (i : Fin 256) (l : Fin 128) :
    k0_pay94 c s (k0_pay90 H g w) (k0_pay91 H g w) (k0_pay92 H g w) (k0_pay93 H g w) (ix5 0 0 0 i l) = if h : l.val < 64 then rot (headn (fun f => (k0_pay88 H w) (ix2 f i)) (fun d => (g) (ix2 d i)) 0) (fun f => (c) (ix2 f i)) (fun f => (s) (ix2 f i)) ⟨l.val, h⟩ else 0 := by
  unfold k0_pay94 k0_pay93 k0_pay92 k0_pay91 k0_pay90 k0_pay89 rot headn
  generalize k0_pay88 H w = u
  have h0 : ft 0 = fun d => ⟨d.val, by omega⟩ := funext fun d => Fin.ext (by show 64 * 0 + d.val = d.val; omega)
  rw [h0]
  pointwise
theorem k1 (c s : FVec Ideal S32x256 .f32) (g : FVec Ideal S64x256 .f32) (u : FVec Ideal S1024x256 .f32) (i : Fin 256) (l : Fin 128) :
    k0_pay106 (k0_pay98 g u) (k0_pay99 g u) (k0_pay101 c) (k0_pay103 s) (k0_pay104 c s g u) (k0_pay105 c s g u) (ix5 0 0 0 i l) = if h : l.val < 64 then rot (headn (fun f => (u) (ix2 f i)) (fun d => (g) (ix2 d i)) 1) (fun f => (c) (ix2 f i)) (fun f => (s) (ix2 f i)) ⟨l.val, h⟩ else 0 := by
  unfold k0_pay106 k0_pay105 k0_pay104 k0_pay103 k0_pay102 k0_pay101 k0_pay100 k0_pay99 k0_pay98 k0_pay97 k0_pay96 k0_pay95 rot headn
  pointwise
  rfl
theorem k2 (c s : FVec Ideal S32x256 .f32) (g : FVec Ideal S64x256 .f32) (u : FVec Ideal S1024x256 .f32) (i : Fin 256) (l : Fin 128) :
    k0_pay108 (k0_pay107 c s g u) (ix5 0 0 0 i l) = if h : l.val < 64 then rot (headn (fun f => (u) (ix2 f i)) (fun d => (g) (ix2 d i)) 2) (fun f => (c) (ix2 f i)) (fun f => (s) (ix2 f i)) ⟨l.val, h⟩ else 0 := by
  unfold k0_pay108 k0_pay107 rot headn
  pointwise
  rfl
theorem k3 (c s : FVec Ideal S32x256 .f32) (g : FVec Ideal S64x256 .f32) (u : FVec Ideal S1024x256 .f32) (i : Fin 256) (l : Fin 128) :
    k0_pay109 c s g u (ix5 0 0 0 i l) = if h : l.val < 64 then rot (headn (fun f => (u) (ix2 f i)) (fun d => (g) (ix2 d i)) 3) (fun f => (c) (ix2 f i)) (fun f => (s) (ix2 f i)) ⟨l.val, h⟩ else 0 := by
  unfold k0_pay109 rot headn
  pointwise
  rfl
theorem k4 (c s : FVec Ideal S32x256 .f32) (g : FVec Ideal S64x256 .f32) (u : FVec Ideal S1024x256 .f32) (i : Fin 256) (l : Fin 128) :
    k0_pay110 c s g u (ix5 0 0 0 i l) = if h : l.val < 64 then rot (headn (fun f => (u) (ix2 f i)) (fun d => (g) (ix2 d i)) 4) (fun f => (c) (ix2 f i)) (fun f => (s) (ix2 f i)) ⟨l.val, h⟩ else 0 := by
  unfold k0_pay110 rot headn
  pointwise
  rfl
theorem k5 (c s : FVec Ideal S32x256 .f32) (g : FVec Ideal S64x256 .f32) (u : FVec Ideal S1024x256 .f32) (i : Fin 256) (l : Fin 128) :
    k0_pay113 c s g (k0_pay111 u) (k0_pay112 u) (Scalar.ofBits (F := Ideal) .f32 0x358637BD#32) (ix5 0 0 0 i l) = if h : l.val < 64 then rot (headn (fun f => (u) (ix2 f i)) (fun d => (g) (ix2 d i)) 5) (fun f => (c) (ix2 f i)) (fun f => (s) (ix2 f i)) ⟨l.val, h⟩ else 0 := by
  unfold k0_pay113 k0_pay112 k0_pay111 rot headn
  pointwise
  rfl
theorem k6 (c s : FVec Ideal S32x256 .f32) (g : FVec Ideal S64x256 .f32) (u : FVec Ideal S1024x256 .f32) (i : Fin 256) (l : Fin 128) :
    k0_pay119 c s (k0_pay115 g u) (k0_pay116 g u) (k0_pay117 g u) (k0_pay118 g u) (ix5 0 0 0 i l) = if h : l.val < 64 then rot (headn (fun f => (u) (ix2 f i)) (fun d => (g) (ix2 d i)) 6) (fun f => (c) (ix2 f i)) (fun f => (s) (ix2 f i)) ⟨l.val, h⟩ else 0 := by
  unfold k0_pay119 k0_pay118 k0_pay117 k0_pay116 k0_pay115 k0_pay114 rot headn
  pointwise
  rfl
theorem k7 (c s : FVec Ideal S32x256 .f32) (g : FVec Ideal S64x256 .f32) (u : FVec Ideal S1024x256 .f32) (i : Fin 256) (l : Fin 128) :
    k0_pay131 (k0_pay123 g u) (k0_pay124 g u) (k0_pay126 c) (k0_pay128 s) (k0_pay129 c s g u) (k0_pay130 c s g u) (ix5 0 0 0 i l) = if h : l.val < 64 then rot (headn (fun f => (u) (ix2 f i)) (fun d => (g) (ix2 d i)) 7) (fun f => (c) (ix2 f i)) (fun f => (s) (ix2 f i)) ⟨l.val, h⟩ else 0 := by
  unfold k0_pay131 k0_pay130 k0_pay129 k0_pay128 k0_pay127 k0_pay126 k0_pay125 k0_pay124 k0_pay123 k0_pay122 k0_pay121 k0_pay120 rot headn
  pointwise
  rfl
theorem k8 (c s : FVec Ideal S32x256 .f32) (g : FVec Ideal S64x256 .f32) (u : FVec Ideal S1024x256 .f32) (i : Fin 256) (l : Fin 128) :
    k0_pay133 (k0_pay132 c s g u) (ix5 0 0 0 i l) = if h : l.val < 64 then rot (headn (fun f => (u) (ix2 f i)) (fun d => (g) (ix2 d i)) 8) (fun f => (c) (ix2 f i)) (fun f => (s) (ix2 f i)) ⟨l.val, h⟩ else 0 := by
  unfold k0_pay133 k0_pay132 rot headn
  pointwise
  rfl
theorem k9 (c s : FVec Ideal S32x256 .f32) (g : FVec Ideal S64x256 .f32) (u : FVec Ideal S1024x256 .f32) (i : Fin 256) (l : Fin 128) :
    k0_pay134 c s g u (ix5 0 0 0 i l) = if h : l.val < 64 then rot (headn (fun f => (u) (ix2 f i)) (fun d => (g) (ix2 d i)) 9) (fun f => (c) (ix2 f i)) (fun f => (s) (ix2 f i)) ⟨l.val, h⟩ else 0 := by
  unfold k0_pay134 rot headn
  pointwise
  rfl
theorem k10 (c s : FVec Ideal S32x256 .f32) (g : FVec Ideal S64x256 .f32) (u : FVec Ideal S1024x256 .f32) (i : Fin 256) (l : Fin 128) :
    k0_pay135 c s g u (ix5 0 0 0 i l) = if h : l.val < 64 then rot (headn (fun f => (u) (ix2 f i)) (fun d => (g) (ix2 d i)) 10) (fun f => (c) (ix2 f i)) (fun f => (s) (ix2 f i)) ⟨l.val, h⟩ else 0 := by
  unfold k0_pay135 rot headn
  pointwise
  rfl
theorem k11 (c s : FVec Ideal S32x256 .f32) (g : FVec Ideal S64x256 .f32) (u : FVec Ideal S1024x256 .f32) (i : Fin 256) (l : Fin 128) :
    k0_pay138 c s g (k0_pay136 u) (k0_pay137 u) (Scalar.ofBits (F := Ideal) .f32 0x358637BD#32) (ix5 0 0 0 i l) = if h : l.val < 64 then rot (headn (fun f => (u) (ix2 f i)) (fun d => (g) (ix2 d i)) 11) (fun f => (c) (ix2 f i)) (fun f => (s) (ix2 f i)) ⟨l.val, h⟩ else 0 := by
  unfold k0_pay138 k0_pay137 k0_pay136 rot headn
  pointwise
  rfl
theorem k12 (c s : FVec Ideal S32x256 .f32) (g : FVec Ideal S64x256 .f32) (u : FVec Ideal S1024x256 .f32) (i : Fin 256) (l : Fin 128) :
    k0_pay144 c s (k0_pay140 g u) (k0_pay141 g u) (k0_pay142 g u) (k0_pay143 g u) (ix5 0 0 0 i l) = if h : l.val < 64 then rot (headn (fun f => (u) (ix2 f i)) (fun d => (g) (ix2 d i)) 12) (fun f => (c) (ix2 f i)) (fun f => (s) (ix2 f i)) ⟨l.val, h⟩ else 0 := by
  unfold k0_pay144 k0_pay143 k0_pay142 k0_pay141 k0_pay140 k0_pay139 rot headn
  pointwise
  rfl
theorem k13 (c s : FVec Ideal S32x256 .f32) (g : FVec Ideal S64x256 .f32) (u : FVec Ideal S1024x256 .f32) (i : Fin 256) (l : Fin 128) :
    k0_pay156 (k0_pay148 g u) (k0_pay149 g u) (k0_pay151 c) (k0_pay153 s) (k0_pay154 c s g u) (k0_pay155 c s g u) (ix5 0 0 0 i l) = if h : l.val < 64 then rot (headn (fun f => (u) (ix2 f i)) (fun d => (g) (ix2 d i)) 13) (fun f => (c) (ix2 f i)) (fun f => (s) (ix2 f i)) ⟨l.val, h⟩ else 0 := by
  unfold k0_pay156 k0_pay155 k0_pay154 k0_pay153 k0_pay152 k0_pay151 k0_pay150 k0_pay149 k0_pay148 k0_pay147 k0_pay146 k0_pay145 rot headn
  pointwise
  rfl
theorem k14 (c s : FVec Ideal S32x256 .f32) (g : FVec Ideal S64x256 .f32) (u : FVec Ideal S1024x256 .f32) (i : Fin 256) (l : Fin 128) :
    k0_pay158 (k0_pay157 c s g u) (ix5 0 0 0 i l) = if h : l.val < 64 then rot (headn (fun f => (u) (ix2 f i)) (fun d => (g) (ix2 d i)) 14) (fun f => (c) (ix2 f i)) (fun f => (s) (ix2 f i)) ⟨l.val, h⟩ else 0 := by
  unfold k0_pay158 k0_pay157 rot headn
  pointwise
  rfl
theorem k15 (c s : FVec Ideal S32x256 .f32) (g : FVec Ideal S64x256 .f32) (u : FVec Ideal S1024x256 .f32) (i : Fin 256) (l : Fin 128) :
    k0_pay159 c s g u (ix5 0 0 0 i l) = if h : l.val < 64 then rot (headn (fun f => (u) (ix2 f i)) (fun d => (g) (ix2 d i)) 15) (fun f => (c) (ix2 f i)) (fun f => (s) (ix2 f i)) ⟨l.val, h⟩ else 0 := by
  unfold k0_pay159 rot headn
  pointwise
  rfl

/-! ## The other stores -/

theorem pay3_apply (o : Vec Ideal S1x1x1024x256 .bf16) (g : Vec Ideal S1x1024x256 .bf16) (w : Vec Ideal S1024x1024 .bf16) (x : Vec Ideal S1x1024x256 .f32)
    (t : Vec Ideal S1x1024x128 .f32) (gt : Fin 1024 → EReal) (ht : ∀ e l, t (ix3 0 e l) = gt e) (e : Fin 1024) (i : Fin 256) :
    k0_pay3 o g w x t (ix2 e i) = newx (fun k => o (ix4 0 0 k i)) (fun k => g (ix3 0 k i)) (fun k e => w (ix2 e k)) gt (fun e => x (ix3 0 e i)) e := by
  unfold k0_pay3 newx
  pointwise
  refine congrArg₂ (fun a s => x (ix3 0 e i) + a * s) (lanes (fun l => t (ix3 0 e l)) _ (ht e) i) (Finset.sum_congr rfl fun k _ => mul_comm _ _)
theorem pay4_apply (o : Vec Ideal S1x1x1024x256 .bf16) (g : Vec Ideal S1x1024x256 .bf16) (w : Vec Ideal S1024x1024 .bf16) (x : Vec Ideal S1x1024x256 .f32)
    (t : Vec Ideal S1x1024x128 .f32) (e : Fin 1024) (i : Fin 256) : k0_pay4 o g w x t (ix3 0 e i) = k0_pay3 o g w x t (ix2 e i) := by
  unfold k0_pay4
  generalize k0_pay3 o g w x t = X
  pointwise
theorem pay5_apply (o : Vec Ideal S1x1x1024x256 .bf16) (g : Vec Ideal S1x1024x256 .bf16) (w : Vec Ideal S1024x1024 .bf16) (x : Vec Ideal S1x1024x256 .f32)
    (t : Vec Ideal S1x1024x128 .f32) (e : Fin 1024) (i : Fin 256) : k0_pay5 o g w x t (ix2 e i)
      = k0_pay3 o g w x t (ix2 e i) * Ideal.rsqrt ((∑ k, k0_pay3 o g w x t (ix2 k i) * k0_pay3 o g w x t (ix2 k i)) * c1024 + eps) := by
  unfold k0_pay5
  generalize k0_pay3 o g w x t = X
  pointwise
theorem pay6_apply (v : FVec Ideal S1024x256 .f32) (a b : Vec Ideal S1x1024x128 .f32) (p q : Fin 1024 → EReal) (hp : ∀ e l, a (ix3 0 e l) = p e)
    (hq : ∀ e l, b (ix3 0 e l) = q e) (e : Fin 1024) (i : Fin 256) : k0_pay6 v a b (ix2 e i) = v (ix2 e i) * p e + q e := by
  unfold k0_pay6
  pointwise
  exact congrArg₂ (fun a b => v (ix2 e i) * a + b) (lanes (fun l => a (ix3 0 e l)) _ (hp e) i) (lanes (fun l => b (ix3 0 e l)) _ (hq e) i)
theorem pay9_apply (g : Vec Ideal S64x128 .f32) (p : Fin 64 → EReal) (hp : ∀ d l, g (ix2 d l) = p d) (d : Fin 64) (i : Fin 256) :
    k0_pay9 g (ix2 d i) = p d := by
  unfold k0_pay9
  pointwise
  exact lanes (fun l => g (ix2 d l)) _ (hp d) i
theorem pay10_apply (g : Vec Ideal S64x128 .f32) (p : Fin 64 → EReal) (hp : ∀ d l, g (ix2 d l) = p d) (d : Fin 64) (i : Fin 256) :
    k0_pay10 g (ix2 d i) = p d := by
  unfold k0_pay10
  pointwise
  exact lanes (fun l => g (ix2 d l)) _ (hp d) i
theorem pay11_apply (v : FVec Ideal S1024x256 .f32) (a b : Vec Ideal S1x1024x128 .f32) (w : Vec Ideal S1024x1024 .bf16) (f : Fin 1024) (i : Fin 256) :
    k0_pay11 v a b w (ix2 f i) = ∑ e, k0_pay6 v a b (ix2 e i) * w (ix2 f e) := by
  unfold k0_pay11
  generalize k0_pay6 v a b = H
  pointwise
  exact Finset.sum_congr rfl fun k _ => mul_comm _ _
theorem pay88_apply (H : FVec Ideal S1024x256 .bf16) (w : Vec Ideal S1024x1024 .bf16) (f : Fin 1024) (i : Fin 256) :
    k0_pay88 H w (ix2 f i) = ∑ e, H (ix2 e i) * w (ix2 f e) := by
  unfold k0_pay88
  pointwise
  exact Finset.sum_congr rfl fun k _ => mul_comm _ _
theorem pay1_apply (H : FVec Ideal S1024x256 .bf16) (w : Vec Ideal S1024x1024 .bf16) (f : Fin 1024) (i : Fin 256) :
    k0_pay1 H w (ix4 0 0 f i) = ∑ e, H (ix2 e i) * w (ix2 f e) := by
  unfold k0_pay1
  pointwise
  exact Finset.sum_congr rfl fun k _ => mul_comm _ _
theorem pay2_apply (H : FVec Ideal S1024x256 .bf16) (w : Vec Ideal S1024x1024 .bf16) (f : Fin 1024) (i : Fin 256) :
    k0_pay2 H w (ix3 0 f i) = (∑ e, H (ix2 e i) * w (ix2 f e)) * Ideal.logistic (∑ e, H (ix2 e i) * w (ix2 f e)) := by
  unfold k0_pay2
  rw [show (∑ e, H (ix2 e i) * w (ix2 f e)) = ∑ e, w (ix2 f e) * H (ix2 e i) from Finset.sum_congr rfl fun k _ => mul_comm _ _]
  pointwise

theorem pay7_apply (c : Vec Ideal S32x256 .f32) (f : Fin 32) (i : Fin 256) : k0_pay7 c (ix2 f i) = c (ix2 f i) := by
  unfold k0_pay7
  pointwise
theorem pay8_apply (c : Vec Ideal S32x256 .f32) (f : Fin 32) (i : Fin 256) : k0_pay8 c (ix2 f i) = c (ix2 f i) := by
  unfold k0_pay8
  pointwise

/-! ## The stores together -/

/-- The heads' entries stacked by rows, -/
def placeQ (Y : Fin 256 → Fin 16 → Fin 64 → EReal) : S1x1x1024x256.Idx → EReal := fun y =>
  Y (y 3) ⟨(y 2).val / 64, by have : (y 2).val < 1024 := (y 2).isLt; omega⟩ ⟨(y 2).val % 64, by omega⟩
/-- and by heads, with zeros to the right. -/
def placeK (Y : Fin 256 → Fin 16 → Fin 64 → EReal) : S1x1x16x256x128.Idx → EReal := fun y =>
  if h : (y 4).val < 64 then Y (y 3) (y 2) ⟨(y 4).val, h⟩ else 0
/-- The rotated heads. -/
def heads (c s : FVec Ideal S32x256 .f32) (g : FVec Ideal S64x256 .f32) (u : FVec Ideal S1024x256 .f32) (i : Fin 256) (h : Fin 16) : Fin 64 → EReal :=
  rot (headn (fun f => u (ix2 f i)) (fun d => g (ix2 d i)) h) (fun f => c (ix2 f i)) (fun f => s (ix2 f i))

theorem placeQ_head (Y : Fin 256 → Fin 16 → Fin 64 → EReal) (h : Fin 16) (d : Fin 64) (i : Fin 256) : placeQ Y (ix4 0 0 (ft h d) i) = Y i h d := by
  have h1 : (⟨(64 * h.val + d.val) / 64, by omega⟩ : Fin 16) = h := Fin.ext (by show (64 * h.val + d.val) / 64 = h.val; omega)
  have h2 : (⟨(64 * h.val + d.val) % 64, by omega⟩ : Fin 64) = d := Fin.ext (by show (64 * h.val + d.val) % 64 = d.val; omega)
  exact congrArg₂ (Y i) h1 h2

theorem pieceQ (Y : Fin 256 → Fin 16 → Fin 64 → EReal) (h : Fin 16) (n : ℕ) (hn : n = 64 * h.val)
    (inb : ∀ a, (![0, 0, n, 0] : Fin 4 → ℕ) a + S1x1x64x256.size a ≤ S1x1x1024x256.size a) (P : Vec Ideal S1x1x64x256 .bf16)
    (hP : ∀ (i : Fin 256) (d : Fin 64), P (ix4 0 0 d i) = Y i h d) (x : S1x1x64x256.Idx) :
    P x = placeQ Y ((Rect.unit (s := S1x1x1024x256) ![0, 0, n, 0] S1x1x64x256.size inb).emb x) := by
  subst hn
  obtain ⟨d, i, rfl⟩ : ∃ (d : Fin 64) (i : Fin 256), x = (ix4 0 0 d i : S1x1x64x256.Idx) :=
    ⟨x 2, x 3, funext fun a => match a with
      | ⟨0, _⟩ => Fin.ext (by have : (x 0).val < 1 := (x 0).isLt; show (x 0).val = 0; omega)
      | ⟨1, _⟩ => Fin.ext (by have : (x 1).val < 1 := (x 1).isLt; show (x 1).val = 0; omega)
      | ⟨2, _⟩ => rfl
      | ⟨3, _⟩ => rfl⟩
  rw [hP, ← placeQ_head Y h d i]
  refine congrArg (placeQ Y) (funext fun a => Fin.ext ?_)
  match a with
  | ⟨0, _⟩ => rfl
  | ⟨1, _⟩ => rfl
  | ⟨2, _⟩ => show 64 * h.val + d.val = 64 * h.val + 1 * d.val; omega
  | ⟨3, _⟩ => show i.val = 0 + 1 * i.val; omega

theorem pieceK (Y : Fin 256 → Fin 16 → Fin 64 → EReal) (h : Fin 16) (n : ℕ) (hn : n = h.val)
    (inb : ∀ a, (![0, 0, n, 0, 0] : Fin 5 → ℕ) a + S1x1x1x256x128.size a ≤ S1x1x16x256x128.size a) (P : Vec Ideal S1x1x1x256x128 .bf16)
    (hP : ∀ (i : Fin 256) (l : Fin 128), P (ix5 0 0 0 i l) = if hl : l.val < 64 then Y i h ⟨l.val, hl⟩ else 0)
    (x : S1x1x1x256x128.Idx) : P x = placeK Y ((Rect.unit (s := S1x1x16x256x128) ![0, 0, n, 0, 0] S1x1x1x256x128.size inb).emb x) := by
  subst hn
  obtain ⟨i, l, rfl⟩ : ∃ (i : Fin 256) (l : Fin 128), x = (ix5 0 0 0 i l : S1x1x1x256x128.Idx) :=
    ⟨x 3, x 4, funext fun a => match a with
      | ⟨0, _⟩ => Fin.ext (by have : (x 0).val < 1 := (x 0).isLt; show (x 0).val = 0; omega)
      | ⟨1, _⟩ => Fin.ext (by have : (x 1).val < 1 := (x 1).isLt; show (x 1).val = 0; omega)
      | ⟨2, _⟩ => Fin.ext (by have : (x 2).val < 1 := (x 2).isLt; show (x 2).val = 0; omega)
      | ⟨3, _⟩ => rfl
      | ⟨4, _⟩ => rfl⟩
  rw [hP]
  refine (show _ = placeK Y (ix5 0 0 h i l) from rfl).trans (congrArg (placeK Y) (funext fun a => Fin.ext ?_))
  match a with
  | ⟨0, _⟩ => rfl
  | ⟨1, _⟩ => rfl
  | ⟨2, _⟩ => show h.val = h.val + 1 * 0; omega
  | ⟨3, _⟩ => show i.val = 0 + 1 * i.val; omega
  | ⟨4, _⟩ => show l.val = 0 + 1 * l.val; omega

variable (x0 : Vec Ideal S1x1x1024x256 .bf16) (x1 : Vec Ideal S1x1024x256 .bf16) (x2 : Vec Ideal S1024x1024 .bf16) (x3 : Vec Ideal S1x1024x128 .f32)
  (x4 : Vec Ideal S1x1024x256 .f32) (x5 : Vec Ideal S1x1024x128 .f32) (x6 : Vec Ideal S1x1024x128 .f32) (x7 : Vec Ideal S4096x1024 .bf16)
  (x8 x9 : Vec Ideal S32x256 .f32) (x10 x11 : Vec Ideal S64x128 .f32)

theorem out13_eq (y : S1x1x1024x256.Idx) : out0_13 x0 x1 x2 x3 x4 x5 x6 x7 x8 x9 x10 x11 y = placeQ (heads (k0_pay162 x0 x1 x2 x3 x4 x5 x6 x7 x8 x9 x10 x11) (k0_pay163 x0 x1 x2 x3 x4 x5 x6 x7 x8 x9 x10 x11) (k0_pay164 x0 x1 x2 x3 x4 x5 x6 x7 x8 x9 x10 x11) (k0_pay166 x0 x1 x2 x3 x4 x5 x6 x7 x8 x9 x10 x11)) y := by
  unfold out0_13
  refine View.canon_apply_of_pieces (Val := Elt Ideal) (e := .bf16) (placeQ (heads (k0_pay162 x0 x1 x2 x3 x4 x5 x6 x7 x8 x9 x10 x11) (k0_pay163 x0 x1 x2 x3 x4 x5 x6 x7 x8 x9 x10 x11) (k0_pay164 x0 x1 x2 x3 x4 x5 x6 x7 x8 x9 x10 x11) (k0_pay166 x0 x1 x2 x3 x4 x5 x6 x7 x8 x9 x10 x11))) _ ?_ y (cover0_13 _ _ _ _ _ _ _ _ _ _ _ _ _ _ _ _ y)
  intro pc hpc
  rcases List.mem_cons.mp hpc with rfl | hpc
  · exact pieceQ _ 15 960 rfl inb_S1x1x1024x256_S1x1x64x256_0_0_960_0 _ (q15 _ _ _ _)
  rcases List.mem_cons.mp hpc with rfl | hpc
  · exact pieceQ _ 14 896 rfl inb_S1x1x1024x256_S1x1x64x256_0_0_896_0 _ (q14 _ _ _ _)
  rcases List.mem_cons.mp hpc with rfl | hpc
  · exact pieceQ _ 13 832 rfl inb_S1x1x1024x256_S1x1x64x256_0_0_832_0 _ (q13 _ _ _ _)
  rcases List.mem_cons.mp hpc with rfl | hpc
  · exact pieceQ _ 12 768 rfl inb_S1x1x1024x256_S1x1x64x256_0_0_768_0 _ (q12 _ _ _ _)
  rcases List.mem_cons.mp hpc with rfl | hpc
  · exact pieceQ _ 11 704 rfl inb_S1x1x1024x256_S1x1x64x256_0_0_704_0 _ (q11 _ _ _ _)
  rcases List.mem_cons.mp hpc with rfl | hpc
  · exact pieceQ _ 10 640 rfl inb_S1x1x1024x256_S1x1x64x256_0_0_640_0 _ (q10 _ _ _ _)
  rcases List.mem_cons.mp hpc with rfl | hpc
  · exact pieceQ _ 9 576 rfl inb_S1x1x1024x256_S1x1x64x256_0_0_576_0 _ (q9 _ _ _ _)
  rcases List.mem_cons.mp hpc with rfl | hpc
  · exact pieceQ _ 8 512 rfl inb_S1x1x1024x256_S1x1x64x256_0_0_512_0 _ (q8 _ _ _ _)
  rcases List.mem_cons.mp hpc with rfl | hpc
  · exact pieceQ _ 7 448 rfl inb_S1x1x1024x256_S1x1x64x256_0_0_448_0 _ (q7 _ _ _ _)
  rcases List.mem_cons.mp hpc with rfl | hpc
  · exact pieceQ _ 6 384 rfl inb_S1x1x1024x256_S1x1x64x256_0_0_384_0 _ (q6 _ _ _ _)
  rcases List.mem_cons.mp hpc with rfl | hpc
  · exact pieceQ _ 5 320 rfl inb_S1x1x1024x256_S1x1x64x256_0_0_320_0 _ (q5 _ _ _ _)
  rcases List.mem_cons.mp hpc with rfl | hpc
  · exact pieceQ _ 4 256 rfl inb_S1x1x1024x256_S1x1x64x256_0_0_256_0 _ (q4 _ _ _ _)
  rcases List.mem_cons.mp hpc with rfl | hpc
  · exact pieceQ _ 3 192 rfl inb_S1x1x1024x256_S1x1x64x256_0_0_192_0 _ (q3 _ _ _ _)
  rcases List.mem_cons.mp hpc with rfl | hpc
  · exact pieceQ _ 2 128 rfl inb_S1x1x1024x256_S1x1x64x256_0_0_128_0 _ (q2 _ _ _ _)
  rcases List.mem_cons.mp hpc with rfl | hpc
  · exact pieceQ _ 1 64 rfl inb_S1x1x1024x256_S1x1x64x256_0_0_64_0 _ (q1 _ _ _ _)
  rcases List.mem_cons.mp hpc with rfl | hpc
  · exact pieceQ _ 0 0 rfl inb_S1x1x1024x256_S1x1x64x256_0_0_0_0 _ (q0 _ _ _ _ _ _ _)
  nomatch hpc
theorem out14_eq (y : S1x1x16x256x128.Idx) : out0_14 x0 x1 x2 x3 x4 x5 x6 x7 x8 x9 x10 x11 y = placeK (heads (k0_pay162 x0 x1 x2 x3 x4 x5 x6 x7 x8 x9 x10 x11) (k0_pay163 x0 x1 x2 x3 x4 x5 x6 x7 x8 x9 x10 x11) (k0_pay165 x0 x1 x2 x3 x4 x5 x6 x7 x8 x9 x10 x11) (k0_pay167 x0 x1 x2 x3 x4 x5 x6 x7 x8 x9 x10 x11)) y := by
  unfold out0_14
  refine View.canon_apply_of_pieces (Val := Elt Ideal) (e := .bf16) (placeK (heads (k0_pay162 x0 x1 x2 x3 x4 x5 x6 x7 x8 x9 x10 x11) (k0_pay163 x0 x1 x2 x3 x4 x5 x6 x7 x8 x9 x10 x11) (k0_pay165 x0 x1 x2 x3 x4 x5 x6 x7 x8 x9 x10 x11) (k0_pay167 x0 x1 x2 x3 x4 x5 x6 x7 x8 x9 x10 x11))) _ ?_ y (cover0_14 _ _ _ _ _ _ _ _ _ _ _ _ _ _ _ _ y)
  intro pc hpc
  rcases List.mem_cons.mp hpc with rfl | hpc
  · exact pieceK _ 15 15 rfl inb_S1x1x16x256x128_S1x1x1x256x128_0_0_15_0_0 _ (k15 _ _ _ _)
  rcases List.mem_cons.mp hpc with rfl | hpc
  · exact pieceK _ 14 14 rfl inb_S1x1x16x256x128_S1x1x1x256x128_0_0_14_0_0 _ (k14 _ _ _ _)
  rcases List.mem_cons.mp hpc with rfl | hpc
  · exact pieceK _ 13 13 rfl inb_S1x1x16x256x128_S1x1x1x256x128_0_0_13_0_0 _ (k13 _ _ _ _)
  rcases List.mem_cons.mp hpc with rfl | hpc
  · exact pieceK _ 12 12 rfl inb_S1x1x16x256x128_S1x1x1x256x128_0_0_12_0_0 _ (k12 _ _ _ _)
  rcases List.mem_cons.mp hpc with rfl | hpc
  · exact pieceK _ 11 11 rfl inb_S1x1x16x256x128_S1x1x1x256x128_0_0_11_0_0 _ (k11 _ _ _ _)
  rcases List.mem_cons.mp hpc with rfl | hpc
  · exact pieceK _ 10 10 rfl inb_S1x1x16x256x128_S1x1x1x256x128_0_0_10_0_0 _ (k10 _ _ _ _)
  rcases List.mem_cons.mp hpc with rfl | hpc
  · exact pieceK _ 9 9 rfl inb_S1x1x16x256x128_S1x1x1x256x128_0_0_9_0_0 _ (k9 _ _ _ _)
  rcases List.mem_cons.mp hpc with rfl | hpc
  · exact pieceK _ 8 8 rfl inb_S1x1x16x256x128_S1x1x1x256x128_0_0_8_0_0 _ (k8 _ _ _ _)
  rcases List.mem_cons.mp hpc with rfl | hpc
  · exact pieceK _ 7 7 rfl inb_S1x1x16x256x128_S1x1x1x256x128_0_0_7_0_0 _ (k7 _ _ _ _)
  rcases List.mem_cons.mp hpc with rfl | hpc
  · exact pieceK _ 6 6 rfl inb_S1x1x16x256x128_S1x1x1x256x128_0_0_6_0_0 _ (k6 _ _ _ _)
  rcases List.mem_cons.mp hpc with rfl | hpc
  · exact pieceK _ 5 5 rfl inb_S1x1x16x256x128_S1x1x1x256x128_0_0_5_0_0 _ (k5 _ _ _ _)
  rcases List.mem_cons.mp hpc with rfl | hpc
  · exact pieceK _ 4 4 rfl inb_S1x1x16x256x128_S1x1x1x256x128_0_0_4_0_0 _ (k4 _ _ _ _)
  rcases List.mem_cons.mp hpc with rfl | hpc
  · exact pieceK _ 3 3 rfl inb_S1x1x16x256x128_S1x1x1x256x128_0_0_3_0_0 _ (k3 _ _ _ _)
  rcases List.mem_cons.mp hpc with rfl | hpc
  · exact pieceK _ 2 2 rfl inb_S1x1x16x256x128_S1x1x1x256x128_0_0_2_0_0 _ (k2 _ _ _ _)
  rcases List.mem_cons.mp hpc with rfl | hpc
  · exact pieceK _ 1 1 rfl inb_S1x1x16x256x128_S1x1x1x256x128_0_0_1_0_0 _ (k1 _ _ _ _)
  rcases List.mem_cons.mp hpc with rfl | hpc
  · exact pieceK _ 0 0 rfl inb_S1x1x16x256x128_S1x1x1x256x128_0_0_0_0_0 _ (k0 _ _ _ _ _)
  nomatch hpc
/-! ## The blocks at one token -/

theorem ld_0 (f e : Fin 1024) : View.ld x7 r0_6 (ix2 f e) = x7 (ix2 ⟨f.val, by omega⟩ e) :=
  View.ld_unit_apply_of x7 _ _ _ _ _ fun a => by fin_cases a <;> [(show f.val = 0 + f.val); (show e.val = 0 + e.val)] <;> omega
theorem ld_1 (f e : Fin 1024) : View.ld x7 r0_23 (ix2 f e) = x7 (ix2 ⟨1024 + f.val, by omega⟩ e) :=
  View.ld_unit_apply_of x7 _ _ _ _ _ fun a => by fin_cases a <;> [(show 1024 + f.val = 1024 + f.val); (show e.val = 0 + e.val)] <;> omega
theorem ld_2 (f e : Fin 1024) : View.ld x7 r0_40 (ix2 f e) = x7 (ix2 ⟨2048 + f.val, by omega⟩ e) :=
  View.ld_unit_apply_of x7 _ _ _ _ _ fun a => by fin_cases a <;> [(show 2048 + f.val = 2048 + f.val); (show e.val = 0 + e.val)] <;> omega
theorem ld_3 (f e : Fin 1024) : View.ld x7 r0_41 (ix2 f e) = x7 (ix2 ⟨3072 + f.val, by omega⟩ e) :=
  View.ld_unit_apply_of x7 _ _ _ _ _ fun a => by fin_cases a <;> [(show 3072 + f.val = 3072 + f.val); (show e.val = 0 + e.val)] <;> omega

variable {x0 x1 x2 x3 x4 x5 x6 x7 x8 x9 x10 x11} {gt a b : Fin 1024 → EReal} {gq gk : Fin 64 → EReal} (H : Cols x3 x5 x6 x10 x11 gt a b gq gk)
include H

theorem pay160_apply (e : Fin 1024) (i : Fin 256) : k0_pay160 x0 x1 x2 x3 x4 x5 x6 x7 x8 x9 x10 x11 (ix2 e i)
    = newX x0 x1 x2 x4 gt i e * Ideal.rsqrt ((∑ k, newX x0 x1 x2 x4 gt i k * newX x0 x1 x2 x4 gt i k) * c1024 + eps) := by
  unfold k0_pay160
  rw [View.ld_unit_lit _ x0 (by decide), View.ld_unit_lit _ x1 (by decide), View.ld_unit_lit _ x2 (by decide), View.ld_unit_lit _ x3 (by decide),
    View.ld_unit_lit _ x4 (by decide), pay5_apply]
  simp only [pay3_apply x0 x1 x2 x4 x3 gt H.ht]
  rfl
theorem pay161_apply (e : Fin 1024) (i : Fin 256) : k0_pay161 x0 x1 x2 x3 x4 x5 x6 x7 x8 x9 x10 x11 (ix2 e i) = hid (newX x0 x1 x2 x4 gt i) a b e := by
  unfold k0_pay161
  rw [View.ld_unit_lit _ x5 (by decide), View.ld_unit_lit _ x6 (by decide), pay6_apply _ _ _ a b H.ha H.hb, pay160_apply H]
  rfl
theorem pay166_apply (f : Fin 1024) (i : Fin 256) : k0_pay166 x0 x1 x2 x3 x4 x5 x6 x7 x8 x9 x10 x11 (ix2 f i) = newU x0 x1 x2 x4 x7 gt a b i ⟨f.val, by omega⟩ := by
  unfold k0_pay166
  rw [pay11_apply]
  refine Finset.sum_congr rfl fun e _ => congrArg₂ (· * ·) (pay161_apply H e i) (ld_0 x7 f e)
theorem pay167_apply (f : Fin 1024) (i : Fin 256) : k0_pay167 x0 x1 x2 x3 x4 x5 x6 x7 x8 x9 x10 x11 (ix2 f i) = newU x0 x1 x2 x4 x7 gt a b i ⟨1024 + f.val, by omega⟩ := by
  unfold k0_pay167
  rw [pay88_apply]
  refine Finset.sum_congr rfl fun e _ => congrArg₂ (· * ·) (pay161_apply H e i) (ld_1 x7 f e)

theorem out12_apply (e : Fin 1024) (i : Fin 256) : out0_12 x0 x1 x2 x3 x4 x5 x6 x7 x8 x9 x10 x11 (ix3 0 e i) = newX x0 x1 x2 x4 gt i e := by
  unfold out0_12
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide)]
  exact (pay4_apply _ _ _ _ _ e i).trans (pay3_apply x0 x1 x2 x4 x3 gt H.ht e i)
theorem heads_q {cs ss : Fin 256 → Fin 32 → EReal} (Hc : ∀ f i, x8 (ix2 f i) = cs i f) (Hs : ∀ f i, x9 (ix2 f i) = ss i f) (i : Fin 256) (h : Fin 16) :
    heads (k0_pay162 x0 x1 x2 x3 x4 x5 x6 x7 x8 x9 x10 x11) (k0_pay163 x0 x1 x2 x3 x4 x5 x6 x7 x8 x9 x10 x11) (k0_pay164 x0 x1 x2 x3 x4 x5 x6 x7 x8 x9 x10 x11) (k0_pay166 x0 x1 x2 x3 x4 x5 x6 x7 x8 x9 x10 x11) i h = rot (headn (fun f => newU x0 x1 x2 x4 x7 gt a b i ⟨f.val, by omega⟩) gq h) (cs i) (ss i) := by
  have hc : ∀ f, k0_pay162 x0 x1 x2 x3 x4 x5 x6 x7 x8 x9 x10 x11 (ix2 f i) = cs i f := fun f => by
    unfold k0_pay162
    rw [View.ld_unit_lit _ x8 (by decide), pay7_apply]
    exact Hc f i
  have hs : ∀ f, k0_pay163 x0 x1 x2 x3 x4 x5 x6 x7 x8 x9 x10 x11 (ix2 f i) = ss i f := fun f => by
    unfold k0_pay163
    rw [View.ld_unit_lit _ x9 (by decide), pay8_apply]
    exact Hs f i
  have hg : ∀ d, k0_pay164 x0 x1 x2 x3 x4 x5 x6 x7 x8 x9 x10 x11 (ix2 d i) = gq d := fun d => by
    unfold k0_pay164
    rw [View.ld_unit_lit _ x10 (by decide)]
    exact pay9_apply x10 gq H.hq d i
  unfold heads
  simp only [pay166_apply H, hg, hc, hs]
theorem heads_k {cs ss : Fin 256 → Fin 32 → EReal} (Hc : ∀ f i, x8 (ix2 f i) = cs i f) (Hs : ∀ f i, x9 (ix2 f i) = ss i f) (i : Fin 256) (h : Fin 16) :
    heads (k0_pay162 x0 x1 x2 x3 x4 x5 x6 x7 x8 x9 x10 x11) (k0_pay163 x0 x1 x2 x3 x4 x5 x6 x7 x8 x9 x10 x11) (k0_pay165 x0 x1 x2 x3 x4 x5 x6 x7 x8 x9 x10 x11) (k0_pay167 x0 x1 x2 x3 x4 x5 x6 x7 x8 x9 x10 x11) i h = rot (headn (fun f => newU x0 x1 x2 x4 x7 gt a b i ⟨1024 + f.val, by omega⟩) gk h) (cs i) (ss i) := by
  have hc : ∀ f, k0_pay162 x0 x1 x2 x3 x4 x5 x6 x7 x8 x9 x10 x11 (ix2 f i) = cs i f := fun f => by
    unfold k0_pay162
    rw [View.ld_unit_lit _ x8 (by decide), pay7_apply]
    exact Hc f i
  have hs : ∀ f, k0_pay163 x0 x1 x2 x3 x4 x5 x6 x7 x8 x9 x10 x11 (ix2 f i) = ss i f := fun f => by
    unfold k0_pay163
    rw [View.ld_unit_lit _ x9 (by decide), pay8_apply]
    exact Hs f i
  have hg : ∀ d, k0_pay165 x0 x1 x2 x3 x4 x5 x6 x7 x8 x9 x10 x11 (ix2 d i) = gk d := fun d => by
    unfold k0_pay165
    rw [View.ld_unit_lit _ x11 (by decide)]
    exact pay10_apply x11 gk H.hk d i
  unfold heads
  simp only [pay167_apply H, hg, hc, hs]
theorem out13_apply {cs ss : Fin 256 → Fin 32 → EReal} (Hc : ∀ f i, x8 (ix2 f i) = cs i f) (Hs : ∀ f i, x9 (ix2 f i) = ss i f) (h : Fin 16) (d : Fin 64)
    (i : Fin 256) : out0_13 x0 x1 x2 x3 x4 x5 x6 x7 x8 x9 x10 x11 (ix4 0 0 (ft h d) i) = rot (headn (fun f => newU x0 x1 x2 x4 x7 gt a b i ⟨f.val, by omega⟩) gq h) (cs i) (ss i) d := by
  rw [out13_eq, placeQ_head, heads_q H Hc Hs]
theorem out14_apply {cs ss : Fin 256 → Fin 32 → EReal} (Hc : ∀ f i, x8 (ix2 f i) = cs i f) (Hs : ∀ f i, x9 (ix2 f i) = ss i f) (h : Fin 16) (l : Fin 128)
    (i : Fin 256) : out0_14 x0 x1 x2 x3 x4 x5 x6 x7 x8 x9 x10 x11 (ix5 0 0 h i l)
    = if hl : l.val < 64 then rot (headn (fun f => newU x0 x1 x2 x4 x7 gt a b i ⟨1024 + f.val, by omega⟩) gk h) (cs i) (ss i) ⟨l.val, hl⟩ else 0 := by
  rw [out14_eq, ← heads_k H Hc Hs i h]
  rfl
theorem out15_apply (f : Fin 1024) (i : Fin 256) : out0_15 x0 x1 x2 x3 x4 x5 x6 x7 x8 x9 x10 x11 (ix4 0 0 f i) = newU x0 x1 x2 x4 x7 gt a b i ⟨2048 + f.val, by omega⟩ := by
  unfold out0_15
  rw [View.canon_cons_unit_lit _ _ _ (by decide), pay1_apply]
  refine Finset.sum_congr rfl fun e _ => congrArg₂ (· * ·) (pay161_apply H e i) (ld_2 x7 f e)
theorem out16_apply (f : Fin 1024) (i : Fin 256) : out0_16 x0 x1 x2 x3 x4 x5 x6 x7 x8 x9 x10 x11 (ix3 0 f i)
    = newU x0 x1 x2 x4 x7 gt a b i ⟨3072 + f.val, by omega⟩ * Ideal.logistic (newU x0 x1 x2 x4 x7 gt a b i ⟨3072 + f.val, by omega⟩) := by
  unfold out0_16
  rw [View.canon_cons_unit_lit _ _ _ (by decide), pay2_apply]
  have h : (∑ e, k0_pay161 x0 x1 x2 x3 x4 x5 x6 x7 x8 x9 x10 x11 (ix2 e i) * View.ld x7 r0_41 (ix2 f e)) = newU x0 x1 x2 x4 x7 gt a b i ⟨3072 + f.val, by omega⟩ :=
    Finset.sum_congr rfl fun e _ => congrArg₂ (· * ·) (pay161_apply H e i) (ld_3 x7 f e)
  rw [h]

end Cert.Proof.Rope
end
-- ==== Proof.RopeRef.lean ====
/-
  The reference of the projections with rotary embedding at one token, in the terms the kernel's values are stated in.
-/
module

public import proofs.«01_k».proof.Proof.RopeBody
public import proofs.«01_k».proof.Proof.ProjRef
public import proofs.«01_k».proof.Proof.Gen.Reference4Ideal.Read

@[expose] public section

set_option maxRecDepth 16384

noncomputable section

namespace Cert.Proof.Rope

open Cert.Reference4Ideal Cert.Reference4Ideal.Gen Cert.Reference4Ideal.Read
open Cert.Proof.Proj (c1024 c64 eps ft newx hid up headn sel refX refA refU div_1024 div_64 bits_zero bits_one)
open Idealize.ShloMosaic Idealize.ShloMosaic.TcCoe Idealize.ShloMosaic.Tactic

/-! ## The rotation -/

/-- The angle of a token's pair: none for the context's tokens, the row's and the column's for the others. -/
def ang (T : Fin 4352) (f : Fin 32) : EReal :=
  if h : T.val < 256 then 0
  else if h' : f.val < 16 then val_main_v81 (F := Ideal) (ix2 ⟨T.val - 256, by omega⟩ ⟨f.val, h'⟩)
  else val_main_v86 (F := Ideal) (ix2 ⟨T.val - 256, by omega⟩ ⟨f.val - 16, by omega⟩)

theorem cos_zero : Ideal.cos 0 = 1 := congrArg Real.toEReal Real.cos_zero
theorem sin_zero : Ideal.sin 0 = 0 := congrArg Real.toEReal Real.sin_zero

/-- No angle, no rotation. -/
theorem rot_none (y : Fin 64 → EReal) (d : Fin 64) : rot y (fun _ => 1) (fun _ => 0) d = y d := by
  unfold rot
  simp only [mul_one, mul_zero, sub_zero, add_zero]
  split_ifs <;> first | rfl | exact congrArg y (Fin.ext (by simp only; omega))

variable (x0 x1 x2 : FVec Ideal S8x4352x1024 .f32) (x3 : FVec Ideal S8x1024 .f32) (x4 : FVec Ideal S1024 .f32) (x5 : FVec Ideal S1024x1024 .f32)
  (x6 : FVec Ideal S1024 .f32) (x7 : FVec Ideal S8x1024 .f32) (x8 : FVec Ideal S1024 .f32) (x9 : FVec Ideal S8x1024 .f32) (x10 : FVec Ideal S1024 .f32)
  (x11 : FVec Ideal S1024x4096 .f32) (x12 x13 : FVec Ideal S64 .f32)

/-! ## The stages the rotation does not touch: the other projection's, in the same words -/

theorem v7_same : val_main_v7 (F := Ideal) x0 x1 x2 x3 x4 x5 = Cert.Reference3Ideal.Read.val_main_v7 (F := Ideal) x0 x1 x2 x3 x4 x5 := rfl
theorem v33_same : val_main_v33 (F := Ideal) x0 x1 x2 x3 x4 x5 x6 x7 x8 x9 x10 x11 = Cert.Reference3Ideal.Read.val_main_v33 (F := Ideal) x0 x1 x2 x3 x4 x5 x6 x7 x8 x9 x10 x11 := rfl
theorem v33_apply (b : Fin 8) (T : Fin 4352) (n : Fin 4096) : val_main_v33 (F := Ideal) x0 x1 x2 x3 x4 x5 x6 x7 x8 x9 x10 x11 (ix3 b T n) = refU x0 x1 x2 x3 x4 x5 x6 x7 x8 x9 x10 x11 b T n := by
  rw [v33_same]
  exact Cert.Proof.Proj.v33_apply x0 x1 x2 x3 x4 x5 x6 x7 x8 x9 x10 x11 b T n
theorem v7_apply (b : Fin 8) (T : Fin 4352) (e : Fin 1024) : val_main_v7 (F := Ideal) x0 x1 x2 x3 x4 x5 (ix3 b T e) = refX x0 x1 x2 x3 x4 x5 b T e := by
  rw [v7_same]
  exact Cert.Proof.Proj.v7_apply x0 x1 x2 x3 x4 x5 b T e

/-- Over extended reals a rounding is the value itself. -/
theorem round_val {s : Shape} (x : FVec Ideal s .f32) (h : FTy.bf16.bits < FTy.f32.bits) (i : s.Idx) : truncf (F := Ideal) .bf16 x h i = x i := rfl

theorem v172_apply (b : Fin 8) (e : Fin 1024) (T : Fin 4352) : val_main_v172 (F := Ideal) x0 x1 x2 x3 x4 x5 (ix3 b e T) = refX x0 x1 x2 x3 x4 x5 b T e := by
  rw [← v7_apply]
  unfold val_main_v172
  generalize val_main_v7 (F := Ideal) x0 x1 x2 x3 x4 x5 = X
  pointwise
theorem v178_apply (b : Fin 8) (t : Fin 17) (e : Fin 1024) (i : Fin 256) : val_main_v178 (F := Ideal) x0 x1 x2 x3 x4 x5 x6 x7 x8 x9 x10 x11 (ix4 b t e i)
    = refU x0 x1 x2 x3 x4 x5 x6 x7 x8 x9 x10 x11 b ⟨256 * t.val + i.val, by omega⟩ ⟨2048 + e.val, by omega⟩ := by
  rw [← v33_apply]
  unfold val_main_v178
  rw [round_val]
  unfold val_main_v177
  refine (transpose_apply _ _ _ (ix4 b t e i) (ix4 b t i e) fun a => ?_).trans ?_
  · fin_cases a <;> rfl
  unfold val_main_v176
  refine (shapeCast_apply _ _ _ (ix3 b ⟨256 * t.val + i.val, by omega⟩ e) ?_).trans ?_
  · rw [Shape.rowMajor_val_three, Shape.rowMajor_val_four]
    show (b.val * 4352 + (256 * t.val + i.val)) * 1024 + e.val = ((b.val * 17 + t.val) * 256 + i.val) * 1024 + e.val
    omega
  unfold val_main_v36
  generalize val_main_v33 (F := Ideal) x0 x1 x2 x3 x4 x5 x6 x7 x8 x9 x10 x11 = U
  pointwise
theorem v181_apply (b : Fin 8) (e : Fin 1024) (T : Fin 4352) : val_main_v181 (F := Ideal) x0 x1 x2 x3 x4 x5 x6 x7 x8 x9 x10 x11 (ix3 b e T)
    = refU x0 x1 x2 x3 x4 x5 x6 x7 x8 x9 x10 x11 b T ⟨3072 + e.val, by omega⟩ * Ideal.logistic (refU x0 x1 x2 x3 x4 x5 x6 x7 x8 x9 x10 x11 b T ⟨3072 + e.val, by omega⟩) := by
  rw [← v33_apply]
  unfold Ideal.logistic val_main_v181 val_main_v180 val_main_v179 val_main_call2_v5 val_main_call2_v4 val_main_call2_v3 val_main_call2_v2 val_main_call2_v1 val_main_call2_v0
    val_main_call2_cst val_main_call2_cst_0 val_main_v37
  rw [← bits_one]
  generalize val_main_v33 (F := Ideal) x0 x1 x2 x3 x4 x5 x6 x7 x8 x9 x10 x11 = U
  pointwise

/-! ## The heads -/

/-- The head the two maps of a pair are. -/
def hd (h : Fin 8) (m : Fin 2) : Fin 16 := ⟨2 * h.val + m.val, by omega⟩

theorem v51_apply (b : Fin 8) (T : Fin 4352) (h : Fin 8) (m : Fin 2) (d : Fin 64) : val_main_v51 (F := Ideal) x0 x1 x2 x3 x4 x5 x6 x7 x8 x9 x10 x11 x12 (ix5 b T h m d)
    = headn (fun f => refU x0 x1 x2 x3 x4 x5 x6 x7 x8 x9 x10 x11 b T ⟨f.val, by omega⟩) (fun d => x12 (ix1 d)) (hd h m) d := by
  have hm : ft (hd h m) = fun d => ⟨h.val * 128 + m.val * 64 + d.val, by omega⟩ :=
    funext fun d => Fin.ext (by show 64 * (2 * h.val + m.val) + d.val = h.val * 128 + m.val * 64 + d.val; omega)
  unfold headn
  rw [hm]
  simp only [← v33_apply]
  rw [← div_64]
  unfold val_main_v51 val_main_v50 val_main_v49 val_main_v48 val_main_v47 val_main_v46 val_main_v45 val_main_v44 val_main_v43 val_main_v42 val_main_v41 val_main_v40 val_main_v39 val_main_v38 val_main_cst_5 val_main_cst_4 val_main_cst_3 val_main_v34
  generalize val_main_v33 (F := Ideal) x0 x1 x2 x3 x4 x5 x6 x7 x8 x9 x10 x11 = U
  pointwise
theorem v65_apply (b : Fin 8) (T : Fin 4352) (h : Fin 8) (m : Fin 2) (d : Fin 64) : val_main_v65 (F := Ideal) x0 x1 x2 x3 x4 x5 x6 x7 x8 x9 x10 x11 x13 (ix5 b T h m d)
    = headn (fun f => refU x0 x1 x2 x3 x4 x5 x6 x7 x8 x9 x10 x11 b T ⟨1024 + f.val, by omega⟩) (fun d => x13 (ix1 d)) (hd h m) d := by
  have hm : ft (hd h m) = fun d => ⟨h.val * 128 + m.val * 64 + d.val, by omega⟩ :=
    funext fun d => Fin.ext (by show 64 * (2 * h.val + m.val) + d.val = h.val * 128 + m.val * 64 + d.val; omega)
  unfold headn
  rw [hm]
  simp only [← v33_apply]
  rw [← div_64]
  unfold val_main_v65 val_main_v64 val_main_v63 val_main_v62 val_main_v61 val_main_v60 val_main_v59 val_main_v58 val_main_v57 val_main_v56 val_main_v55 val_main_v54 val_main_v53 val_main_v52 val_main_cst_8 val_main_cst_7 val_main_cst_6 val_main_v35
  generalize val_main_v33 (F := Ideal) x0 x1 x2 x3 x4 x5 x6 x7 x8 x9 x10 x11 = U
  pointwise
theorem v126_apply (b : Fin 8) (T : Fin 4352) (h : Fin 8) (m : Fin 2) (d : Fin 64) : val_main_v126 (F := Ideal) x0 x1 x2 x3 x4 x5 x6 x7 x8 x9 x10 x11 x12 (ix5 b T h m d)
    = rot (fun d => val_main_v51 (F := Ideal) x0 x1 x2 x3 x4 x5 x6 x7 x8 x9 x10 x11 x12 (ix5 b T h m d)) (fun f => Ideal.cos (ang T f)) (fun f => Ideal.sin (ang T f)) d := by
  by_cases hT : T.val < 256
  · simp only [ang, dif_pos hT, cos_zero, sin_zero]
    rw [rot_none]
    unfold val_main_v126
    generalize val_main_v125 (F := Ideal) x0 x1 x2 x3 x4 x5 x6 x7 x8 x9 x10 x11 x12 = Z
    unfold val_main_v87
    generalize val_main_v51 (F := Ideal) x0 x1 x2 x3 x4 x5 x6 x7 x8 x9 x10 x11 x12 = Y
    pointwise
    rw [dif_pos hT]
  · simp only [ang, dif_neg hT]
    unfold val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87
    generalize val_main_v51 (F := Ideal) x0 x1 x2 x3 x4 x5 x6 x7 x8 x9 x10 x11 x12 = Y
    generalize val_main_v81 (F := Ideal) = P
    generalize val_main_v86 (F := Ideal) = Q
    pointwise
    rw [dif_neg hT]
    simp only [show 256 + (T.val - 256) = T.val from by omega]
    exact rot_pairs (fun d => Y (ix5 b T h m d)) (fun f => P (ix2 ⟨T.val - 256, by omega⟩ f)) (fun f => Q (ix2 ⟨T.val - 256, by omega⟩ f)) d
theorem v166_apply (b : Fin 8) (T : Fin 4352) (h : Fin 8) (m : Fin 2) (d : Fin 64) : val_main_v166 (F := Ideal) x0 x1 x2 x3 x4 x5 x6 x7 x8 x9 x10 x11 x13 (ix5 b T h m d)
    = rot (fun d => val_main_v65 (F := Ideal) x0 x1 x2 x3 x4 x5 x6 x7 x8 x9 x10 x11 x13 (ix5 b T h m d)) (fun f => Ideal.cos (ang T f)) (fun f => Ideal.sin (ang T f)) d := by
  by_cases hT : T.val < 256
  · simp only [ang, dif_pos hT, cos_zero, sin_zero]
    rw [rot_none]
    unfold val_main_v166
    generalize val_main_v165 (F := Ideal) x0 x1 x2 x3 x4 x5 x6 x7 x8 x9 x10 x11 x13 = Z
    unfold val_main_v127
    generalize val_main_v65 (F := Ideal) x0 x1 x2 x3 x4 x5 x6 x7 x8 x9 x10 x11 x13 = Y
    pointwise
    rw [dif_pos hT]
  · simp only [ang, dif_neg hT]
    unfold val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127
    generalize val_main_v65 (F := Ideal) x0 x1 x2 x3 x4 x5 x6 x7 x8 x9 x10 x11 x13 = Y
    generalize val_main_v81 (F := Ideal) = P
    generalize val_main_v86 (F := Ideal) = Q
    pointwise
    rw [dif_neg hT]
    simp only [show 256 + (T.val - 256) = T.val from by omega]
    exact rot_pairs (fun d => Y (ix5 b T h m d)) (fun f => P (ix2 ⟨T.val - 256, by omega⟩ f)) (fun f => Q (ix2 ⟨T.val - 256, by omega⟩ f)) d
theorem hd_split (h : Fin 16) : hd ⟨h.val / 2, by omega⟩ ⟨h.val % 2, by omega⟩ = h := Fin.ext (by show 2 * (h.val / 2) + h.val % 2 = h.val; omega)

theorem v175_apply (b : Fin 8) (t : Fin 17) (h : Fin 16) (d : Fin 64) (i : Fin 256) : val_main_v175 (F := Ideal) x0 x1 x2 x3 x4 x5 x6 x7 x8 x9 x10 x11 x12 (ix4 b t (ft h d) i)
    = rot (headn (fun f => refU x0 x1 x2 x3 x4 x5 x6 x7 x8 x9 x10 x11 b ⟨256 * t.val + i.val, by omega⟩ ⟨f.val, by omega⟩) (fun d => x12 (ix1 d)) h) (fun f => Ideal.cos (ang ⟨256 * t.val + i.val, by omega⟩ f)) (fun f => Ideal.sin (ang ⟨256 * t.val + i.val, by omega⟩ f)) d := by
  unfold val_main_v175
  rw [round_val]
  unfold val_main_v174
  refine (transpose_apply _ _ _ (ix4 b t (ft h d) i) (ix4 b t i (ft h d)) fun a => ?_).trans ?_
  · fin_cases a <;> rfl
  unfold val_main_v173
  refine (shapeCast_apply _ _ _ (ix5 b ⟨256 * t.val + i.val, by omega⟩ ⟨h.val / 2, by omega⟩ ⟨h.val % 2, by omega⟩ d) ?_).trans ?_
  · rw [Shape.rowMajor_val_five, Shape.rowMajor_val_four]
    show (((b.val * 4352 + (256 * t.val + i.val)) * 8 + h.val / 2) * 2 + h.val % 2) * 64 + d.val = ((b.val * 17 + t.val) * 256 + i.val) * 1024 + (64 * h.val + d.val)
    omega
  rw [v126_apply]
  simp only [v51_apply, hd_split]
theorem v168_apply (b : Fin 8) (t : Fin 17) (h : Fin 16) (i : Fin 256) (d : Fin 64) : val_main_v168 (F := Ideal) x0 x1 x2 x3 x4 x5 x6 x7 x8 x9 x10 x11 x13 (ix5 b t h i d)
    = rot (headn (fun f => refU x0 x1 x2 x3 x4 x5 x6 x7 x8 x9 x10 x11 b ⟨256 * t.val + i.val, by omega⟩ ⟨1024 + f.val, by omega⟩) (fun d => x13 (ix1 d)) h) (fun f => Ideal.cos (ang ⟨256 * t.val + i.val, by omega⟩ f)) (fun f => Ideal.sin (ang ⟨256 * t.val + i.val, by omega⟩ f)) d := by
  unfold val_main_v168
  refine (transpose_apply _ _ _ (ix5 b t h i d) (ix5 b t i h d) fun a => ?_).trans ?_
  · fin_cases a <;> rfl
  unfold val_main_v167
  refine (shapeCast_apply _ _ _ (ix5 b ⟨256 * t.val + i.val, by omega⟩ ⟨h.val / 2, by omega⟩ ⟨h.val % 2, by omega⟩ d) ?_).trans ?_
  · rw [Shape.rowMajor_val_five, Shape.rowMajor_val_five]
    show (((b.val * 4352 + (256 * t.val + i.val)) * 8 + h.val / 2) * 2 + h.val % 2) * 64 + d.val = (((b.val * 17 + t.val) * 256 + i.val) * 16 + h.val) * 64 + d.val
    omega
  rw [v166_apply]
  simp only [v65_apply, hd_split]
theorem v171_apply (b : Fin 8) (t : Fin 17) (h : Fin 16) (i : Fin 256) (l : Fin 128) : val_main_v171 (F := Ideal) x0 x1 x2 x3 x4 x5 x6 x7 x8 x9 x10 x11 x13 (ix5 b t h i l)
    = if hl : l.val < 64 then rot (headn (fun f => refU x0 x1 x2 x3 x4 x5 x6 x7 x8 x9 x10 x11 b ⟨256 * t.val + i.val, by omega⟩ ⟨1024 + f.val, by omega⟩) (fun d => x13 (ix1 d)) h) (fun f => Ideal.cos (ang ⟨256 * t.val + i.val, by omega⟩ f)) (fun f => Ideal.sin (ang ⟨256 * t.val + i.val, by omega⟩ f)) ⟨l.val, hl⟩ else 0 := by
  simp only [← v168_apply]
  unfold val_main_v171 val_main_v170 val_main_v169 val_main_cst_12
  rw [← bits_zero]
  generalize val_main_v168 (F := Ideal) x0 x1 x2 x3 x4 x5 x6 x7 x8 x9 x10 x11 x13 = K
  pointwise

end Cert.Proof.Rope
end
-- ==== Proof.Rope.lean ====
/-
  The projections with rotary embedding over extended reals: each token's new residual, and its queries, keys, values and
  gate, are the reference's.
-/
module

public import proofs.«01_k».proof.Defs
public import proofs.«01_k».proof.Proof.RopeRef
public import proofs.«01_k».proof.Proof.Proj
public import proofs.«01_k».proof.Proof.Gen.Kernel4
public import Idealize.ShloMosaic.Lib.Claim

@[expose] public section

set_option maxRecDepth 16384

noncomputable section

namespace Cert.Proof.Rope

open Cert.Kernel4Ideal Cert.Kernel4Ideal.Gen
open Cert.Proof.Proj (ft newx up sel refX refA refU Cols newX newU hostO hostT hostG hostW hostV rows9 cols9 gain9 hostN hostO_apply hostT_apply hostG_apply hostW_apply hostV_apply
  rows9_apply cols9_apply gain9_apply hostN_apply newx_congr bits_zero)
open Idealize.ShloMosaic Idealize.ShloMosaic.TcCoe Idealize.ShloMosaic.Tactic
open Idealize.SL.Sem

/-! ## The arrays the windows read -/

/-- The angles of the latents' pairs, behind the context's zeros. -/
def tabA (P Q : FVec Ideal S4096x16 .f32) : FVec Ideal S4352x32 .f32 :=
  concatenate S4352x32 0 [⟨S256x32, broadcastInDim S256x32 ![] bcast_S_S256x32 (constant (F := Ideal) S_ .f32 0x00000000#32)⟩,
    ⟨S4096x32, concatenate S4096x32 1 [⟨S4096x16, P⟩, ⟨S4096x16, Q⟩]
      concatenates_S4096x16_S4096x16_S4096x32_d1⟩] concatenates_S256x32_S4096x32_S4352x32_d0
/-- The angles of all tokens' pairs, and the tables of their cosines and sines. -/
def hostA : FVec Ideal S4352x32 .f32 := tabA (Cert.Reference4Ideal.Read.val_main_v81 (F := Ideal)) (Cert.Reference4Ideal.Read.val_main_v86 (F := Ideal))
def hostC : FVec Ideal S32x4352 .f32 := transpose S32x4352 [1, 0] (Host.cos hostA) transposes_S4352x32_S32x4352_1_0
def hostS : FVec Ideal S32x4352 .f32 := transpose S32x4352 [1, 0] (Host.sin hostA) transposes_S4352x32_S32x4352_1_0

theorem hostA_apply (T : Fin 4352) (f : Fin 32) : hostA (ix2 T f) = ang T f := by
  unfold hostA tabA ang
  rw [← bits_zero]
  generalize Cert.Reference4Ideal.Read.val_main_v81 (F := Ideal) = P
  generalize Cert.Reference4Ideal.Read.val_main_v86 (F := Ideal) = Q
  pointwise
theorem hostC_apply (f : Fin 32) (T : Fin 4352) : hostC (ix2 f T) = Ideal.cos (ang T f) := by
  rw [← hostA_apply]
  unfold hostC
  generalize hostA = A
  pointwise
theorem hostS_apply (f : Fin 32) (T : Fin 4352) : hostS (ix2 f T) = Ideal.sin (ang T f) := by
  rw [← hostA_apply]
  unfold hostS
  generalize hostA = A
  pointwise

variable (m : (ℓ : Loc nD τ sig) → Buf (Elt Ideal) ℓ) (c : Dev nD)

theorem V_v49 : V m c main_v49 = hostO (m ((c : Thread nD τ).loc main_arg0)) := by
  unfold V
  simp only [hostOps0, hostOps0_1, hostOps0_2, hostOps0_3, hostOps0_4, List.flatten_cons, List.flatten_nil, List.append_nil, List.cons_append, List.nil_append]
  after_results
  rfl
theorem V_v51 : V m c main_v51 = hostG (m ((c : Thread nD τ).loc main_arg1)) := by
  unfold V
  simp only [hostOps0, hostOps0_1, hostOps0_2, hostOps0_3, hostOps0_4, List.flatten_cons, List.flatten_nil, List.append_nil, List.cons_append, List.nil_append]
  after_results
  rfl
theorem V_v53 : V m c main_v53 = hostW (m ((c : Thread nD τ).loc main_arg5)) := by
  unfold V
  simp only [hostOps0, hostOps0_1, hostOps0_2, hostOps0_3, hostOps0_4, List.flatten_cons, List.flatten_nil, List.append_nil, List.cons_append, List.nil_append]
  after_results
  rfl
theorem V_v57 : V m c main_v57 = cols9 (rows9 (m ((c : Thread nD τ).loc main_arg3)) (m ((c : Thread nD τ).loc main_arg4))) := by
  unfold V
  simp only [hostOps0, hostOps0_1, hostOps0_2, hostOps0_3, hostOps0_4, List.flatten_cons, List.flatten_nil, List.append_nil, List.cons_append, List.nil_append]
  after_results
  rfl
theorem V_v58 : V m c main_v58 = hostT (m ((c : Thread nD τ).loc main_arg2)) := by
  unfold V
  simp only [hostOps0, hostOps0_1, hostOps0_2, hostOps0_3, hostOps0_4, List.flatten_cons, List.flatten_nil, List.append_nil, List.cons_append, List.nil_append]
  after_results
  rfl
theorem V_v36 : V m c main_v36 = cols9 (gain9 (m ((c : Thread nD τ).loc main_arg6)) (m ((c : Thread nD τ).loc main_arg7)) (m ((c : Thread nD τ).loc main_arg8))) := by
  unfold V
  simp only [hostOps0, hostOps0_1, hostOps0_2, hostOps0_3, hostOps0_4, List.flatten_cons, List.flatten_nil, List.append_nil, List.cons_append, List.nil_append]
  after_results
  rfl
theorem V_v40 : V m c main_v40 = cols9 (rows9 (m ((c : Thread nD τ).loc main_arg9)) (m ((c : Thread nD τ).loc main_arg10))) := by
  unfold V
  simp only [hostOps0, hostOps0_1, hostOps0_2, hostOps0_3, hostOps0_4, List.flatten_cons, List.flatten_nil, List.append_nil, List.cons_append, List.nil_append]
  after_results
  rfl
theorem V_v42 : V m c main_v42 = hostV (m ((c : Thread nD τ).loc main_arg11)) := by
  unfold V
  simp only [hostOps0, hostOps0_1, hostOps0_2, hostOps0_3, hostOps0_4, List.flatten_cons, List.flatten_nil, List.append_nil, List.cons_append, List.nil_append]
  after_results
  rfl
theorem V_v44 : V m c main_v44 = hostN (m ((c : Thread nD τ).loc main_arg12)) := by
  unfold V
  simp only [hostOps0, hostOps0_1, hostOps0_2, hostOps0_3, hostOps0_4, List.flatten_cons, List.flatten_nil, List.append_nil, List.cons_append, List.nil_append]
  after_results
  rfl
theorem V_v46 : V m c main_v46 = hostN (m ((c : Thread nD τ).loc main_arg13)) := by
  unfold V
  simp only [hostOps0, hostOps0_1, hostOps0_2, hostOps0_3, hostOps0_4, List.flatten_cons, List.flatten_nil, List.append_nil, List.cons_append, List.nil_append]
  after_results
  rfl

theorem V_v25 : V m c main_v25 = hostC := by
  unfold V
  simp only [hostOps0, hostOps0_1, hostOps0_2, hostOps0_3, hostOps0_4, List.flatten_cons, List.flatten_nil, List.append_nil, List.cons_append, List.nil_append]
  after_results
  refine congrArg₂ (fun P Q => transpose S32x4352 [1, 0] (Host.cos (tabA P Q)) transposes_S4352x32_S32x4352_1_0)
    (?_ : _ = Cert.Reference4Ideal.Read.val_main_v81 (F := Ideal)) (?_ : _ = Cert.Reference4Ideal.Read.val_main_v86 (F := Ideal))
  · simp only [StableHlo.TRef.ofBuf_toBuf]
    rfl
  · simp only [StableHlo.TRef.ofBuf_toBuf]
    rfl
theorem V_v27 : V m c main_v27 = hostS := by
  unfold V
  simp only [hostOps0, hostOps0_1, hostOps0_2, hostOps0_3, hostOps0_4, List.flatten_cons, List.flatten_nil, List.append_nil, List.cons_append, List.nil_append]
  after_results
  refine congrArg₂ (fun P Q => transpose S32x4352 [1, 0] (Host.sin (tabA P Q)) transposes_S4352x32_S32x4352_1_0)
    (?_ : _ = Cert.Reference4Ideal.Read.val_main_v81 (F := Ideal)) (?_ : _ = Cert.Reference4Ideal.Read.val_main_v86 (F := Ideal))
  · simp only [StableHlo.TRef.ofBuf_toBuf]
    rfl
  · simp only [StableHlo.TRef.ofBuf_toBuf]
    rfl

/-! ## The windows' blocks -/

/-- The batch entry of a grid point, -/
def ptB (t : Fin cfg0.N) : Fin 8 := grid0.coords t 0
/-- its tile of tokens, -/
def ptJ (t : Fin cfg0.N) : Fin 17 := grid0.coords t 1
/-- the row of its gains: the context's for the first tile. -/
def ptR (t : Fin cfg0.N) : Fin 9 := if (ptJ t).val = 0 then 8 else ⟨(ptB t).val, by omega⟩
/-- The token of a tile's place. -/
def tok (j : Fin 17) (i : Fin 256) : Fin 4352 := ⟨256 * j.val + i.val, by omega⟩

theorem index_0 : ∀ t : Fin cfg0.N, win0_0.index t = ![(ptB t).val, (ptJ t).val, 0, 0] := (by decide +kernel : ∀ t : Fin grid0.N, _)
theorem index_1 : ∀ t : Fin cfg0.N, win0_1.index t = ![(ptB t).val, 0, (ptJ t).val] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![(ptR t).val, 0, 0] := (by decide +kernel : ∀ t : Fin grid0.N, _)
theorem index_4 : ∀ t : Fin cfg0.N, win0_4.index t = ![(ptB t).val, 0, (ptJ t).val] := (by decide +kernel : ∀ t : Fin grid0.N, _)
theorem index_5 : ∀ t : Fin cfg0.N, win0_5.index t = ![(ptR t).val, 0, 0] := (by decide +kernel : ∀ t : Fin grid0.N, _)
theorem index_6 : ∀ t : Fin cfg0.N, win0_6.index t = ![(ptR t).val, 0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, (ptJ t).val] := (by decide +kernel : ∀ t : Fin grid0.N, _)
theorem index_9 : ∀ t : Fin cfg0.N, win0_9.index t = ![0, (ptJ t).val] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![(ptB t).val, 0, (ptJ t).val] := (by decide +kernel : ∀ t : Fin grid0.N, _)
theorem index_13 : ∀ t : Fin cfg0.N, win0_13.index t = ![(ptB t).val, (ptJ t).val, 0, 0] := (by decide +kernel : ∀ t : Fin grid0.N, _)
theorem index_14 : ∀ t : Fin cfg0.N, win0_14.index t = ![(ptB t).val, (ptJ t).val, 0, 0, 0] := (by decide +kernel : ∀ t : Fin grid0.N, _)
theorem index_15 : ∀ t : Fin cfg0.N, win0_15.index t = ![(ptB t).val, (ptJ t).val, 0, 0] := (by decide +kernel : ∀ t : Fin grid0.N, _)
theorem index_16 : ∀ t : Fin cfg0.N, win0_16.index t = ![(ptB t).val, 0, (ptJ t).val] := (by decide +kernel : ∀ t : Fin grid0.N, _)

theorem rd_0 (t : Fin cfg0.N) (A : S8x17x1024x256.Idx → Ideal .bf16) (f : Fin 1024) (i : Fin 256) :
    (((cfg0.win 0).blk t).view.read (Elt Ideal) A : S1x1x1024x256.Idx → Ideal .bf16) (ix4 0 0 f i) = A (ix4 (ptB t) (ptJ t) f i) := by
  rw [View.read_apply]
  refine (cast_eq _ _).trans (congrArg A ?_)
  blk_ext [index_0 t]
theorem rd_1 (t : Fin cfg0.N) (A : S8x1024x4352.Idx → Ideal .bf16) (f : Fin 1024) (i : Fin 256) :
    (((cfg0.win 1).blk t).view.read (Elt Ideal) A : S1x1024x256.Idx → Ideal .bf16) (ix3 0 f i) = A (ix3 (ptB t) f ⟨256 * (ptJ t).val + i.val, by omega⟩) := by
  rw [View.read_apply]
  refine (cast_eq _ _).trans (congrArg A ?_)
  blk_ext [index_1 t]
theorem rd_2 (t : Fin cfg0.N) (A : S1024x1024.Idx → Ideal .bf16) (f k : Fin 1024) :
    (((cfg0.win 2).blk t).view.read (Elt Ideal) A : S1024x1024.Idx → Ideal .bf16) (ix2 f k) = A (ix2 f k) := by
  rw [View.read_apply]
  refine (cast_eq _ _).trans (congrArg A ?_)
  blk_ext [index_2 t]
theorem rd_3 (t : Fin cfg0.N) (A : S9x1024x128.Idx → Ideal .f32) (f : Fin 1024) (l : Fin 128) :
    (((cfg0.win 3).blk t).view.read (Elt Ideal) A : S1x1024x128.Idx → Ideal .f32) (ix3 0 f l) = A (ix3 (ptR t) f l) := by
  rw [View.read_apply]
  refine (cast_eq _ _).trans (congrArg A ?_)
  blk_ext [index_3 t]
theorem rd_4 (t : Fin cfg0.N) (A : S8x1024x4352.Idx → Ideal .f32) (f : Fin 1024) (i : Fin 256) :
    (((cfg0.win 4).blk t).view.read (Elt Ideal) A : S1x1024x256.Idx → Ideal .f32) (ix3 0 f i) = A (ix3 (ptB t) f ⟨256 * (ptJ t).val + i.val, by omega⟩) := by
  rw [View.read_apply]
  refine (cast_eq _ _).trans (congrArg A ?_)
  blk_ext [index_4 t]
theorem rd_5 (t : Fin cfg0.N) (A : S9x1024x128.Idx → Ideal .f32) (f : Fin 1024) (l : Fin 128) :
    (((cfg0.win 5).blk t).view.read (Elt Ideal) A : S1x1024x128.Idx → Ideal .f32) (ix3 0 f l) = A (ix3 (ptR t) f l) := by
  rw [View.read_apply]
  refine (cast_eq _ _).trans (congrArg A ?_)
  blk_ext [index_5 t]
theorem rd_6 (t : Fin cfg0.N) (A : S9x1024x128.Idx → Ideal .f32) (f : Fin 1024) (l : Fin 128) :
    (((cfg0.win 6).blk t).view.read (Elt Ideal) A : S1x1024x128.Idx → Ideal .f32) (ix3 0 f l) = A (ix3 (ptR t) f l) := by
  rw [View.read_apply]
  refine (cast_eq _ _).trans (congrArg A ?_)
  blk_ext [index_6 t]
theorem rd_7 (t : Fin cfg0.N) (A : S4096x1024.Idx → Ideal .bf16) (n : Fin 4096) (k : Fin 1024) :
    (((cfg0.win 7).blk t).view.read (Elt Ideal) A : S4096x1024.Idx → Ideal .bf16) (ix2 n k) = A (ix2 n k) := by
  rw [View.read_apply]
  refine (cast_eq _ _).trans (congrArg A ?_)
  blk_ext [index_7 t]
theorem rd_8 (t : Fin cfg0.N) (A : S32x4352.Idx → Ideal .f32) (f : Fin 32) (i : Fin 256) :
    (((cfg0.win 8).blk t).view.read (Elt Ideal) A : S32x256.Idx → Ideal .f32) (ix2 f i) = A (ix2 f ⟨256 * (ptJ t).val + i.val, by omega⟩) := by
  rw [View.read_apply]
  refine (cast_eq _ _).trans (congrArg A ?_)
  blk_ext [index_8 t]
theorem rd_9 (t : Fin cfg0.N) (A : S32x4352.Idx → Ideal .f32) (f : Fin 32) (i : Fin 256) :
    (((cfg0.win 9).blk t).view.read (Elt Ideal) A : S32x256.Idx → Ideal .f32) (ix2 f i) = A (ix2 f ⟨256 * (ptJ t).val + i.val, by omega⟩) := by
  rw [View.read_apply]
  refine (cast_eq _ _).trans (congrArg A ?_)
  blk_ext [index_9 t]
theorem rd_10 (t : Fin cfg0.N) (A : S64x128.Idx → Ideal .f32) (d : Fin 64) (l : Fin 128) :
    (((cfg0.win 10).blk t).view.read (Elt Ideal) A : S64x128.Idx → Ideal .f32) (ix2 d l) = A (ix2 d l) := by
  rw [View.read_apply]
  refine (cast_eq _ _).trans (congrArg A ?_)
  blk_ext [index_10 t]
theorem rd_11 (t : Fin cfg0.N) (A : S64x128.Idx → Ideal .f32) (d : Fin 64) (l : Fin 128) :
    (((cfg0.win 11).blk t).view.read (Elt Ideal) A : S64x128.Idx → Ideal .f32) (ix2 d l) = A (ix2 d l) := by
  rw [View.read_apply]
  refine (cast_eq _ _).trans (congrArg A ?_)
  blk_ext [index_11 t]
theorem emb_12 (t : Fin cfg0.N) (f : Fin 1024) (i : Fin 256) :
    (((cfg0.win 12).blk t).view.emb (ix3 0 f i : S1x1024x256.Idx) : S8x1024x4352.Idx) = ix3 (ptB t) f ⟨256 * (ptJ t).val + i.val, by omega⟩ := by
  blk_ext [index_12 t]
theorem covers_12 : win0_12.Covers := by decide +kernel
theorem emb_13 (t : Fin cfg0.N) (f : Fin 1024) (i : Fin 256) :
    (((cfg0.win 13).blk t).view.emb (ix4 0 0 f i : S1x1x1024x256.Idx) : S8x17x1024x256.Idx) = ix4 (ptB t) (ptJ t) f i := by
  blk_ext [index_13 t]
theorem covers_13 : win0_13.Covers := by decide +kernel
theorem emb_14 (t : Fin cfg0.N) (h : Fin 16) (i : Fin 256) (l : Fin 128) :
    (((cfg0.win 14).blk t).view.emb (ix5 0 0 h i l : S1x1x16x256x128.Idx) : S8x17x16x256x128.Idx) = ix5 (ptB t) (ptJ t) h i l := by
  blk_ext [index_14 t]
theorem covers_14 : win0_14.Covers := by decide +kernel
theorem emb_15 (t : Fin cfg0.N) (f : Fin 1024) (i : Fin 256) :
    (((cfg0.win 15).blk t).view.emb (ix4 0 0 f i : S1x1x1024x256.Idx) : S8x17x1024x256.Idx) = ix4 (ptB t) (ptJ t) f i := by
  blk_ext [index_15 t]
theorem covers_15 : win0_15.Covers := by decide +kernel
theorem emb_16 (t : Fin cfg0.N) (f : Fin 1024) (i : Fin 256) :
    (((cfg0.win 16).blk t).view.emb (ix3 0 f i : S1x1024x256.Idx) : S8x1024x4352.Idx) = ix3 (ptB t) f ⟨256 * (ptJ t).val + i.val, by omega⟩ := by
  blk_ext [index_16 t]
theorem covers_16 : win0_16.Covers := by decide +kernel

/-! ## The arguments -/

abbrev A0 : FVec Ideal S8x4352x1024 .f32 := m ((c : Thread nD τ).loc main_arg0)
abbrev A1 : FVec Ideal S8x4352x1024 .f32 := m ((c : Thread nD τ).loc main_arg1)
abbrev A2 : FVec Ideal S8x4352x1024 .f32 := m ((c : Thread nD τ).loc main_arg2)
abbrev A3 : FVec Ideal S8x1024 .f32 := m ((c : Thread nD τ).loc main_arg3)
abbrev A4 : FVec Ideal S1024 .f32 := m ((c : Thread nD τ).loc main_arg4)
abbrev A5 : FVec Ideal S1024x1024 .f32 := m ((c : Thread nD τ).loc main_arg5)
abbrev A6 : FVec Ideal S1024 .f32 := m ((c : Thread nD τ).loc main_arg6)
abbrev A7 : FVec Ideal S8x1024 .f32 := m ((c : Thread nD τ).loc main_arg7)
abbrev A8 : FVec Ideal S1024 .f32 := m ((c : Thread nD τ).loc main_arg8)
abbrev A9 : FVec Ideal S8x1024 .f32 := m ((c : Thread nD τ).loc main_arg9)
abbrev A10 : FVec Ideal S1024 .f32 := m ((c : Thread nD τ).loc main_arg10)
abbrev A11 : FVec Ideal S1024x4096 .f32 := m ((c : Thread nD τ).loc main_arg11)
abbrev A12 : FVec Ideal S64 .f32 := m ((c : Thread nD τ).loc main_arg12)
abbrev A13 : FVec Ideal S64 .f32 := m ((c : Thread nD τ).loc main_arg13)

theorem iblk_0 (t : Fin cfg0.N) : (iblk m c 0 t : S1x1x1024x256.Idx → Ideal .bf16) = ((cfg0.win 0).blk t).view.read (Elt Ideal) (hostO (A0 m c)) :=
  congrArg (((cfg0.win 0).blk t).view.read (Elt Ideal)) (V_v49 m c)
theorem iblk_1 (t : Fin cfg0.N) : (iblk m c 1 t : S1x1024x256.Idx → Ideal .bf16) = ((cfg0.win 1).blk t).view.read (Elt Ideal) (hostG (A1 m c)) :=
  congrArg (((cfg0.win 1).blk t).view.read (Elt Ideal)) (V_v51 m c)
theorem iblk_2 (t : Fin cfg0.N) : (iblk m c 2 t : S1024x1024.Idx → Ideal .bf16) = ((cfg0.win 2).blk t).view.read (Elt Ideal) (hostW (A5 m c)) :=
  congrArg (((cfg0.win 2).blk t).view.read (Elt Ideal)) (V_v53 m c)
theorem iblk_3 (t : Fin cfg0.N) : (iblk m c 3 t : S1x1024x128.Idx → Ideal .f32) = ((cfg0.win 3).blk t).view.read (Elt Ideal) (cols9 (rows9 (A3 m c) (A4 m c))) :=
  congrArg (((cfg0.win 3).blk t).view.read (Elt Ideal)) (V_v57 m c)
theorem iblk_4 (t : Fin cfg0.N) : (iblk m c 4 t : S1x1024x256.Idx → Ideal .f32) = ((cfg0.win 4).blk t).view.read (Elt Ideal) (hostT (A2 m c)) :=
  congrArg (((cfg0.win 4).blk t).view.read (Elt Ideal)) (V_v58 m c)
theorem iblk_5 (t : Fin cfg0.N) : (iblk m c 5 t : S1x1024x128.Idx → Ideal .f32) = ((cfg0.win 5).blk t).view.read (Elt Ideal) (cols9 (gain9 (A6 m c) (A7 m c) (A8 m c))) :=
  congrArg (((cfg0.win 5).blk t).view.read (Elt Ideal)) (V_v36 m c)
theorem iblk_6 (t : Fin cfg0.N) : (iblk m c 6 t : S1x1024x128.Idx → Ideal .f32) = ((cfg0.win 6).blk t).view.read (Elt Ideal) (cols9 (rows9 (A9 m c) (A10 m c))) :=
  congrArg (((cfg0.win 6).blk t).view.read (Elt Ideal)) (V_v40 m c)
theorem iblk_7 (t : Fin cfg0.N) : (iblk m c 7 t : S4096x1024.Idx → Ideal .bf16) = ((cfg0.win 7).blk t).view.read (Elt Ideal) (hostV (A11 m c)) :=
  congrArg (((cfg0.win 7).blk t).view.read (Elt Ideal)) (V_v42 m c)
theorem iblk_10 (t : Fin cfg0.N) : (iblk m c 10 t : S64x128.Idx → Ideal .f32) = ((cfg0.win 10).blk t).view.read (Elt Ideal) (hostN (A12 m c)) :=
  congrArg (((cfg0.win 10).blk t).view.read (Elt Ideal)) (V_v44 m c)
theorem iblk_11 (t : Fin cfg0.N) : (iblk m c 11 t : S64x128.Idx → Ideal .f32) = ((cfg0.win 11).blk t).view.read (Elt Ideal) (hostN (A13 m c)) :=
  congrArg (((cfg0.win 11).blk t).view.read (Elt Ideal)) (V_v46 m c)
theorem blk_0 (t : Fin cfg0.N) (f : Fin 1024) (i : Fin 256) : (iblk m c 0 t : S1x1x1024x256.Idx → Ideal .bf16) (ix4 0 0 f i) = A0 m c (ix3 (ptB t) (tok (ptJ t) i) f) := by
  rw [iblk_0, rd_0, hostO_apply]; rfl
theorem blk_1 (t : Fin cfg0.N) (f : Fin 1024) (i : Fin 256) : (iblk m c 1 t : S1x1024x256.Idx → Ideal .bf16) (ix3 0 f i) = A1 m c (ix3 (ptB t) (tok (ptJ t) i) f) := by
  rw [iblk_1, rd_1, hostG_apply]; rfl
theorem blk_2 (t : Fin cfg0.N) (f k : Fin 1024) : (iblk m c 2 t : S1024x1024.Idx → Ideal .bf16) (ix2 f k) = A5 m c (ix2 k f) := by
  rw [iblk_2, rd_2, hostW_apply]
theorem blk_4 (t : Fin cfg0.N) (f : Fin 1024) (i : Fin 256) : (iblk m c 4 t : S1x1024x256.Idx → Ideal .f32) (ix3 0 f i) = A2 m c (ix3 (ptB t) (tok (ptJ t) i) f) := by
  rw [iblk_4, rd_4, hostT_apply]; rfl
theorem blk_7 (t : Fin cfg0.N) (n : Fin 4096) (e : Fin 1024) : (iblk m c 7 t : S4096x1024.Idx → Ideal .bf16) (ix2 n e) = A11 m c (ix2 e n) := by
  rw [iblk_7, rd_7, hostV_apply]
theorem blk_10 (t : Fin cfg0.N) (d : Fin 64) (l : Fin 128) : (iblk m c 10 t : S64x128.Idx → Ideal .f32) (ix2 d l) = A12 m c (ix1 d) := by
  rw [iblk_10, rd_10, hostN_apply]
theorem blk_11 (t : Fin cfg0.N) (d : Fin 64) (l : Fin 128) : (iblk m c 11 t : S64x128.Idx → Ideal .f32) (ix2 d l) = A13 m c (ix1 d) := by
  rw [iblk_11, rd_11, hostN_apply]

theorem iblk_8 (t : Fin cfg0.N) : (iblk m c 8 t : S32x256.Idx → Ideal .f32) = ((cfg0.win 8).blk t).view.read (Elt Ideal) hostC :=
  congrArg (((cfg0.win 8).blk t).view.read (Elt Ideal)) (V_v25 m c)
theorem blk_8 (t : Fin cfg0.N) (f : Fin 32) (i : Fin 256) : (iblk m c 8 t : S32x256.Idx → Ideal .f32) (ix2 f i) = Ideal.cos (ang (tok (ptJ t) i) f) := by
  rw [iblk_8, rd_8, hostC_apply]; rfl
theorem iblk_9 (t : Fin cfg0.N) : (iblk m c 9 t : S32x256.Idx → Ideal .f32) = ((cfg0.win 9).blk t).view.read (Elt Ideal) hostS :=
  congrArg (((cfg0.win 9).blk t).view.read (Elt Ideal)) (V_v27 m c)
theorem blk_9 (t : Fin cfg0.N) (f : Fin 32) (i : Fin 256) : (iblk m c 9 t : S32x256.Idx → Ideal .f32) (ix2 f i) = Ideal.sin (ang (tok (ptJ t) i) f) := by
  rw [iblk_9, rd_9, hostS_apply]; rfl

/-- The row of a point is the one its tokens take. -/
theorem rows9_pt (xb : FVec Ideal S8x1024 .f32) (xc : FVec Ideal S1024 .f32) (t : Fin cfg0.N) (i : Fin 256) (e : Fin 1024) :
    rows9 xb xc (ix2 (ptR t) e) = sel xb xc (ptB t) (tok (ptJ t) i) e := by
  rw [rows9_apply]
  unfold sel
  by_cases h : (ptJ t).val = 0
  · rw [if_pos (show (tok (ptJ t) i).val < 256 by show 256 * (ptJ t).val + i.val < 256; omega), dif_neg]
    rw [ptR, if_pos h]; decide
  · rw [if_neg (show ¬ (tok (ptJ t) i).val < 256 by show ¬ 256 * (ptJ t).val + i.val < 256; omega)]
    have hr : (ptR t).val = (ptB t).val := by rw [ptR, if_neg h]
    rw [dif_pos (by omega)]
    exact congrArg (fun r => xb (ix2 r e)) (Fin.ext hr)

theorem cols (t : Fin cfg0.N) (i : Fin 256) : Cols (iblk m c 3 t) (iblk m c 5 t) (iblk m c 6 t) (iblk m c 10 t) (iblk m c 11 t)
    (sel (A3 m c) (A4 m c) (ptB t) (tok (ptJ t) i)) (refA (A6 m c) (A7 m c) (A8 m c) (ptB t) (tok (ptJ t) i)) (sel (A9 m c) (A10 m c) (ptB t) (tok (ptJ t) i))
    (fun d => A12 m c (ix1 d)) (fun d => A13 m c (ix1 d)) where
  ht e l := by rw [iblk_3, rd_3, cols9_apply, rows9_pt _ _ t i]
  ha e l := by rw [iblk_5, rd_5, cols9_apply, gain9_apply, rows9_pt _ _ t i]; rfl
  hb e l := by rw [iblk_6, rd_6, cols9_apply, rows9_pt _ _ t i]
  hq d l := blk_10 m c t d l
  hk d l := blk_11 m c t d l

theorem newX_eq (t : Fin cfg0.N) (i : Fin 256) :
    newX (iblk m c 0 t) (iblk m c 1 t) (iblk m c 2 t) (iblk m c 4 t) (sel (A3 m c) (A4 m c) (ptB t) (tok (ptJ t) i)) i
      = refX (A0 m c) (A1 m c) (A2 m c) (A3 m c) (A4 m c) (A5 m c) (ptB t) (tok (ptJ t) i) :=
  newx_congr _ (fun k => blk_0 m c t k i) (fun k => blk_1 m c t k i) (fun k e => blk_2 m c t e k) (fun e => blk_4 m c t e i)
theorem newU_eq (t : Fin cfg0.N) (i : Fin 256) (n : Fin 4096) :
    newU (iblk m c 0 t) (iblk m c 1 t) (iblk m c 2 t) (iblk m c 4 t) (iblk m c 7 t) (sel (A3 m c) (A4 m c) (ptB t) (tok (ptJ t) i))
        (refA (A6 m c) (A7 m c) (A8 m c) (ptB t) (tok (ptJ t) i)) (sel (A9 m c) (A10 m c) (ptB t) (tok (ptJ t) i)) i n
      = refU (A0 m c) (A1 m c) (A2 m c) (A3 m c) (A4 m c) (A5 m c) (A6 m c) (A7 m c) (A8 m c) (A9 m c) (A10 m c) (A11 m c) (ptB t) (tok (ptJ t) i) n := by
  unfold newU refU up
  rw [newX_eq]
  exact Finset.sum_congr rfl fun e _ => congrArg (_ * ·) (blk_7 m c t n e)

/-! ## The arrays after the run -/

theorem final_12 : (dats m 0 c).arrAt 12 cfg0.N = Cert.Reference4Ideal.Read.val_main_v172 (F := Ideal) (A0 m c) (A1 m c) (A2 m c) (A3 m c) (A4 m c) (A5 m c) := by
  refine (dats m 0 c).arrAt_eq_of_covers 12 _ covers_12 fun t _ y => ?_
  obtain ⟨f, i, rfl⟩ : ∃ (f : Fin 1024) (i : Fin 256), y = (ix3 0 f i : S1x1024x256.Idx) :=
    ⟨y 1, y 2, funext fun a => match a with
      | ⟨0, _⟩ => Fin.ext (by have : (y 0).val < 1 := (y 0).isLt; show (y 0).val = 0; omega)
      | ⟨1, _⟩ => rfl
      | ⟨2, _⟩ => rfl⟩
  refine (cast_eq _ _).trans ?_
  rw [after0_12, emb_12]
  rw [v172_apply]
  exact (out12_apply (cols m c t i) f i).trans (congrFun (newX_eq m c t i) f)
theorem final_13 : (dats m 0 c).arrAt 13 cfg0.N = Cert.Reference4Ideal.Read.val_main_v175 (F := Ideal) (A0 m c) (A1 m c) (A2 m c) (A3 m c) (A4 m c) (A5 m c) (A6 m c) (A7 m c) (A8 m c) (A9 m c) (A10 m c) (A11 m c) (A12 m c) := by
  refine (dats m 0 c).arrAt_eq_of_covers 13 _ covers_13 fun t _ y => ?_
  obtain ⟨f, i, rfl⟩ : ∃ (f : Fin 1024) (i : Fin 256), y = (ix4 0 0 f i : S1x1x1024x256.Idx) :=
    ⟨y 2, y 3, funext fun a => match a with
      | ⟨0, _⟩ => Fin.ext (by have : (y 0).val < 1 := (y 0).isLt; show (y 0).val = 0; omega)
      | ⟨1, _⟩ => Fin.ext (by have : (y 1).val < 1 := (y 1).isLt; show (y 1).val = 0; omega)
      | ⟨2, _⟩ => rfl
      | ⟨3, _⟩ => rfl⟩
  obtain ⟨h, d, rfl⟩ : ∃ (h : Fin 16) (d : Fin 64), f = ft h d :=
    ⟨⟨f.val / 64, by omega⟩, ⟨f.val % 64, by omega⟩, Fin.ext (by show f.val = 64 * (f.val / 64) + f.val % 64; omega)⟩
  refine (cast_eq _ _).trans ?_
  rw [after0_13, emb_13]
  rw [v175_apply]
  refine (out13_apply (cols m c t i) (cs := fun i f => Ideal.cos (ang (tok (ptJ t) i) f)) (ss := fun i f => Ideal.sin (ang (tok (ptJ t) i) f)) (blk_8 m c t) (blk_9 m c t) h d i).trans ?_
  simp only [newU_eq]
  rfl
theorem final_14 : (dats m 0 c).arrAt 14 cfg0.N = Cert.Reference4Ideal.Read.val_main_v171 (F := Ideal) (A0 m c) (A1 m c) (A2 m c) (A3 m c) (A4 m c) (A5 m c) (A6 m c) (A7 m c) (A8 m c) (A9 m c) (A10 m c) (A11 m c) (A13 m c) := by
  refine (dats m 0 c).arrAt_eq_of_covers 14 _ covers_14 fun t _ y => ?_
  obtain ⟨h, i, l, rfl⟩ : ∃ (h : Fin 16) (i : Fin 256) (l : Fin 128), y = (ix5 0 0 h i l : S1x1x16x256x128.Idx) :=
    ⟨y 2, y 3, y 4, funext fun a => match a with
      | ⟨0, _⟩ => Fin.ext (by have : (y 0).val < 1 := (y 0).isLt; show (y 0).val = 0; omega)
      | ⟨1, _⟩ => Fin.ext (by have : (y 1).val < 1 := (y 1).isLt; show (y 1).val = 0; omega)
      | ⟨2, _⟩ => rfl
      | ⟨3, _⟩ => rfl
      | ⟨4, _⟩ => rfl⟩
  refine (cast_eq _ _).trans ?_
  rw [after0_14, emb_14]
  rw [v171_apply]
  refine (out14_apply (cols m c t i) (cs := fun i f => Ideal.cos (ang (tok (ptJ t) i) f)) (ss := fun i f => Ideal.sin (ang (tok (ptJ t) i) f)) (blk_8 m c t) (blk_9 m c t) h l i).trans ?_
  simp only [newU_eq]
  rfl
theorem final_15 : (dats m 0 c).arrAt 15 cfg0.N = Cert.Reference4Ideal.Read.val_main_v178 (F := Ideal) (A0 m c) (A1 m c) (A2 m c) (A3 m c) (A4 m c) (A5 m c) (A6 m c) (A7 m c) (A8 m c) (A9 m c) (A10 m c) (A11 m c) := by
  refine (dats m 0 c).arrAt_eq_of_covers 15 _ covers_15 fun t _ y => ?_
  obtain ⟨f, i, rfl⟩ : ∃ (f : Fin 1024) (i : Fin 256), y = (ix4 0 0 f i : S1x1x1024x256.Idx) :=
    ⟨y 2, y 3, funext fun a => match a with
      | ⟨0, _⟩ => Fin.ext (by have : (y 0).val < 1 := (y 0).isLt; show (y 0).val = 0; omega)
      | ⟨1, _⟩ => Fin.ext (by have : (y 1).val < 1 := (y 1).isLt; show (y 1).val = 0; omega)
      | ⟨2, _⟩ => rfl
      | ⟨3, _⟩ => rfl⟩
  refine (cast_eq _ _).trans ?_
  rw [after0_15, emb_15]
  rw [v178_apply]
  exact (out15_apply (cols m c t i) f i).trans (newU_eq m c t i _)
theorem final_16 : (dats m 0 c).arrAt 16 cfg0.N = Cert.Reference4Ideal.Read.val_main_v181 (F := Ideal) (A0 m c) (A1 m c) (A2 m c) (A3 m c) (A4 m c) (A5 m c) (A6 m c) (A7 m c) (A8 m c) (A9 m c) (A10 m c) (A11 m c) := by
  refine (dats m 0 c).arrAt_eq_of_covers 16 _ covers_16 fun t _ y => ?_
  obtain ⟨f, i, rfl⟩ : ∃ (f : Fin 1024) (i : Fin 256), y = (ix3 0 f i : S1x1024x256.Idx) :=
    ⟨y 1, y 2, funext fun a => match a with
      | ⟨0, _⟩ => Fin.ext (by have : (y 0).val < 1 := (y 0).isLt; show (y 0).val = 0; omega)
      | ⟨1, _⟩ => rfl
      | ⟨2, _⟩ => rfl⟩
  refine (cast_eq _ _).trans ?_
  rw [after0_16, emb_16]
  rw [v181_apply]
  refine (out16_apply (cols m c t i) f i).trans ?_
  rw [newU_eq]
  rfl

/-! ## The claims -/

theorem frame_KernelIdeal : Cert.quiescent_Kernel4Ideal := fun m ρ _ => frame (F := Ideal) m ρ

/-- The frame of the text over values `F`. -/
def FrameAt (F : FTy → Type) [FloatOps F] : Prop :=
  ∀ (m : (ℓ : Loc Cert.Kernel4Ideal.nD Cert.Kernel4Ideal.τ Cert.Kernel4Ideal.sig) → Buf (Elt F) ℓ)
    (g : Dev Cert.Kernel4Ideal.nD → PrngReg), True →
    θ_run (Cert.Kernel4Ideal.defs (F := F)) (onTc (τ := Cert.Kernel4Ideal.τ) (Cert.Kernel4Ideal.main (F := F))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

theorem frameAt (F : FTy → Type) [FloatOps F] : FrameAt F := fun m ρ _ => frame (F := F) m ρ

/-- Both programs are the same text. -/
theorem frameAt_bits : FrameAt Bits = Cert.quiescent_Kernel4 := by chain_rfl

theorem frame_Kernel : Cert.quiescent_Kernel4 := frameAt_bits.mp (frameAt Bits)

theorem preserves : Cert.preserves_Kernel4_Kernel4Ideal := trivial

theorem frame_ReferenceIdeal : Cert.quiescent_Reference4Ideal := fun m ρ _ =>
  (θ_run _ _ _).mono (fun _ h => ⟨fun c => (h c).2.2.2.2.2, Idealize.ShloMosaic.sem_eq_zero_of_no_sems (by decide) _⟩) (Cert.Reference4Ideal.Value.run m ρ)

theorem algebraic : Cert.algebraic_Kernel4Ideal_Reference4Ideal := by
  intro m g m' g' _ hm
  refine ⟨fun c => Cert.Reference4Ideal.Read.val_main_v172 (F := Ideal) (A0 m c) (A1 m c) (A2 m c) (A3 m c) (A4 m c) (A5 m c),
    fun c => Cert.Reference4Ideal.Read.val_main_v175 (F := Ideal) (A0 m c) (A1 m c) (A2 m c) (A3 m c) (A4 m c) (A5 m c) (A6 m c) (A7 m c) (A8 m c) (A9 m c) (A10 m c) (A11 m c) (A12 m c),
    fun c => Cert.Reference4Ideal.Read.val_main_v171 (F := Ideal) (A0 m c) (A1 m c) (A2 m c) (A3 m c) (A4 m c) (A5 m c) (A6 m c) (A7 m c) (A8 m c) (A9 m c) (A10 m c) (A11 m c) (A13 m c),
    fun c => Cert.Reference4Ideal.Read.val_main_v178 (F := Ideal) (A0 m c) (A1 m c) (A2 m c) (A3 m c) (A4 m c) (A5 m c) (A6 m c) (A7 m c) (A8 m c) (A9 m c) (A10 m c) (A11 m c),
    fun c => Cert.Reference4Ideal.Read.val_main_v181 (F := Ideal) (A0 m c) (A1 m c) (A2 m c) (A3 m c) (A4 m c) (A5 m c) (A6 m c) (A7 m c) (A8 m c) (A9 m c) (A10 m c) (A11 m c), ?_, ?_⟩
  · exact (θ_run _ _ _).mono (fun r h c => ⟨(h c).1.trans (final_12 m c), (h c).2.1.trans (final_13 m c), (h c).2.2.1.trans (final_14 m c),
      (h c).2.2.2.1.trans (final_15 m c), (h c).2.2.2.2.1.trans (final_16 m c), (h c).2.2.2.2.2⟩) (Cert.Kernel4Ideal.Value.run_blocks m g)
  · refine (θ_run _ _ _).mono (fun r h c => ⟨((h c).1.trans (Cert.Reference4Ideal.Read.val_main_v172_eq _)).trans (?_ : Cert.Reference4Ideal.Read.val_main_v172 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) = _),
      ((h c).2.1.trans (Cert.Reference4Ideal.Read.val_main_v175_eq _)).trans (?_ : Cert.Reference4Ideal.Read.val_main_v175 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) = _),
      ((h c).2.2.1.trans (Cert.Reference4Ideal.Read.val_main_v171_eq _)).trans (?_ : Cert.Reference4Ideal.Read.val_main_v171 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg13)) = _),
      ((h c).2.2.2.1.trans (Cert.Reference4Ideal.Read.val_main_v178_eq _)).trans (?_ : Cert.Reference4Ideal.Read.val_main_v178 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) = _),
      ((h c).2.2.2.2.1.trans (Cert.Reference4Ideal.Read.val_main_v181_eq _)).trans (?_ : Cert.Reference4Ideal.Read.val_main_v181 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) = _), (h c).2.2.2.2.2⟩) (Cert.Reference4Ideal.Value.run m' g')
    all_goals
      obtain ⟨h0, h1, h2, h3, h4, h5, h6, h7, h8, h9, h10, h11, h12, h13⟩ := hm c
      simp only [h0, h1, h2, h3, h4, h5, h6, h7, h8, h9, h10, h11, h12, h13]

end Cert.Proof.Rope

end
-- ==== Proof.lean ====
/-
  The certificate's claims.
-/
module

public import proofs.«01_k».proof.Defs
public import proofs.«01_k».proof.Proof.Frames
public import proofs.«01_k».proof.Proof.Algebraic
public import proofs.«01_k».proof.Proof.Last
public import proofs.«01_k».proof.Proof.Proj
public import proofs.«01_k».proof.Proof.Rope
public import proofs.«01_k».proof.Proof.Gen.Kernel
public import proofs.«01_k».proof.Proof.Gen.Kernel2
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Gqa.preFacts,
    Gqa.frame_Kernel, Gqa.frame_KernelIdeal, Gqa.frame_KernelIdeal_pre, Gqa.frame_ReferenceIdeal, Gqa.frame_ReferenceIdeal_pre,
    Last.frame_Kernel, Last.frame_KernelIdeal, Last.frame_ReferenceIdeal,
    Proj.frame_Kernel, Proj.frame_KernelIdeal, Proj.frame_ReferenceIdeal,
    Rope.frame_Kernel, Rope.frame_KernelIdeal, Rope.frame_ReferenceIdeal,
    Gqa.preserves, Gqa.algebraic, Last.preserves, Last.algebraic, Proj.preserves, Proj.algebraic,
    Rope.preserves, Rope.algebraic⟩

end Cert.Proof

end
